-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_UnclippedIdeal (m : (ℓ : Loc Cert.UnclippedIdeal.nD Cert.UnclippedIdeal.τ Cert.UnclippedIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_UnclippedIdeal [hUnclippedIdeal : Cert.UnclippedIdeal.Facts] : Prop :=
  ∀ (m : (ℓ : Loc Cert.UnclippedIdeal.nD Cert.UnclippedIdeal.τ Cert.UnclippedIdeal.sig) → Buf (Elt Ideal) ℓ) (g : Dev Cert.UnclippedIdeal.nD → PrngReg), Pre_UnclippedIdeal m →
    θ_run (Cert.UnclippedIdeal.defs (F := Ideal)) (onTc (τ := Cert.UnclippedIdeal.τ) (Cert.UnclippedIdeal.main (F := Ideal))) ⟨m, fun _ => 0, g⟩ (fun r => (∀ c : Dev Cert.UnclippedIdeal.nD,
      r.2.mem ((c.tc : Thread Cert.UnclippedIdeal.nD Cert.UnclippedIdeal.τ).loc Cert.UnclippedIdeal.main_arg0) = m ((c.tc : Thread Cert.UnclippedIdeal.nD Cert.UnclippedIdeal.τ).loc Cert.UnclippedIdeal.main_arg0)
      ∧ r.2.mem ((c.tc : Thread Cert.UnclippedIdeal.nD Cert.UnclippedIdeal.τ).loc Cert.UnclippedIdeal.main_arg1) = m ((c.tc : Thread Cert.UnclippedIdeal.nD Cert.UnclippedIdeal.τ).loc Cert.UnclippedIdeal.main_arg1))
      ∧ r.2.sem = fun _ => 0)

def preserves_Kernel_KernelIdeal : Prop :=
  True

def algebraic_KernelIdeal_UnclippedIdeal [hKernelIdeal : Cert.KernelIdeal.Facts] [hUnclippedIdeal : Cert.UnclippedIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.UnclippedIdeal.nD Cert.UnclippedIdeal.τ Cert.UnclippedIdeal.sig) → Buf (Elt Ideal) ℓ) (g' : Dev Cert.UnclippedIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 64]⟩ ⟨2, ![1024, 1024]⟩ 1 16 c (m' (((0 : Dev Cert.UnclippedIdeal.nD).tc : Thread Cert.UnclippedIdeal.nD Cert.UnclippedIdeal.τ).loc Cert.UnclippedIdeal.main_arg0))
      ∧ m ((c.tc : Thread Cert.KernelIdeal.nD Cert.KernelIdeal.τ).loc Cert.KernelIdeal.main_arg1) = Layout.block ⟨2, ![64, 1024]⟩ ⟨2, ![1024, 1024]⟩ 0 16 c (m' (((0 : Dev Cert.UnclippedIdeal.nD).tc : Thread Cert.UnclippedIdeal.nD Cert.UnclippedIdeal.τ).loc Cert.UnclippedIdeal.main_arg1))) →
    ∃ (v0 : Buf (Elt Ideal) (((0 : Dev Cert.UnclippedIdeal.nD).tc : Thread Cert.UnclippedIdeal.nD Cert.UnclippedIdeal.τ).loc Cert.UnclippedIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![64, 1024]⟩ ⟨2, ![1024, 1024]⟩ 0 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.UnclippedIdeal.defs (F := Ideal)) (onTc (τ := Cert.UnclippedIdeal.τ) (Cert.UnclippedIdeal.main (F := Ideal))) ⟨m', fun _ => 0, g'⟩ (fun r =>
          r.2.mem (((0 : Dev Cert.UnclippedIdeal.nD).tc : Thread Cert.UnclippedIdeal.nD Cert.UnclippedIdeal.τ).loc Cert.UnclippedIdeal.main_v5) = v0
          ∧ r.2.mem (((0 : Dev Cert.UnclippedIdeal.nD).tc : Thread Cert.UnclippedIdeal.nD Cert.UnclippedIdeal.τ).loc Cert.UnclippedIdeal.main_arg0) = m' (((0 : Dev Cert.UnclippedIdeal.nD).tc : Thread Cert.UnclippedIdeal.nD Cert.UnclippedIdeal.τ).loc Cert.UnclippedIdeal.main_arg0)
          ∧ r.2.mem (((0 : Dev Cert.UnclippedIdeal.nD).tc : Thread Cert.UnclippedIdeal.nD Cert.UnclippedIdeal.τ).loc Cert.UnclippedIdeal.main_arg1) = m' (((0 : Dev Cert.UnclippedIdeal.nD).tc : Thread Cert.UnclippedIdeal.nD Cert.UnclippedIdeal.τ).loc Cert.UnclippedIdeal.main_arg1))

def algebraic_KernelIdeal_ReferenceIdeal_on_within [hKernelIdeal : Cert.KernelIdeal.Facts] [hReferenceIdeal : Cert.ReferenceIdeal.Facts] [hOn_within : Cert.On_within.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 64]⟩ ⟨2, ![1024, 1024]⟩ 1 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![64, 1024]⟩ ⟨2, ![1024, 1024]⟩ 0 16 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![64, 1024]⟩ : Shape).Idx, (Layout.block ⟨2, ![64, 1024]⟩ ⟨2, ![1024, 1024]⟩ 0 16 c ((Cert.On_within.fn (F := Ideal) (m' (((0 : Dev Cert.ReferenceIdeal.nD).tc : Thread Cert.ReferenceIdeal.nD Cert.ReferenceIdeal.τ).loc Cert.ReferenceIdeal.main_arg0)) (m' (((0 : Dev Cert.ReferenceIdeal.nD).tc : Thread Cert.ReferenceIdeal.nD Cert.ReferenceIdeal.τ).loc Cert.ReferenceIdeal.main_arg1)))) : (⟨2, ![64, 1024]⟩ : Shape).Idx → _) i = 1#1 → r.2.mem ((c.tc : Thread Cert.KernelIdeal.nD Cert.KernelIdeal.τ).loc Cert.KernelIdeal.main_v1) i = (Layout.block ⟨2, ![64, 1024]⟩ ⟨2, ![1024, 1024]⟩ 0 16 c v0 : (⟨2, ![64, 1024]⟩ : Shape).Idx → _) i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          (∀ i : (⟨2, ![1024, 1024]⟩ : Shape).Idx, (Cert.On_within.fn (F := Ideal) (m' (((0 : Dev Cert.ReferenceIdeal.nD).tc : Thread Cert.ReferenceIdeal.nD Cert.ReferenceIdeal.τ).loc Cert.ReferenceIdeal.main_arg0)) (m' (((0 : Dev Cert.ReferenceIdeal.nD).tc : Thread Cert.ReferenceIdeal.nD Cert.ReferenceIdeal.τ).loc Cert.ReferenceIdeal.main_arg1))) i = 1#1 → r.2.mem (((0 : Dev Cert.ReferenceIdeal.nD).tc : Thread Cert.ReferenceIdeal.nD Cert.ReferenceIdeal.τ).loc Cert.ReferenceIdeal.main_v6) i = v0 i)
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hUnclippedIdeal : Cert.UnclippedIdeal.Facts) (hOn_within : Cert.On_within.Facts),
    quiescent_Kernel (hKernel := hKernel)
    ∧ quiescent_KernelIdeal (hKernelIdeal := hKernelIdeal)
    ∧ quiescent_ReferenceIdeal (hReferenceIdeal := hReferenceIdeal)
    ∧ quiescent_UnclippedIdeal (hUnclippedIdeal := hUnclippedIdeal)
    ∧ preserves_Kernel_KernelIdeal
    ∧ algebraic_KernelIdeal_UnclippedIdeal (hKernelIdeal := hKernelIdeal) (hUnclippedIdeal := hUnclippedIdeal)
    ∧ algebraic_KernelIdeal_ReferenceIdeal_on_within (hKernelIdeal := hKernelIdeal) (hReferenceIdeal := hReferenceIdeal) (hOn_within := hOn_within)
-- ==== On_within.lean ====
abbrev S1024x1024 : Shape := ⟨2, ![1024, 1024]⟩
abbrev S_ : Shape := ⟨0, ![]⟩

class Facts : Prop where
  bcast_S_S1024x1024 : S_.BroadcastsInDim S1024x1024 (![] : Fin 0 → Fin S1024x1024.rank)
  dot_S1024x1024_S1024x1024_S1024x1024_1_0_0_1_n_n_wf : DotDims.WF S1024x1024 S1024x1024 S1024x1024 [1] [0] [0] [1] [] []

variable [Facts]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def fn {F : FTy → Type} [FloatOps F] (main_arg0 : FVec F S1024x1024 .f32) (main_arg1 : FVec F S1024x1024 .f32) : IVec S1024x1024 1 :=
  let main_v0 : FVec F S1024x1024 .f32 := (fun l r => Host.dotGeneral dot_S1024x1024_S1024x1024_S1024x1024_1_0_0_1_n_n none l r) main_arg0 main_arg1
  let main_cst : FVec F S_ .f32 := constant S_ .f32 0xC2700000#32
  let main_v1 : FVec F S1024x1024 .f32 := broadcastInDim S1024x1024 ![] bcast_S_S1024x1024 main_cst
  let main_v2 : IVec S1024x1024 1 := cmpf .oge main_v0 main_v1
  let main_cst_0 : FVec F S_ .f32 := constant S_ .f32 0x42700000#32
  let main_v3 : FVec F S1024x1024 .f32 := broadcastInDim S1024x1024 ![] bcast_S_S1024x1024 main_cst_0
  let main_v4 : IVec S1024x1024 1 := cmpf .ole main_v0 main_v3
  let main_v5 : IVec S1024x1024 1 := andi main_v2 main_v4
  main_v5
-- ==== Kernel.lean ====
abbrev S1024x64 : Shape := ⟨2, ![1024, 64]⟩
abbrev S64x1024 : Shape := ⟨2, ![64, 1024]⟩
abbrev S1024x1024 : Shape := ⟨2, ![1024, 1024]⟩
abbrev S2x4x64x256 : Shape := ⟨4, ![2, 4, 64, 256]⟩
abbrev S4x64x256 : Shape := ⟨3, ![4, 64, 256]⟩
abbrev S3x2x128x256 : Shape := ⟨4, ![3, 2, 128, 256]⟩
abbrev S3x64x512 : Shape := ⟨3, ![3, 64, 512]⟩
abbrev S2x4 : Shape := ⟨2, ![2, 4]⟩
abbrev S4 : Shape := ⟨1, ![4]⟩
abbrev S3x2 : Shape := ⟨2, ![3, 2]⟩
abbrev S3 : Shape := ⟨1, ![3]⟩
abbrev S_ : Shape := ⟨0, ![]⟩
abbrev S1x1 : Shape := ⟨2, ![1, 1]⟩
abbrev S1x1x64x256 : Shape := ⟨4, ![1, 1, 64, 256]⟩
abbrev S64x256 : Shape := ⟨2, ![64, 256]⟩
abbrev S1x1x128x256 : Shape := ⟨4, ![1, 1, 128, 256]⟩
abbrev S128x256 : Shape := ⟨2, ![128, 256]⟩
abbrev S1x64x256 : Shape := ⟨3, ![1, 64, 256]⟩
abbrev S1 : Shape := ⟨1, ![1]⟩
abbrev S1x64x512 : Shape := ⟨3, ![1, 64, 512]⟩
abbrev S64x512 : Shape := ⟨2, ![64, 512]⟩

abbrev nBuf : Space → Nat
  | .hbm => 3
  | .vmem => 20
  | .smem => 0
  | _ => 0

abbrev bufTy : (tb : Table) → Fin (tcTables nBuf tb) → BufTy
  | .hbm, ⟨0, _⟩ => ⟨S1024x64, .f32⟩
  | .hbm, ⟨1, _⟩ => ⟨S64x1024, .f32⟩
  | .hbm, ⟨2, _⟩ => ⟨S64x1024, .f32⟩
  | .local _ .vmem, ⟨0, _⟩ => ⟨S1024x64, .f32⟩
  | .local _ .vmem, ⟨1, _⟩ => ⟨S64x1024, .f32⟩
  | .local _ .vmem, ⟨2, _⟩ => ⟨S64x1024, .f32⟩
  | .local _ .vmem, ⟨3, _⟩ => ⟨S1024x1024, .f32⟩
  | .local _ .vmem, ⟨4, _⟩ => ⟨S2x4x64x256, .f32⟩
  | .local _ .vmem, ⟨5, _⟩ => ⟨S2x4x64x256, .f32⟩
  | .local _ .vmem, ⟨6, _⟩ => ⟨S4x64x256, .f32⟩
  | .local _ .vmem, ⟨7, _⟩ => ⟨S4x64x256, .f32⟩
  | .local _ .vmem, ⟨8, _⟩ => ⟨S2x4x64x256, .f32⟩
  | .local _ .vmem, ⟨9, _⟩ => ⟨S2x4x64x256, .f32⟩
  | .local _ .vmem, ⟨10, _⟩ => ⟨S4x64x256, .f32⟩
  | .local _ .vmem, ⟨11, _⟩ => ⟨S4x64x256, .f32⟩
  | .local _ .vmem, ⟨12, _⟩ => ⟨S3x2x128x256, .f32⟩
  | .local _ .vmem, ⟨13, _⟩ => ⟨S3x2x128x256, .f32⟩
  | .local _ .vmem, ⟨14, _⟩ => ⟨S3x2x128x256, .f32⟩
  | .local _ .vmem, ⟨15, _⟩ => ⟨S3x2x128x256, .f32⟩
  | .local _ .vmem, ⟨16, _⟩ => ⟨S3x64x512, .f32⟩
  | .local _ .vmem, ⟨17, _⟩ => ⟨S3x64x512, .f32⟩
  | .local _ .vmem, ⟨18, _⟩ => ⟨S3x64x512, .f32⟩
  | .local _ .vmem, ⟨19, _⟩ => ⟨S3x64x512, .f32⟩
  | _, _ => ⟨S1024x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 1 → Bool
  | ⟨0, _⟩ => false
  | _ => false

abbrev dmaSemScoped : Fin 87 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | _ => false

abbrev sig : RefSig :=
  (ofTc nBuf bufTy 1 87 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_scratch5 : Ref sig .tc := ⟨.vmem, 8, rfl⟩
abbrev cc0_scratch6 : Ref sig .tc := ⟨.vmem, 9, rfl⟩
abbrev cc0_scratch7 : Ref sig .tc := ⟨.vmem, 10, rfl⟩
abbrev cc0_scratch8 : Ref sig .tc := ⟨.vmem, 11, rfl⟩
abbrev cc0_scratch9 : Ref sig .tc := ⟨.vmem, 12, rfl⟩
abbrev cc0_scratch10 : Ref sig .tc := ⟨.vmem, 13, rfl⟩
abbrev cc0_scratch11 : Ref sig .tc := ⟨.vmem, 14, rfl⟩
abbrev cc0_scratch12 : Ref sig .tc := ⟨.vmem, 15, rfl⟩
abbrev cc0_scratch13 : Ref sig .tc := ⟨.vmem, 16, rfl⟩
abbrev cc0_scratch14 : Ref sig .tc := ⟨.vmem, 17, rfl⟩
abbrev cc0_scratch15 : Ref sig .tc := ⟨.vmem, 18, rfl⟩
abbrev cc0_scratch16 : Ref sig .tc := ⟨.vmem, 19, rfl⟩
abbrev cc0_sem0_0 : DmaSem sig := 0
abbrev cc0_sem1_0 : DmaSem sig := 1
abbrev cc0_sem2_0 : DmaSem sig := 2
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_69 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_23 : BitVec 32 := 4#32
  let v49 : BitVec 32 := Scalar.muli v19 c4_i32_23
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_13 : BitVec 32 := 1#32
  let v34 : BitVec 32 := Scalar.addi v29 c1_i32_13
  let c2_i32_20 : BitVec 32 := 2#32
  let c2_i32_14 : BitVec 32 := 2#32
  let c0_i32_15 : BitVec 32 := 0#32
  let v35 : BitVec 1 := Scalar.cmpi .eq c2_i32_14 c0_i32_15
  let c1_i32_16 : BitVec 32 := 1#32
  let v36 : BitVec 32 := Scalar.select v35 c1_i32_16 c2_i32_14
  let v37 : BitVec 32 := Scalar.remsi v29 v36
  let c0_i32_18 : BitVec 32 := 0#32
  let v39 : BitVec 1 := Scalar.cmpi .slt v37 c0_i32_18
  let c0_i32_19 : BitVec 32 := 0#32
  let v40 : BitVec 1 := Scalar.cmpi .slt v36 c0_i32_19
  let v41 : BitVec 1 := Scalar.xori v39 v40
  let c0_i32_17 : BitVec 32 := 0#32
  let v38 : BitVec 1 := Scalar.cmpi .ne v37 c0_i32_17
  let v42 : BitVec 1 := Scalar.andi v41 v38
  let v43 : BitVec 32 := Scalar.addi v37 v36
  let v44 : BitVec 32 := Scalar.select v42 v43 v37
  let v45 : BitVec 32 := Scalar.muli c2_i32_20 v44
  let v46 : BitVec 32 := Scalar.subi v34 v45
  let v50 : BitVec 32 := Scalar.addi v49 v46
  let c1_i32_68 : BitVec 32 := 1#32
  let v115 : BitVec 32 := Scalar.muli v50 c1_i32_68
  let v116 : BitVec 32 := Scalar.addi c0_i32_69 v115
  v116.toNat
def k0_dev2 (d0 : Dev nD) : Nat :=
  let c0_i32_72 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_24 : BitVec 32 := 4#32
  let v51 : BitVec 32 := Scalar.muli v19 c4_i32_24
  let c3_i32_21 : BitVec 32 := 3#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v47 : BitVec 32 := Scalar.subi c3_i32_21 v29
  let v52 : BitVec 32 := Scalar.addi v51 v47
  let c1_i32_71 : BitVec 32 := 1#32
  let v117 : BitVec 32 := Scalar.muli v52 c1_i32_71
  let v118 : BitVec 32 := Scalar.addi c0_i32_72 v117
  v118.toNat
def k0_dev3 (d0 : Dev nD) : Nat :=
  let c0_i32_75 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_25 : BitVec 32 := 4#32
  let v53 : BitVec 32 := Scalar.muli v19 c4_i32_25
  let c3_i32_22 : BitVec 32 := 3#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_13 : BitVec 32 := 1#32
  let v34 : BitVec 32 := Scalar.addi v29 c1_i32_13
  let c2_i32_20 : BitVec 32 := 2#32
  let c2_i32_14 : BitVec 32 := 2#32
  let c0_i32_15 : BitVec 32 := 0#32
  let v35 : BitVec 1 := Scalar.cmpi .eq c2_i32_14 c0_i32_15
  let c1_i32_16 : BitVec 32 := 1#32
  let v36 : BitVec 32 := Scalar.select v35 c1_i32_16 c2_i32_14
  let v37 : BitVec 32 := Scalar.remsi v29 v36
  let c0_i32_18 : BitVec 32 := 0#32
  let v39 : BitVec 1 := Scalar.cmpi .slt v37 c0_i32_18
  let c0_i32_19 : BitVec 32 := 0#32
  let v40 : BitVec 1 := Scalar.cmpi .slt v36 c0_i32_19
  let v41 : BitVec 1 := Scalar.xori v39 v40
  let c0_i32_17 : BitVec 32 := 0#32
  let v38 : BitVec 1 := Scalar.cmpi .ne v37 c0_i32_17
  let v42 : BitVec 1 := Scalar.andi v41 v38
  let v43 : BitVec 32 := Scalar.addi v37 v36
  let v44 : BitVec 32 := Scalar.select v42 v43 v37
  let v45 : BitVec 32 := Scalar.muli c2_i32_20 v44
  let v46 : BitVec 32 := Scalar.subi v34 v45
  let v48 : BitVec 32 := Scalar.subi c3_i32_22 v46
  let v54 : BitVec 32 := Scalar.addi v53 v48
  let c1_i32_74 : BitVec 32 := 1#32
  let v119 : BitVec 32 := Scalar.muli v54 c1_i32_74
  let v120 : BitVec 32 := Scalar.addi c0_i32_75 v119
  v120.toNat
def k0_dev4 (d0 : Dev nD) : Nat :=
  let c0_i32_78 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32 : BitVec 32 := 2#32
  let v30 : BitVec 1 := Scalar.cmpi .eq v19 c2_i32
  let c3_i32_12 : BitVec 32 := 3#32
  let c3_i32 : BitVec 32 := 3#32
  let v31 : BitVec 1 := Scalar.cmpi .eq v19 c3_i32
  let c2_i32_11 : BitVec 32 := 2#32
  let v32 : BitVec 32 := Scalar.select v31 c2_i32_11 v19
  let v33 : BitVec 32 := Scalar.select v30 c3_i32_12 v32
  let c1_i32_26 : BitVec 32 := 1#32
  let v55 : BitVec 32 := Scalar.addi v33 c1_i32_26
  let c4_i32_27 : BitVec 32 := 4#32
  let c0_i32_28 : BitVec 32 := 0#32
  let v56 : BitVec 1 := Scalar.cmpi .eq c4_i32_27 c0_i32_28
  let c1_i32_29 : BitVec 32 := 1#32
  let v57 : BitVec 32 := Scalar.select v56 c1_i32_29 c4_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  let c2_i32_33 : BitVec 32 := 2#32
  let v66 : BitVec 1 := Scalar.cmpi .eq v65 c2_i32_33
  let c3_i32_36 : BitVec 32 := 3#32
  let c3_i32_34 : BitVec 32 := 3#32
  let v67 : BitVec 1 := Scalar.cmpi .eq v65 c3_i32_34
  let c2_i32_35 : BitVec 32 := 2#32
  let v68 : BitVec 32 := Scalar.select v67 c2_i32_35 v65
  let v69 : BitVec 32 := Scalar.select v66 c3_i32_36 v68
  let c4_i32_37 : BitVec 32 := 4#32
  let v70 : BitVec 32 := Scalar.muli v69 c4_i32_37
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v71 : BitVec 32 := Scalar.addi v70 v29
  let c1_i32_77 : BitVec 32 := 1#32
  let v121 : BitVec 32 := Scalar.muli v71 c1_i32_77
  let v122 : BitVec 32 := Scalar.addi c0_i32_78 v121
  v122.toNat
def k0_dev5 (d0 : Dev nD) : Nat :=
  let c0_i32_81 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32 : BitVec 32 := 2#32
  let v30 : BitVec 1 := Scalar.cmpi .eq v19 c2_i32
  let c3_i32_12 : BitVec 32 := 3#32
  let c3_i32 : BitVec 32 := 3#32
  let v31 : BitVec 1 := Scalar.cmpi .eq v19 c3_i32
  let c2_i32_11 : BitVec 32 := 2#32
  let v32 : BitVec 32 := Scalar.select v31 c2_i32_11 v19
  let v33 : BitVec 32 := Scalar.select v30 c3_i32_12 v32
  let c1_i32_38 : BitVec 32 := 1#32
  let v72 : BitVec 32 := Scalar.subi v33 c1_i32_38
  let c4_i32_39 : BitVec 32 := 4#32
  let c0_i32_40 : BitVec 32 := 0#32
  let v73 : BitVec 1 := Scalar.cmpi .eq c4_i32_39 c0_i32_40
  let c1_i32_41 : BitVec 32 := 1#32
  let v74 : BitVec 32 := Scalar.select v73 c1_i32_41 c4_i32_39
  let v75 : BitVec 32 := Scalar.remsi v72 v74
  let c0_i32_43 : BitVec 32 := 0#32
  let v77 : BitVec 1 := Scalar.cmpi .slt v75 c0_i32_43
  let c0_i32_44 : BitVec 32 := 0#32
  let v78 : BitVec 1 := Scalar.cmpi .slt v74 c0_i32_44
  let v79 : BitVec 1 := Scalar.xori v77 v78
  let c0_i32_42 : BitVec 32 := 0#32
  let v76 : BitVec 1 := Scalar.cmpi .ne v75 c0_i32_42
  let v80 : BitVec 1 := Scalar.andi v79 v76
  let v81 : BitVec 32 := Scalar.addi v75 v74
  let v82 : BitVec 32 := Scalar.select v80 v81 v75
  let c2_i32_45 : BitVec 32 := 2#32
  let v83 : BitVec 1 := Scalar.cmpi .eq v82 c2_i32_45
  let c3_i32_48 : BitVec 32 := 3#32
  let c3_i32_46 : BitVec 32 := 3#32
  let v84 : BitVec 1 := Scalar.cmpi .eq v82 c3_i32_46
  let c2_i32_47 : BitVec 32 := 2#32
  let v85 : BitVec 32 := Scalar.select v84 c2_i32_47 v82
  let v86 : BitVec 32 := Scalar.select v83 c3_i32_48 v85
  let c4_i32_49 : BitVec 32 := 4#32
  let v87 : BitVec 32 := Scalar.muli v86 c4_i32_49
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v88 : BitVec 32 := Scalar.addi v87 v29
  let c1_i32_80 : BitVec 32 := 1#32
  let v123 : BitVec 32 := Scalar.muli v88 c1_i32_80
  let v124 : BitVec 32 := Scalar.addi c0_i32_81 v123
  v124.toNat
def k0_dev6 (d0 : Dev nD) : Nat :=
  let c0_i32_84 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32 : BitVec 32 := 2#32
  let v30 : BitVec 1 := Scalar.cmpi .eq v19 c2_i32
  let c3_i32_12 : BitVec 32 := 3#32
  let c3_i32 : BitVec 32 := 3#32
  let v31 : BitVec 1 := Scalar.cmpi .eq v19 c3_i32
  let c2_i32_11 : BitVec 32 := 2#32
  let v32 : BitVec 32 := Scalar.select v31 c2_i32_11 v19
  let v33 : BitVec 32 := Scalar.select v30 c3_i32_12 v32
  let c2_i32_50 : BitVec 32 := 2#32
  let v89 : BitVec 32 := Scalar.addi v33 c2_i32_50
  let c4_i32_51 : BitVec 32 := 4#32
  let c0_i32_52 : BitVec 32 := 0#32
  let v90 : BitVec 1 := Scalar.cmpi .eq c4_i32_51 c0_i32_52
  let c1_i32_53 : BitVec 32 := 1#32
  let v91 : BitVec 32 := Scalar.select v90 c1_i32_53 c4_i32_51
  let v92 : BitVec 32 := Scalar.remsi v89 v91
  let c0_i32_55 : BitVec 32 := 0#32
  let v94 : BitVec 1 := Scalar.cmpi .slt v92 c0_i32_55
  let c0_i32_56 : BitVec 32 := 0#32
  let v95 : BitVec 1 := Scalar.cmpi .slt v91 c0_i32_56
  let v96 : BitVec 1 := Scalar.xori v94 v95
  let c0_i32_54 : BitVec 32 := 0#32
  let v93 : BitVec 1 := Scalar.cmpi .ne v92 c0_i32_54
  let v97 : BitVec 1 := Scalar.andi v96 v93
  let v98 : BitVec 32 := Scalar.addi v92 v91
  let v99 : BitVec 32 := Scalar.select v97 v98 v92
  let c2_i32_57 : BitVec 32 := 2#32
  let v100 : BitVec 1 := Scalar.cmpi .eq v99 c2_i32_57
  let c3_i32_60 : BitVec 32 := 3#32
  let c3_i32_58 : BitVec 32 := 3#32
  let v101 : BitVec 1 := Scalar.cmpi .eq v99 c3_i32_58
  let c2_i32_59 : BitVec 32 := 2#32
  let v102 : BitVec 32 := Scalar.select v101 c2_i32_59 v99
  let v103 : BitVec 32 := Scalar.select v100 c3_i32_60 v102
  let c4_i32_61 : BitVec 32 := 4#32
  let v104 : BitVec 32 := Scalar.muli v103 c4_i32_61
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v105 : BitVec 32 := Scalar.addi v104 v29
  let c1_i32_83 : BitVec 32 := 1#32
  let v125 : BitVec 32 := Scalar.muli v105 c1_i32_83
  let v126 : BitVec 32 := Scalar.addi c0_i32_84 v125
  v126.toNat
def k0_off1 (d0 : Dev nD) (c0_i32_86 : BitVec 32) : Fin 2 → Nat :=
  let c0_i32_98 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_85 : BitVec 32 := 1#32
  let v127 : BitVec 32 := Scalar.addi v19 c1_i32_85
  let v128 : BitVec 32 := Scalar.addi v127 c0_i32_86
  let c4_i32_87 : BitVec 32 := 4#32
  let c0_i32_88 : BitVec 32 := 0#32
  let v129 : BitVec 1 := Scalar.cmpi .eq c4_i32_87 c0_i32_88
  let c1_i32_89 : BitVec 32 := 1#32
  let v130 : BitVec 32 := Scalar.select v129 c1_i32_89 c4_i32_87
  let v131 : BitVec 32 := Scalar.remsi v128 v130
  let c0_i32_91 : BitVec 32 := 0#32
  let v133 : BitVec 1 := Scalar.cmpi .slt v131 c0_i32_91
  let c0_i32_92 : BitVec 32 := 0#32
  let v134 : BitVec 1 := Scalar.cmpi .slt v130 c0_i32_92
  let v135 : BitVec 1 := Scalar.xori v133 v134
  let c0_i32_90 : BitVec 32 := 0#32
  let v132 : BitVec 1 := Scalar.cmpi .ne v131 c0_i32_90
  let v136 : BitVec 1 := Scalar.andi v135 v132
  let v137 : BitVec 32 := Scalar.addi v131 v130
  let v138 : BitVec 32 := Scalar.select v136 v137 v131
  ![0, v138.toNat]
def k0_off2 (d0 : Dev nD) (c0_i32_86 : BitVec 32) : Fin 4 → Nat :=
  let c0_i32_96 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_85 : BitVec 32 := 1#32
  let v127 : BitVec 32 := Scalar.addi v19 c1_i32_85
  let v128 : BitVec 32 := Scalar.addi v127 c0_i32_86
  let c4_i32_87 : BitVec 32 := 4#32
  let c0_i32_88 : BitVec 32 := 0#32
  let v129 : BitVec 1 := Scalar.cmpi .eq c4_i32_87 c0_i32_88
  let c1_i32_89 : BitVec 32 := 1#32
  let v130 : BitVec 32 := Scalar.select v129 c1_i32_89 c4_i32_87
  let v131 : BitVec 32 := Scalar.remsi v128 v130
  let c0_i32_91 : BitVec 32 := 0#32
  let v133 : BitVec 1 := Scalar.cmpi .slt v131 c0_i32_91
  let c0_i32_92 : BitVec 32 := 0#32
  let v134 : BitVec 1 := Scalar.cmpi .slt v130 c0_i32_92
  let v135 : BitVec 1 := Scalar.xori v133 v134
  let c0_i32_90 : BitVec 32 := 0#32
  let v132 : BitVec 1 := Scalar.cmpi .ne v131 c0_i32_90
  let v136 : BitVec 1 := Scalar.andi v135 v132
  let v137 : BitVec 32 := Scalar.addi v131 v130
  let v138 : BitVec 32 := Scalar.select v136 v137 v131
  let c0_i32_101 : BitVec 32 := 0#32
  let c0_i32_102 : BitVec 32 := 0#32
  ![0, v138.toNat, 0, 0]
def k0_off3 (d0 : Dev nD) (c0_i32_86 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_85 : BitVec 32 := 1#32
  let v127 : BitVec 32 := Scalar.addi v19 c1_i32_85
  let v128 : BitVec 32 := Scalar.addi v127 c0_i32_86
  let c4_i32_87 : BitVec 32 := 4#32
  let c0_i32_88 : BitVec 32 := 0#32
  let v129 : BitVec 1 := Scalar.cmpi .eq c4_i32_87 c0_i32_88
  let c1_i32_89 : BitVec 32 := 1#32
  let v130 : BitVec 32 := Scalar.select v129 c1_i32_89 c4_i32_87
  let v131 : BitVec 32 := Scalar.remsi v128 v130
  let c0_i32_91 : BitVec 32 := 0#32
  let v133 : BitVec 1 := Scalar.cmpi .slt v131 c0_i32_91
  let c0_i32_92 : BitVec 32 := 0#32
  let v134 : BitVec 1 := Scalar.cmpi .slt v130 c0_i32_92
  let v135 : BitVec 1 := Scalar.xori v133 v134
  let c0_i32_90 : BitVec 32 := 0#32
  let v132 : BitVec 1 := Scalar.cmpi .ne v131 c0_i32_90
  let v136 : BitVec 1 := Scalar.andi v135 v132
  let v137 : BitVec 32 := Scalar.addi v131 v130
  let v138 : BitVec 32 := Scalar.select v136 v137 v131
  let c4_i32_93 : BitVec 32 := 4#32
  let v139 : BitVec 32 := Scalar.muli v138 c4_i32_93
  let c3_i32_22 : BitVec 32 := 3#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_13 : BitVec 32 := 1#32
  let v34 : BitVec 32 := Scalar.addi v29 c1_i32_13
  let c2_i32_20 : BitVec 32 := 2#32
  let c2_i32_14 : BitVec 32 := 2#32
  let c0_i32_15 : BitVec 32 := 0#32
  let v35 : BitVec 1 := Scalar.cmpi .eq c2_i32_14 c0_i32_15
  let c1_i32_16 : BitVec 32 := 1#32
  let v36 : BitVec 32 := Scalar.select v35 c1_i32_16 c2_i32_14
  let v37 : BitVec 32 := Scalar.remsi v29 v36
  let c0_i32_18 : BitVec 32 := 0#32
  let v39 : BitVec 1 := Scalar.cmpi .slt v37 c0_i32_18
  let c0_i32_19 : BitVec 32 := 0#32
  let v40 : BitVec 1 := Scalar.cmpi .slt v36 c0_i32_19
  let v41 : BitVec 1 := Scalar.xori v39 v40
  let c0_i32_17 : BitVec 32 := 0#32
  let v38 : BitVec 1 := Scalar.cmpi .ne v37 c0_i32_17
  let v42 : BitVec 1 := Scalar.andi v41 v38
  let v43 : BitVec 32 := Scalar.addi v37 v36
  let v44 : BitVec 32 := Scalar.select v42 v43 v37
  let v45 : BitVec 32 := Scalar.muli c2_i32_20 v44
  let v46 : BitVec 32 := Scalar.subi v34 v45
  let v48 : BitVec 32 := Scalar.subi c3_i32_22 v46
  let v140 : BitVec 32 := Scalar.addi v139 v48
  let c64_i32 : BitVec 32 := 64#32
  let v141 : BitVec 32 := Scalar.muli v140 c64_i32
  let c0_i32_103 : BitVec 32 := 0#32
  ![v141.toNat, 0]
def k0_dev7 (d0 : Dev nD) : Nat :=
  let c0_i32_100 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_23 : BitVec 32 := 4#32
  let v49 : BitVec 32 := Scalar.muli v19 c4_i32_23
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_13 : BitVec 32 := 1#32
  let v34 : BitVec 32 := Scalar.addi v29 c1_i32_13
  let c2_i32_20 : BitVec 32 := 2#32
  let c2_i32_14 : BitVec 32 := 2#32
  let c0_i32_15 : BitVec 32 := 0#32
  let v35 : BitVec 1 := Scalar.cmpi .eq c2_i32_14 c0_i32_15
  let c1_i32_16 : BitVec 32 := 1#32
  let v36 : BitVec 32 := Scalar.select v35 c1_i32_16 c2_i32_14
  let v37 : BitVec 32 := Scalar.remsi v29 v36
  let c0_i32_18 : BitVec 32 := 0#32
  let v39 : BitVec 1 := Scalar.cmpi .slt v37 c0_i32_18
  let c0_i32_19 : BitVec 32 := 0#32
  let v40 : BitVec 1 := Scalar.cmpi .slt v36 c0_i32_19
  let v41 : BitVec 1 := Scalar.xori v39 v40
  let c0_i32_17 : BitVec 32 := 0#32
  let v38 : BitVec 1 := Scalar.cmpi .ne v37 c0_i32_17
  let v42 : BitVec 1 := Scalar.andi v41 v38
  let v43 : BitVec 32 := Scalar.addi v37 v36
  let v44 : BitVec 32 := Scalar.select v42 v43 v37
  let v45 : BitVec 32 := Scalar.muli c2_i32_20 v44
  let v46 : BitVec 32 := Scalar.subi v34 v45
  let v50 : BitVec 32 := Scalar.addi v49 v46
  let c1_i32_99 : BitVec 32 := 1#32
  let v145 : BitVec 32 := Scalar.muli v50 c1_i32_99
  let v146 : BitVec 32 := Scalar.addi c0_i32_100 v145
  v146.toNat
def k0_off4 (d0 : Dev nD) (c0_i32_86 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_85 : BitVec 32 := 1#32
  let v127 : BitVec 32 := Scalar.addi v19 c1_i32_85
  let v128 : BitVec 32 := Scalar.addi v127 c0_i32_86
  let c4_i32_87 : BitVec 32 := 4#32
  let c0_i32_88 : BitVec 32 := 0#32
  let v129 : BitVec 1 := Scalar.cmpi .eq c4_i32_87 c0_i32_88
  let c1_i32_89 : BitVec 32 := 1#32
  let v130 : BitVec 32 := Scalar.select v129 c1_i32_89 c4_i32_87
  let v131 : BitVec 32 := Scalar.remsi v128 v130
  let c0_i32_91 : BitVec 32 := 0#32
  let v133 : BitVec 1 := Scalar.cmpi .slt v131 c0_i32_91
  let c0_i32_92 : BitVec 32 := 0#32
  let v134 : BitVec 1 := Scalar.cmpi .slt v130 c0_i32_92
  let v135 : BitVec 1 := Scalar.xori v133 v134
  let c0_i32_90 : BitVec 32 := 0#32
  let v132 : BitVec 1 := Scalar.cmpi .ne v131 c0_i32_90
  let v136 : BitVec 1 := Scalar.andi v135 v132
  let v137 : BitVec 32 := Scalar.addi v131 v130
  let v138 : BitVec 32 := Scalar.select v136 v137 v131
  let c4_i32_94 : BitVec 32 := 4#32
  let v142 : BitVec 32 := Scalar.muli v138 c4_i32_94
  let c3_i32_22 : BitVec 32 := 3#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_13 : BitVec 32 := 1#32
  let v34 : BitVec 32 := Scalar.addi v29 c1_i32_13
  let c2_i32_20 : BitVec 32 := 2#32
  let c2_i32_14 : BitVec 32 := 2#32
  let c0_i32_15 : BitVec 32 := 0#32
  let v35 : BitVec 1 := Scalar.cmpi .eq c2_i32_14 c0_i32_15
  let c1_i32_16 : BitVec 32 := 1#32
  let v36 : BitVec 32 := Scalar.select v35 c1_i32_16 c2_i32_14
  let v37 : BitVec 32 := Scalar.remsi v29 v36
  let c0_i32_18 : BitVec 32 := 0#32
  let v39 : BitVec 1 := Scalar.cmpi .slt v37 c0_i32_18
  let c0_i32_19 : BitVec 32 := 0#32
  let v40 : BitVec 1 := Scalar.cmpi .slt v36 c0_i32_19
  let v41 : BitVec 1 := Scalar.xori v39 v40
  let c0_i32_17 : BitVec 32 := 0#32
  let v38 : BitVec 1 := Scalar.cmpi .ne v37 c0_i32_17
  let v42 : BitVec 1 := Scalar.andi v41 v38
  let v43 : BitVec 32 := Scalar.addi v37 v36
  let v44 : BitVec 32 := Scalar.select v42 v43 v37
  let v45 : BitVec 32 := Scalar.muli c2_i32_20 v44
  let v46 : BitVec 32 := Scalar.subi v34 v45
  let v48 : BitVec 32 := Scalar.subi c3_i32_22 v46
  let v143 : BitVec 32 := Scalar.addi v142 v48
  let c64_i32_95 : BitVec 32 := 64#32
  let v144 : BitVec 32 := Scalar.muli v143 c64_i32_95
  let c256_i32 : BitVec 32 := 256#32
  ![v144.toNat, 256]
def k0_dev8 (d0 : Dev nD) : Nat :=
  let c0_i32_108 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_24 : BitVec 32 := 4#32
  let v51 : BitVec 32 := Scalar.muli v19 c4_i32_24
  let c3_i32_21 : BitVec 32 := 3#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v47 : BitVec 32 := Scalar.subi c3_i32_21 v29
  let v52 : BitVec 32 := Scalar.addi v51 v47
  let c1_i32_107 : BitVec 32 := 1#32
  let v154 : BitVec 32 := Scalar.muli v52 c1_i32_107
  let v155 : BitVec 32 := Scalar.addi c0_i32_108 v154
  v155.toNat
def k0_dev9 (d0 : Dev nD) : Nat :=
  let c0_i32_127 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_23 : BitVec 32 := 4#32
  let v49 : BitVec 32 := Scalar.muli v19 c4_i32_23
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_13 : BitVec 32 := 1#32
  let v34 : BitVec 32 := Scalar.addi v29 c1_i32_13
  let c2_i32_20 : BitVec 32 := 2#32
  let c2_i32_14 : BitVec 32 := 2#32
  let c0_i32_15 : BitVec 32 := 0#32
  let v35 : BitVec 1 := Scalar.cmpi .eq c2_i32_14 c0_i32_15
  let c1_i32_16 : BitVec 32 := 1#32
  let v36 : BitVec 32 := Scalar.select v35 c1_i32_16 c2_i32_14
  let v37 : BitVec 32 := Scalar.remsi v29 v36
  let c0_i32_18 : BitVec 32 := 0#32
  let v39 : BitVec 1 := Scalar.cmpi .slt v37 c0_i32_18
  let c0_i32_19 : BitVec 32 := 0#32
  let v40 : BitVec 1 := Scalar.cmpi .slt v36 c0_i32_19
  let v41 : BitVec 1 := Scalar.xori v39 v40
  let c0_i32_17 : BitVec 32 := 0#32
  let v38 : BitVec 1 := Scalar.cmpi .ne v37 c0_i32_17
  let v42 : BitVec 1 := Scalar.andi v41 v38
  let v43 : BitVec 32 := Scalar.addi v37 v36
  let v44 : BitVec 32 := Scalar.select v42 v43 v37
  let v45 : BitVec 32 := Scalar.muli c2_i32_20 v44
  let v46 : BitVec 32 := Scalar.subi v34 v45
  let v50 : BitVec 32 := Scalar.addi v49 v46
  let c1_i32_126 : BitVec 32 := 1#32
  let v181 : BitVec 32 := Scalar.muli v50 c1_i32_126
  let v182 : BitVec 32 := Scalar.addi c0_i32_127 v181
  v182.toNat
def k0_dev10 (d0 : Dev nD) : Nat :=
  let c0_i32_135 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_24 : BitVec 32 := 4#32
  let v51 : BitVec 32 := Scalar.muli v19 c4_i32_24
  let c3_i32_21 : BitVec 32 := 3#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v47 : BitVec 32 := Scalar.subi c3_i32_21 v29
  let v52 : BitVec 32 := Scalar.addi v51 v47
  let c1_i32_134 : BitVec 32 := 1#32
  let v190 : BitVec 32 := Scalar.muli v52 c1_i32_134
  let v191 : BitVec 32 := Scalar.addi c0_i32_135 v190
  v191.toNat
def k0_dev11 (d0 : Dev nD) : Nat :=
  let c0_i32_155 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_23 : BitVec 32 := 4#32
  let v49 : BitVec 32 := Scalar.muli v19 c4_i32_23
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_13 : BitVec 32 := 1#32
  let v34 : BitVec 32 := Scalar.addi v29 c1_i32_13
  let c2_i32_20 : BitVec 32 := 2#32
  let c2_i32_14 : BitVec 32 := 2#32
  let c0_i32_15 : BitVec 32 := 0#32
  let v35 : BitVec 1 := Scalar.cmpi .eq c2_i32_14 c0_i32_15
  let c1_i32_16 : BitVec 32 := 1#32
  let v36 : BitVec 32 := Scalar.select v35 c1_i32_16 c2_i32_14
  let v37 : BitVec 32 := Scalar.remsi v29 v36
  let c0_i32_18 : BitVec 32 := 0#32
  let v39 : BitVec 1 := Scalar.cmpi .slt v37 c0_i32_18
  let c0_i32_19 : BitVec 32 := 0#32
  let v40 : BitVec 1 := Scalar.cmpi .slt v36 c0_i32_19
  let v41 : BitVec 1 := Scalar.xori v39 v40
  let c0_i32_17 : BitVec 32 := 0#32
  let v38 : BitVec 1 := Scalar.cmpi .ne v37 c0_i32_17
  let v42 : BitVec 1 := Scalar.andi v41 v38
  let v43 : BitVec 32 := Scalar.addi v37 v36
  let v44 : BitVec 32 := Scalar.select v42 v43 v37
  let v45 : BitVec 32 := Scalar.muli c2_i32_20 v44
  let v46 : BitVec 32 := Scalar.subi v34 v45
  let v50 : BitVec 32 := Scalar.addi v49 v46
  let c1_i32_154 : BitVec 32 := 1#32
  let v217 : BitVec 32 := Scalar.muli v50 c1_i32_154
  let v218 : BitVec 32 := Scalar.addi c0_i32_155 v217
  v218.toNat
def k0_dev12 (d0 : Dev nD) : Nat :=
  let c0_i32_163 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_24 : BitVec 32 := 4#32
  let v51 : BitVec 32 := Scalar.muli v19 c4_i32_24
  let c3_i32_21 : BitVec 32 := 3#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v47 : BitVec 32 := Scalar.subi c3_i32_21 v29
  let v52 : BitVec 32 := Scalar.addi v51 v47
  let c1_i32_162 : BitVec 32 := 1#32
  let v226 : BitVec 32 := Scalar.muli v52 c1_i32_162
  let v227 : BitVec 32 := Scalar.addi c0_i32_163 v226
  v227.toNat
def k0_dev13 (d0 : Dev nD) : Nat :=
  let c0_i32_183 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_23 : BitVec 32 := 4#32
  let v49 : BitVec 32 := Scalar.muli v19 c4_i32_23
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_13 : BitVec 32 := 1#32
  let v34 : BitVec 32 := Scalar.addi v29 c1_i32_13
  let c2_i32_20 : BitVec 32 := 2#32
  let c2_i32_14 : BitVec 32 := 2#32
  let c0_i32_15 : BitVec 32 := 0#32
  let v35 : BitVec 1 := Scalar.cmpi .eq c2_i32_14 c0_i32_15
  let c1_i32_16 : BitVec 32 := 1#32
  let v36 : BitVec 32 := Scalar.select v35 c1_i32_16 c2_i32_14
  let v37 : BitVec 32 := Scalar.remsi v29 v36
  let c0_i32_18 : BitVec 32 := 0#32
  let v39 : BitVec 1 := Scalar.cmpi .slt v37 c0_i32_18
  let c0_i32_19 : BitVec 32 := 0#32
  let v40 : BitVec 1 := Scalar.cmpi .slt v36 c0_i32_19
  let v41 : BitVec 1 := Scalar.xori v39 v40
  let c0_i32_17 : BitVec 32 := 0#32
  let v38 : BitVec 1 := Scalar.cmpi .ne v37 c0_i32_17
  let v42 : BitVec 1 := Scalar.andi v41 v38
  let v43 : BitVec 32 := Scalar.addi v37 v36
  let v44 : BitVec 32 := Scalar.select v42 v43 v37
  let v45 : BitVec 32 := Scalar.muli c2_i32_20 v44
  let v46 : BitVec 32 := Scalar.subi v34 v45
  let v50 : BitVec 32 := Scalar.addi v49 v46
  let c1_i32_182 : BitVec 32 := 1#32
  let v253 : BitVec 32 := Scalar.muli v50 c1_i32_182
  let v254 : BitVec 32 := Scalar.addi c0_i32_183 v253
  v254.toNat
def k0_dev14 (d0 : Dev nD) : Nat :=
  let c0_i32_191 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_24 : BitVec 32 := 4#32
  let v51 : BitVec 32 := Scalar.muli v19 c4_i32_24
  let c3_i32_21 : BitVec 32 := 3#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v47 : BitVec 32 := Scalar.subi c3_i32_21 v29
  let v52 : BitVec 32 := Scalar.addi v51 v47
  let c1_i32_190 : BitVec 32 := 1#32
  let v262 : BitVec 32 := Scalar.muli v52 c1_i32_190
  let v263 : BitVec 32 := Scalar.addi c0_i32_191 v262
  v263.toNat
def k0_off5 (d0 : Dev nD) (c0_i32_196 : BitVec 32) : Fin 2 → Nat :=
  let c1_i32_209 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_195 : BitVec 32 := 1#32
  let v271 : BitVec 32 := Scalar.addi v19 c1_i32_195
  let v272 : BitVec 32 := Scalar.addi v271 c0_i32_196
  let c4_i32_197 : BitVec 32 := 4#32
  let c0_i32_198 : BitVec 32 := 0#32
  let v273 : BitVec 1 := Scalar.cmpi .eq c4_i32_197 c0_i32_198
  let c1_i32_199 : BitVec 32 := 1#32
  let v274 : BitVec 32 := Scalar.select v273 c1_i32_199 c4_i32_197
  let v275 : BitVec 32 := Scalar.remsi v272 v274
  let c0_i32_201 : BitVec 32 := 0#32
  let v277 : BitVec 1 := Scalar.cmpi .slt v275 c0_i32_201
  let c0_i32_202 : BitVec 32 := 0#32
  let v278 : BitVec 1 := Scalar.cmpi .slt v274 c0_i32_202
  let v279 : BitVec 1 := Scalar.xori v277 v278
  let c0_i32_200 : BitVec 32 := 0#32
  let v276 : BitVec 1 := Scalar.cmpi .ne v275 c0_i32_200
  let v280 : BitVec 1 := Scalar.andi v279 v276
  let v281 : BitVec 32 := Scalar.addi v275 v274
  let v282 : BitVec 32 := Scalar.select v280 v281 v275
  ![1, v282.toNat]
def k0_off6 (d0 : Dev nD) (c0_i32_196 : BitVec 32) : Fin 4 → Nat :=
  let c1_i32_207 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_195 : BitVec 32 := 1#32
  let v271 : BitVec 32 := Scalar.addi v19 c1_i32_195
  let v272 : BitVec 32 := Scalar.addi v271 c0_i32_196
  let c4_i32_197 : BitVec 32 := 4#32
  let c0_i32_198 : BitVec 32 := 0#32
  let v273 : BitVec 1 := Scalar.cmpi .eq c4_i32_197 c0_i32_198
  let c1_i32_199 : BitVec 32 := 1#32
  let v274 : BitVec 32 := Scalar.select v273 c1_i32_199 c4_i32_197
  let v275 : BitVec 32 := Scalar.remsi v272 v274
  let c0_i32_201 : BitVec 32 := 0#32
  let v277 : BitVec 1 := Scalar.cmpi .slt v275 c0_i32_201
  let c0_i32_202 : BitVec 32 := 0#32
  let v278 : BitVec 1 := Scalar.cmpi .slt v274 c0_i32_202
  let v279 : BitVec 1 := Scalar.xori v277 v278
  let c0_i32_200 : BitVec 32 := 0#32
  let v276 : BitVec 1 := Scalar.cmpi .ne v275 c0_i32_200
  let v280 : BitVec 1 := Scalar.andi v279 v276
  let v281 : BitVec 32 := Scalar.addi v275 v274
  let v282 : BitVec 32 := Scalar.select v280 v281 v275
  let c0_i32_212 : BitVec 32 := 0#32
  let c0_i32_213 : BitVec 32 := 0#32
  ![1, v282.toNat, 0, 0]
def k0_off7 (d0 : Dev nD) (c0_i32_196 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_195 : BitVec 32 := 1#32
  let v271 : BitVec 32 := Scalar.addi v19 c1_i32_195
  let v272 : BitVec 32 := Scalar.addi v271 c0_i32_196
  let c4_i32_197 : BitVec 32 := 4#32
  let c0_i32_198 : BitVec 32 := 0#32
  let v273 : BitVec 1 := Scalar.cmpi .eq c4_i32_197 c0_i32_198
  let c1_i32_199 : BitVec 32 := 1#32
  let v274 : BitVec 32 := Scalar.select v273 c1_i32_199 c4_i32_197
  let v275 : BitVec 32 := Scalar.remsi v272 v274
  let c0_i32_201 : BitVec 32 := 0#32
  let v277 : BitVec 1 := Scalar.cmpi .slt v275 c0_i32_201
  let c0_i32_202 : BitVec 32 := 0#32
  let v278 : BitVec 1 := Scalar.cmpi .slt v274 c0_i32_202
  let v279 : BitVec 1 := Scalar.xori v277 v278
  let c0_i32_200 : BitVec 32 := 0#32
  let v276 : BitVec 1 := Scalar.cmpi .ne v275 c0_i32_200
  let v280 : BitVec 1 := Scalar.andi v279 v276
  let v281 : BitVec 32 := Scalar.addi v275 v274
  let v282 : BitVec 32 := Scalar.select v280 v281 v275
  let c4_i32_203 : BitVec 32 := 4#32
  let v283 : BitVec 32 := Scalar.muli v282 c4_i32_203
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_13 : BitVec 32 := 1#32
  let v34 : BitVec 32 := Scalar.addi v29 c1_i32_13
  let c2_i32_20 : BitVec 32 := 2#32
  let c2_i32_14 : BitVec 32 := 2#32
  let c0_i32_15 : BitVec 32 := 0#32
  let v35 : BitVec 1 := Scalar.cmpi .eq c2_i32_14 c0_i32_15
  let c1_i32_16 : BitVec 32 := 1#32
  let v36 : BitVec 32 := Scalar.select v35 c1_i32_16 c2_i32_14
  let v37 : BitVec 32 := Scalar.remsi v29 v36
  let c0_i32_18 : BitVec 32 := 0#32
  let v39 : BitVec 1 := Scalar.cmpi .slt v37 c0_i32_18
  let c0_i32_19 : BitVec 32 := 0#32
  let v40 : BitVec 1 := Scalar.cmpi .slt v36 c0_i32_19
  let v41 : BitVec 1 := Scalar.xori v39 v40
  let c0_i32_17 : BitVec 32 := 0#32
  let v38 : BitVec 1 := Scalar.cmpi .ne v37 c0_i32_17
  let v42 : BitVec 1 := Scalar.andi v41 v38
  let v43 : BitVec 32 := Scalar.addi v37 v36
  let v44 : BitVec 32 := Scalar.select v42 v43 v37
  let v45 : BitVec 32 := Scalar.muli c2_i32_20 v44
  let v46 : BitVec 32 := Scalar.subi v34 v45
  let v284 : BitVec 32 := Scalar.addi v283 v46
  let c64_i32_204 : BitVec 32 := 64#32
  let v285 : BitVec 32 := Scalar.muli v284 c64_i32_204
  let c0_i32_214 : BitVec 32 := 0#32
  ![v285.toNat, 0]
def k0_dev15 (d0 : Dev nD) : Nat :=
  let c0_i32_211 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_23 : BitVec 32 := 4#32
  let v49 : BitVec 32 := Scalar.muli v19 c4_i32_23
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_13 : BitVec 32 := 1#32
  let v34 : BitVec 32 := Scalar.addi v29 c1_i32_13
  let c2_i32_20 : BitVec 32 := 2#32
  let c2_i32_14 : BitVec 32 := 2#32
  let c0_i32_15 : BitVec 32 := 0#32
  let v35 : BitVec 1 := Scalar.cmpi .eq c2_i32_14 c0_i32_15
  let c1_i32_16 : BitVec 32 := 1#32
  let v36 : BitVec 32 := Scalar.select v35 c1_i32_16 c2_i32_14
  let v37 : BitVec 32 := Scalar.remsi v29 v36
  let c0_i32_18 : BitVec 32 := 0#32
  let v39 : BitVec 1 := Scalar.cmpi .slt v37 c0_i32_18
  let c0_i32_19 : BitVec 32 := 0#32
  let v40 : BitVec 1 := Scalar.cmpi .slt v36 c0_i32_19
  let v41 : BitVec 1 := Scalar.xori v39 v40
  let c0_i32_17 : BitVec 32 := 0#32
  let v38 : BitVec 1 := Scalar.cmpi .ne v37 c0_i32_17
  let v42 : BitVec 1 := Scalar.andi v41 v38
  let v43 : BitVec 32 := Scalar.addi v37 v36
  let v44 : BitVec 32 := Scalar.select v42 v43 v37
  let v45 : BitVec 32 := Scalar.muli c2_i32_20 v44
  let v46 : BitVec 32 := Scalar.subi v34 v45
  let v50 : BitVec 32 := Scalar.addi v49 v46
  let c1_i32_210 : BitVec 32 := 1#32
  let v289 : BitVec 32 := Scalar.muli v50 c1_i32_210
  let v290 : BitVec 32 := Scalar.addi c0_i32_211 v289
  v290.toNat
def k0_off8 (d0 : Dev nD) (c0_i32_196 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_195 : BitVec 32 := 1#32
  let v271 : BitVec 32 := Scalar.addi v19 c1_i32_195
  let v272 : BitVec 32 := Scalar.addi v271 c0_i32_196
  let c4_i32_197 : BitVec 32 := 4#32
  let c0_i32_198 : BitVec 32 := 0#32
  let v273 : BitVec 1 := Scalar.cmpi .eq c4_i32_197 c0_i32_198
  let c1_i32_199 : BitVec 32 := 1#32
  let v274 : BitVec 32 := Scalar.select v273 c1_i32_199 c4_i32_197
  let v275 : BitVec 32 := Scalar.remsi v272 v274
  let c0_i32_201 : BitVec 32 := 0#32
  let v277 : BitVec 1 := Scalar.cmpi .slt v275 c0_i32_201
  let c0_i32_202 : BitVec 32 := 0#32
  let v278 : BitVec 1 := Scalar.cmpi .slt v274 c0_i32_202
  let v279 : BitVec 1 := Scalar.xori v277 v278
  let c0_i32_200 : BitVec 32 := 0#32
  let v276 : BitVec 1 := Scalar.cmpi .ne v275 c0_i32_200
  let v280 : BitVec 1 := Scalar.andi v279 v276
  let v281 : BitVec 32 := Scalar.addi v275 v274
  let v282 : BitVec 32 := Scalar.select v280 v281 v275
  let c4_i32_205 : BitVec 32 := 4#32
  let v286 : BitVec 32 := Scalar.muli v282 c4_i32_205
  let c3_i32_21 : BitVec 32 := 3#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v47 : BitVec 32 := Scalar.subi c3_i32_21 v29
  let v287 : BitVec 32 := Scalar.addi v286 v47
  let c64_i32_206 : BitVec 32 := 64#32
  let v288 : BitVec 32 := Scalar.muli v287 c64_i32_206
  let c256_i32_222 : BitVec 32 := 256#32
  ![v288.toNat, 256]
def k0_dev16 (d0 : Dev nD) : Nat :=
  let c0_i32_219 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_24 : BitVec 32 := 4#32
  let v51 : BitVec 32 := Scalar.muli v19 c4_i32_24
  let c3_i32_21 : BitVec 32 := 3#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v47 : BitVec 32 := Scalar.subi c3_i32_21 v29
  let v52 : BitVec 32 := Scalar.addi v51 v47
  let c1_i32_218 : BitVec 32 := 1#32
  let v298 : BitVec 32 := Scalar.muli v52 c1_i32_218
  let v299 : BitVec 32 := Scalar.addi c0_i32_219 v298
  v299.toNat
def k0_dev17 (d0 : Dev nD) : Nat :=
  let c0_i32_239 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_23 : BitVec 32 := 4#32
  let v49 : BitVec 32 := Scalar.muli v19 c4_i32_23
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_13 : BitVec 32 := 1#32
  let v34 : BitVec 32 := Scalar.addi v29 c1_i32_13
  let c2_i32_20 : BitVec 32 := 2#32
  let c2_i32_14 : BitVec 32 := 2#32
  let c0_i32_15 : BitVec 32 := 0#32
  let v35 : BitVec 1 := Scalar.cmpi .eq c2_i32_14 c0_i32_15
  let c1_i32_16 : BitVec 32 := 1#32
  let v36 : BitVec 32 := Scalar.select v35 c1_i32_16 c2_i32_14
  let v37 : BitVec 32 := Scalar.remsi v29 v36
  let c0_i32_18 : BitVec 32 := 0#32
  let v39 : BitVec 1 := Scalar.cmpi .slt v37 c0_i32_18
  let c0_i32_19 : BitVec 32 := 0#32
  let v40 : BitVec 1 := Scalar.cmpi .slt v36 c0_i32_19
  let v41 : BitVec 1 := Scalar.xori v39 v40
  let c0_i32_17 : BitVec 32 := 0#32
  let v38 : BitVec 1 := Scalar.cmpi .ne v37 c0_i32_17
  let v42 : BitVec 1 := Scalar.andi v41 v38
  let v43 : BitVec 32 := Scalar.addi v37 v36
  let v44 : BitVec 32 := Scalar.select v42 v43 v37
  let v45 : BitVec 32 := Scalar.muli c2_i32_20 v44
  let v46 : BitVec 32 := Scalar.subi v34 v45
  let v50 : BitVec 32 := Scalar.addi v49 v46
  let c1_i32_238 : BitVec 32 := 1#32
  let v325 : BitVec 32 := Scalar.muli v50 c1_i32_238
  let v326 : BitVec 32 := Scalar.addi c0_i32_239 v325
  v326.toNat
def k0_dev18 (d0 : Dev nD) : Nat :=
  let c0_i32_247 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_24 : BitVec 32 := 4#32
  let v51 : BitVec 32 := Scalar.muli v19 c4_i32_24
  let c3_i32_21 : BitVec 32 := 3#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v47 : BitVec 32 := Scalar.subi c3_i32_21 v29
  let v52 : BitVec 32 := Scalar.addi v51 v47
  let c1_i32_246 : BitVec 32 := 1#32
  let v334 : BitVec 32 := Scalar.muli v52 c1_i32_246
  let v335 : BitVec 32 := Scalar.addi c0_i32_247 v334
  v335.toNat
def k0_dev19 (d0 : Dev nD) : Nat :=
  let c0_i32_267 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_23 : BitVec 32 := 4#32
  let v49 : BitVec 32 := Scalar.muli v19 c4_i32_23
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_13 : BitVec 32 := 1#32
  let v34 : BitVec 32 := Scalar.addi v29 c1_i32_13
  let c2_i32_20 : BitVec 32 := 2#32
  let c2_i32_14 : BitVec 32 := 2#32
  let c0_i32_15 : BitVec 32 := 0#32
  let v35 : BitVec 1 := Scalar.cmpi .eq c2_i32_14 c0_i32_15
  let c1_i32_16 : BitVec 32 := 1#32
  let v36 : BitVec 32 := Scalar.select v35 c1_i32_16 c2_i32_14
  let v37 : BitVec 32 := Scalar.remsi v29 v36
  let c0_i32_18 : BitVec 32 := 0#32
  let v39 : BitVec 1 := Scalar.cmpi .slt v37 c0_i32_18
  let c0_i32_19 : BitVec 32 := 0#32
  let v40 : BitVec 1 := Scalar.cmpi .slt v36 c0_i32_19
  let v41 : BitVec 1 := Scalar.xori v39 v40
  let c0_i32_17 : BitVec 32 := 0#32
  let v38 : BitVec 1 := Scalar.cmpi .ne v37 c0_i32_17
  let v42 : BitVec 1 := Scalar.andi v41 v38
  let v43 : BitVec 32 := Scalar.addi v37 v36
  let v44 : BitVec 32 := Scalar.select v42 v43 v37
  let v45 : BitVec 32 := Scalar.muli c2_i32_20 v44
  let v46 : BitVec 32 := Scalar.subi v34 v45
  let v50 : BitVec 32 := Scalar.addi v49 v46
  let c1_i32_266 : BitVec 32 := 1#32
  let v361 : BitVec 32 := Scalar.muli v50 c1_i32_266
  let v362 : BitVec 32 := Scalar.addi c0_i32_267 v361
  v362.toNat
def k0_dev20 (d0 : Dev nD) : Nat :=
  let c0_i32_275 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_24 : BitVec 32 := 4#32
  let v51 : BitVec 32 := Scalar.muli v19 c4_i32_24
  let c3_i32_21 : BitVec 32 := 3#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v47 : BitVec 32 := Scalar.subi c3_i32_21 v29
  let v52 : BitVec 32 := Scalar.addi v51 v47
  let c1_i32_274 : BitVec 32 := 1#32
  let v370 : BitVec 32 := Scalar.muli v52 c1_i32_274
  let v371 : BitVec 32 := Scalar.addi c0_i32_275 v370
  v371.toNat
def k0_dev21 (d0 : Dev nD) : Nat :=
  let c0_i32_295 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_23 : BitVec 32 := 4#32
  let v49 : BitVec 32 := Scalar.muli v19 c4_i32_23
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_13 : BitVec 32 := 1#32
  let v34 : BitVec 32 := Scalar.addi v29 c1_i32_13
  let c2_i32_20 : BitVec 32 := 2#32
  let c2_i32_14 : BitVec 32 := 2#32
  let c0_i32_15 : BitVec 32 := 0#32
  let v35 : BitVec 1 := Scalar.cmpi .eq c2_i32_14 c0_i32_15
  let c1_i32_16 : BitVec 32 := 1#32
  let v36 : BitVec 32 := Scalar.select v35 c1_i32_16 c2_i32_14
  let v37 : BitVec 32 := Scalar.remsi v29 v36
  let c0_i32_18 : BitVec 32 := 0#32
  let v39 : BitVec 1 := Scalar.cmpi .slt v37 c0_i32_18
  let c0_i32_19 : BitVec 32 := 0#32
  let v40 : BitVec 1 := Scalar.cmpi .slt v36 c0_i32_19
  let v41 : BitVec 1 := Scalar.xori v39 v40
  let c0_i32_17 : BitVec 32 := 0#32
  let v38 : BitVec 1 := Scalar.cmpi .ne v37 c0_i32_17
  let v42 : BitVec 1 := Scalar.andi v41 v38
  let v43 : BitVec 32 := Scalar.addi v37 v36
  let v44 : BitVec 32 := Scalar.select v42 v43 v37
  let v45 : BitVec 32 := Scalar.muli c2_i32_20 v44
  let v46 : BitVec 32 := Scalar.subi v34 v45
  let v50 : BitVec 32 := Scalar.addi v49 v46
  let c1_i32_294 : BitVec 32 := 1#32
  let v397 : BitVec 32 := Scalar.muli v50 c1_i32_294
  let v398 : BitVec 32 := Scalar.addi c0_i32_295 v397
  v398.toNat
def k0_dev22 (d0 : Dev nD) : Nat :=
  let c0_i32_303 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_24 : BitVec 32 := 4#32
  let v51 : BitVec 32 := Scalar.muli v19 c4_i32_24
  let c3_i32_21 : BitVec 32 := 3#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v47 : BitVec 32 := Scalar.subi c3_i32_21 v29
  let v52 : BitVec 32 := Scalar.addi v51 v47
  let c1_i32_302 : BitVec 32 := 1#32
  let v406 : BitVec 32 := Scalar.muli v52 c1_i32_302
  let v407 : BitVec 32 := Scalar.addi c0_i32_303 v406
  v407.toNat
def k0_off9 (d0 : Dev nD) (c0_i32_330 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32 : BitVec 32 := 2#32
  let v30 : BitVec 1 := Scalar.cmpi .eq v19 c2_i32
  let c3_i32_12 : BitVec 32 := 3#32
  let c3_i32 : BitVec 32 := 3#32
  let v31 : BitVec 1 := Scalar.cmpi .eq v19 c3_i32
  let c2_i32_11 : BitVec 32 := 2#32
  let v32 : BitVec 32 := Scalar.select v31 c2_i32_11 v19
  let v33 : BitVec 32 := Scalar.select v30 c3_i32_12 v32
  let c1_i32_307 : BitVec 32 := 1#32
  let v415 : BitVec 32 := Scalar.subi v33 c1_i32_307
  let c4_i32_308 : BitVec 32 := 4#32
  let c0_i32_309 : BitVec 32 := 0#32
  let v416 : BitVec 1 := Scalar.cmpi .eq c4_i32_308 c0_i32_309
  let c1_i32_310 : BitVec 32 := 1#32
  let v417 : BitVec 32 := Scalar.select v416 c1_i32_310 c4_i32_308
  let v418 : BitVec 32 := Scalar.remsi v415 v417
  let c0_i32_312 : BitVec 32 := 0#32
  let v420 : BitVec 1 := Scalar.cmpi .slt v418 c0_i32_312
  let c0_i32_313 : BitVec 32 := 0#32
  let v421 : BitVec 1 := Scalar.cmpi .slt v417 c0_i32_313
  let v422 : BitVec 1 := Scalar.xori v420 v421
  let c0_i32_311 : BitVec 32 := 0#32
  let v419 : BitVec 1 := Scalar.cmpi .ne v418 c0_i32_311
  let v423 : BitVec 1 := Scalar.andi v422 v419
  let v424 : BitVec 32 := Scalar.addi v418 v417
  let v425 : BitVec 32 := Scalar.select v423 v424 v418
  let c2_i32_314 : BitVec 32 := 2#32
  let v426 : BitVec 1 := Scalar.cmpi .eq v425 c2_i32_314
  let c3_i32_317 : BitVec 32 := 3#32
  let c3_i32_315 : BitVec 32 := 3#32
  let v427 : BitVec 1 := Scalar.cmpi .eq v425 c3_i32_315
  let c2_i32_316 : BitVec 32 := 2#32
  let v428 : BitVec 32 := Scalar.select v427 c2_i32_316 v425
  let v429 : BitVec 32 := Scalar.select v426 c3_i32_317 v428
  let c256_i32_329 : BitVec 32 := 256#32
  let v445 : BitVec 32 := Scalar.muli v429 c256_i32_329
  let v446 : BitVec 32 := Scalar.addi v445 c0_i32_330
  let c512_i32 : BitVec 32 := 512#32
  ![v446.toNat, 512]
def k0_dev23 (d0 : Dev nD) : Nat :=
  let c0_i32_338 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32 : BitVec 32 := 2#32
  let v30 : BitVec 1 := Scalar.cmpi .eq v19 c2_i32
  let c3_i32_12 : BitVec 32 := 3#32
  let c3_i32 : BitVec 32 := 3#32
  let v31 : BitVec 1 := Scalar.cmpi .eq v19 c3_i32
  let c2_i32_11 : BitVec 32 := 2#32
  let v32 : BitVec 32 := Scalar.select v31 c2_i32_11 v19
  let v33 : BitVec 32 := Scalar.select v30 c3_i32_12 v32
  let c1_i32_26 : BitVec 32 := 1#32
  let v55 : BitVec 32 := Scalar.addi v33 c1_i32_26
  let c4_i32_27 : BitVec 32 := 4#32
  let c0_i32_28 : BitVec 32 := 0#32
  let v56 : BitVec 1 := Scalar.cmpi .eq c4_i32_27 c0_i32_28
  let c1_i32_29 : BitVec 32 := 1#32
  let v57 : BitVec 32 := Scalar.select v56 c1_i32_29 c4_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  let c2_i32_33 : BitVec 32 := 2#32
  let v66 : BitVec 1 := Scalar.cmpi .eq v65 c2_i32_33
  let c3_i32_36 : BitVec 32 := 3#32
  let c3_i32_34 : BitVec 32 := 3#32
  let v67 : BitVec 1 := Scalar.cmpi .eq v65 c3_i32_34
  let c2_i32_35 : BitVec 32 := 2#32
  let v68 : BitVec 32 := Scalar.select v67 c2_i32_35 v65
  let v69 : BitVec 32 := Scalar.select v66 c3_i32_36 v68
  let c4_i32_37 : BitVec 32 := 4#32
  let v70 : BitVec 32 := Scalar.muli v69 c4_i32_37
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v71 : BitVec 32 := Scalar.addi v70 v29
  let c1_i32_337 : BitVec 32 := 1#32
  let v447 : BitVec 32 := Scalar.muli v71 c1_i32_337
  let v448 : BitVec 32 := Scalar.addi c0_i32_338 v447
  v448.toNat
def k0_off10 (d0 : Dev nD) (c0_i32_342 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32 : BitVec 32 := 2#32
  let v30 : BitVec 1 := Scalar.cmpi .eq v19 c2_i32
  let c3_i32_12 : BitVec 32 := 3#32
  let c3_i32 : BitVec 32 := 3#32
  let v31 : BitVec 1 := Scalar.cmpi .eq v19 c3_i32
  let c2_i32_11 : BitVec 32 := 2#32
  let v32 : BitVec 32 := Scalar.select v31 c2_i32_11 v19
  let v33 : BitVec 32 := Scalar.select v30 c3_i32_12 v32
  let c1_i32_318 : BitVec 32 := 1#32
  let v430 : BitVec 32 := Scalar.addi v33 c1_i32_318
  let c4_i32_319 : BitVec 32 := 4#32
  let c0_i32_320 : BitVec 32 := 0#32
  let v431 : BitVec 1 := Scalar.cmpi .eq c4_i32_319 c0_i32_320
  let c1_i32_321 : BitVec 32 := 1#32
  let v432 : BitVec 32 := Scalar.select v431 c1_i32_321 c4_i32_319
  let v433 : BitVec 32 := Scalar.remsi v430 v432
  let c0_i32_323 : BitVec 32 := 0#32
  let v435 : BitVec 1 := Scalar.cmpi .slt v433 c0_i32_323
  let c0_i32_324 : BitVec 32 := 0#32
  let v436 : BitVec 1 := Scalar.cmpi .slt v432 c0_i32_324
  let v437 : BitVec 1 := Scalar.xori v435 v436
  let c0_i32_322 : BitVec 32 := 0#32
  let v434 : BitVec 1 := Scalar.cmpi .ne v433 c0_i32_322
  let v438 : BitVec 1 := Scalar.andi v437 v434
  let v439 : BitVec 32 := Scalar.addi v433 v432
  let v440 : BitVec 32 := Scalar.select v438 v439 v433
  let c2_i32_325 : BitVec 32 := 2#32
  let v441 : BitVec 1 := Scalar.cmpi .eq v440 c2_i32_325
  let c3_i32_328 : BitVec 32 := 3#32
  let c3_i32_326 : BitVec 32 := 3#32
  let v442 : BitVec 1 := Scalar.cmpi .eq v440 c3_i32_326
  let c2_i32_327 : BitVec 32 := 2#32
  let v443 : BitVec 32 := Scalar.select v442 c2_i32_327 v440
  let v444 : BitVec 32 := Scalar.select v441 c3_i32_328 v443
  let c256_i32_341 : BitVec 32 := 256#32
  let v456 : BitVec 32 := Scalar.muli v444 c256_i32_341
  let v457 : BitVec 32 := Scalar.addi v456 c0_i32_342
  let c768_i32 : BitVec 32 := 768#32
  ![v457.toNat, 768]
def k0_dev24 (d0 : Dev nD) : Nat :=
  let c0_i32_350 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32 : BitVec 32 := 2#32
  let v30 : BitVec 1 := Scalar.cmpi .eq v19 c2_i32
  let c3_i32_12 : BitVec 32 := 3#32
  let c3_i32 : BitVec 32 := 3#32
  let v31 : BitVec 1 := Scalar.cmpi .eq v19 c3_i32
  let c2_i32_11 : BitVec 32 := 2#32
  let v32 : BitVec 32 := Scalar.select v31 c2_i32_11 v19
  let v33 : BitVec 32 := Scalar.select v30 c3_i32_12 v32
  let c1_i32_38 : BitVec 32 := 1#32
  let v72 : BitVec 32 := Scalar.subi v33 c1_i32_38
  let c4_i32_39 : BitVec 32 := 4#32
  let c0_i32_40 : BitVec 32 := 0#32
  let v73 : BitVec 1 := Scalar.cmpi .eq c4_i32_39 c0_i32_40
  let c1_i32_41 : BitVec 32 := 1#32
  let v74 : BitVec 32 := Scalar.select v73 c1_i32_41 c4_i32_39
  let v75 : BitVec 32 := Scalar.remsi v72 v74
  let c0_i32_43 : BitVec 32 := 0#32
  let v77 : BitVec 1 := Scalar.cmpi .slt v75 c0_i32_43
  let c0_i32_44 : BitVec 32 := 0#32
  let v78 : BitVec 1 := Scalar.cmpi .slt v74 c0_i32_44
  let v79 : BitVec 1 := Scalar.xori v77 v78
  let c0_i32_42 : BitVec 32 := 0#32
  let v76 : BitVec 1 := Scalar.cmpi .ne v75 c0_i32_42
  let v80 : BitVec 1 := Scalar.andi v79 v76
  let v81 : BitVec 32 := Scalar.addi v75 v74
  let v82 : BitVec 32 := Scalar.select v80 v81 v75
  let c2_i32_45 : BitVec 32 := 2#32
  let v83 : BitVec 1 := Scalar.cmpi .eq v82 c2_i32_45
  let c3_i32_48 : BitVec 32 := 3#32
  let c3_i32_46 : BitVec 32 := 3#32
  let v84 : BitVec 1 := Scalar.cmpi .eq v82 c3_i32_46
  let c2_i32_47 : BitVec 32 := 2#32
  let v85 : BitVec 32 := Scalar.select v84 c2_i32_47 v82
  let v86 : BitVec 32 := Scalar.select v83 c3_i32_48 v85
  let c4_i32_49 : BitVec 32 := 4#32
  let v87 : BitVec 32 := Scalar.muli v86 c4_i32_49
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v88 : BitVec 32 := Scalar.addi v87 v29
  let c1_i32_349 : BitVec 32 := 1#32
  let v458 : BitVec 32 := Scalar.muli v88 c1_i32_349
  let v459 : BitVec 32 := Scalar.addi c0_i32_350 v458
  v459.toNat
def k0_dev25 (d0 : Dev nD) : Nat :=
  let c0_i32_361 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32 : BitVec 32 := 2#32
  let v30 : BitVec 1 := Scalar.cmpi .eq v19 c2_i32
  let c3_i32_12 : BitVec 32 := 3#32
  let c3_i32 : BitVec 32 := 3#32
  let v31 : BitVec 1 := Scalar.cmpi .eq v19 c3_i32
  let c2_i32_11 : BitVec 32 := 2#32
  let v32 : BitVec 32 := Scalar.select v31 c2_i32_11 v19
  let v33 : BitVec 32 := Scalar.select v30 c3_i32_12 v32
  let c1_i32_26 : BitVec 32 := 1#32
  let v55 : BitVec 32 := Scalar.addi v33 c1_i32_26
  let c4_i32_27 : BitVec 32 := 4#32
  let c0_i32_28 : BitVec 32 := 0#32
  let v56 : BitVec 1 := Scalar.cmpi .eq c4_i32_27 c0_i32_28
  let c1_i32_29 : BitVec 32 := 1#32
  let v57 : BitVec 32 := Scalar.select v56 c1_i32_29 c4_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  let c2_i32_33 : BitVec 32 := 2#32
  let v66 : BitVec 1 := Scalar.cmpi .eq v65 c2_i32_33
  let c3_i32_36 : BitVec 32 := 3#32
  let c3_i32_34 : BitVec 32 := 3#32
  let v67 : BitVec 1 := Scalar.cmpi .eq v65 c3_i32_34
  let c2_i32_35 : BitVec 32 := 2#32
  let v68 : BitVec 32 := Scalar.select v67 c2_i32_35 v65
  let v69 : BitVec 32 := Scalar.select v66 c3_i32_36 v68
  let c4_i32_37 : BitVec 32 := 4#32
  let v70 : BitVec 32 := Scalar.muli v69 c4_i32_37
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v71 : BitVec 32 := Scalar.addi v70 v29
  let c1_i32_360 : BitVec 32 := 1#32
  let v469 : BitVec 32 := Scalar.muli v71 c1_i32_360
  let v470 : BitVec 32 := Scalar.addi c0_i32_361 v469
  v470.toNat
def k0_dev26 (d0 : Dev nD) : Nat :=
  let c0_i32_374 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32 : BitVec 32 := 2#32
  let v30 : BitVec 1 := Scalar.cmpi .eq v19 c2_i32
  let c3_i32_12 : BitVec 32 := 3#32
  let c3_i32 : BitVec 32 := 3#32
  let v31 : BitVec 1 := Scalar.cmpi .eq v19 c3_i32
  let c2_i32_11 : BitVec 32 := 2#32
  let v32 : BitVec 32 := Scalar.select v31 c2_i32_11 v19
  let v33 : BitVec 32 := Scalar.select v30 c3_i32_12 v32
  let c1_i32_38 : BitVec 32 := 1#32
  let v72 : BitVec 32 := Scalar.subi v33 c1_i32_38
  let c4_i32_39 : BitVec 32 := 4#32
  let c0_i32_40 : BitVec 32 := 0#32
  let v73 : BitVec 1 := Scalar.cmpi .eq c4_i32_39 c0_i32_40
  let c1_i32_41 : BitVec 32 := 1#32
  let v74 : BitVec 32 := Scalar.select v73 c1_i32_41 c4_i32_39
  let v75 : BitVec 32 := Scalar.remsi v72 v74
  let c0_i32_43 : BitVec 32 := 0#32
  let v77 : BitVec 1 := Scalar.cmpi .slt v75 c0_i32_43
  let c0_i32_44 : BitVec 32 := 0#32
  let v78 : BitVec 1 := Scalar.cmpi .slt v74 c0_i32_44
  let v79 : BitVec 1 := Scalar.xori v77 v78
  let c0_i32_42 : BitVec 32 := 0#32
  let v76 : BitVec 1 := Scalar.cmpi .ne v75 c0_i32_42
  let v80 : BitVec 1 := Scalar.andi v79 v76
  let v81 : BitVec 32 := Scalar.addi v75 v74
  let v82 : BitVec 32 := Scalar.select v80 v81 v75
  let c2_i32_45 : BitVec 32 := 2#32
  let v83 : BitVec 1 := Scalar.cmpi .eq v82 c2_i32_45
  let c3_i32_48 : BitVec 32 := 3#32
  let c3_i32_46 : BitVec 32 := 3#32
  let v84 : BitVec 1 := Scalar.cmpi .eq v82 c3_i32_46
  let c2_i32_47 : BitVec 32 := 2#32
  let v85 : BitVec 32 := Scalar.select v84 c2_i32_47 v82
  let v86 : BitVec 32 := Scalar.select v83 c3_i32_48 v85
  let c4_i32_49 : BitVec 32 := 4#32
  let v87 : BitVec 32 := Scalar.muli v86 c4_i32_49
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v88 : BitVec 32 := Scalar.addi v87 v29
  let c1_i32_373 : BitVec 32 := 1#32
  let v480 : BitVec 32 := Scalar.muli v88 c1_i32_373
  let v481 : BitVec 32 := Scalar.addi c0_i32_374 v480
  v481.toNat
def k0_off11 (d0 : Dev nD) (c0_i32_379 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_378 : BitVec 32 := 1#32
  let v489 : BitVec 32 := Scalar.addi v19 c1_i32_378
  let v490 : BitVec 32 := Scalar.addi v489 c0_i32_379
  let c4_i32_380 : BitVec 32 := 4#32
  let c0_i32_381 : BitVec 32 := 0#32
  let v491 : BitVec 1 := Scalar.cmpi .eq c4_i32_380 c0_i32_381
  let c1_i32_382 : BitVec 32 := 1#32
  let v492 : BitVec 32 := Scalar.select v491 c1_i32_382 c4_i32_380
  let v493 : BitVec 32 := Scalar.remsi v490 v492
  let c0_i32_384 : BitVec 32 := 0#32
  let v495 : BitVec 1 := Scalar.cmpi .slt v493 c0_i32_384
  let c0_i32_385 : BitVec 32 := 0#32
  let v496 : BitVec 1 := Scalar.cmpi .slt v492 c0_i32_385
  let v497 : BitVec 1 := Scalar.xori v495 v496
  let c0_i32_383 : BitVec 32 := 0#32
  let v494 : BitVec 1 := Scalar.cmpi .ne v493 c0_i32_383
  let v498 : BitVec 1 := Scalar.andi v497 v494
  let v499 : BitVec 32 := Scalar.addi v493 v492
  let v500 : BitVec 32 := Scalar.select v498 v499 v493
  let c4_i32_396 : BitVec 32 := 4#32
  let v509 : BitVec 32 := Scalar.muli v500 c4_i32_396
  let c3_i32_21 : BitVec 32 := 3#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v47 : BitVec 32 := Scalar.subi c3_i32_21 v29
  let v510 : BitVec 32 := Scalar.addi v509 v47
  let c64_i32_397 : BitVec 32 := 64#32
  let v511 : BitVec 32 := Scalar.muli v510 c64_i32_397
  let v512 : Index := Scalar.indexCast v511
  let c0_398 : Index := 0#32
  ![v512.toNat, 0]
def k0_off12 (d0 : Dev nD) (c0_i32_379 : BitVec 32) : Fin 4 → Nat :=
  let c0_399 : Index := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_378 : BitVec 32 := 1#32
  let v489 : BitVec 32 := Scalar.addi v19 c1_i32_378
  let v490 : BitVec 32 := Scalar.addi v489 c0_i32_379
  let c4_i32_380 : BitVec 32 := 4#32
  let c0_i32_381 : BitVec 32 := 0#32
  let v491 : BitVec 1 := Scalar.cmpi .eq c4_i32_380 c0_i32_381
  let c1_i32_382 : BitVec 32 := 1#32
  let v492 : BitVec 32 := Scalar.select v491 c1_i32_382 c4_i32_380
  let v493 : BitVec 32 := Scalar.remsi v490 v492
  let c0_i32_384 : BitVec 32 := 0#32
  let v495 : BitVec 1 := Scalar.cmpi .slt v493 c0_i32_384
  let c0_i32_385 : BitVec 32 := 0#32
  let v496 : BitVec 1 := Scalar.cmpi .slt v492 c0_i32_385
  let v497 : BitVec 1 := Scalar.xori v495 v496
  let c0_i32_383 : BitVec 32 := 0#32
  let v494 : BitVec 1 := Scalar.cmpi .ne v493 c0_i32_383
  let v498 : BitVec 1 := Scalar.andi v497 v494
  let v499 : BitVec 32 := Scalar.addi v493 v492
  let v500 : BitVec 32 := Scalar.select v498 v499 v493
  let v514 : Index := Scalar.indexCast v500
  let c0_400 : Index := 0#32
  let c0_401 : Index := 0#32
  ![0, v514.toNat, 0, 0]
def k0_off13 (d0 : Dev nD) (c0_i32_379 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_378 : BitVec 32 := 1#32
  let v489 : BitVec 32 := Scalar.addi v19 c1_i32_378
  let v490 : BitVec 32 := Scalar.addi v489 c0_i32_379
  let c4_i32_380 : BitVec 32 := 4#32
  let c0_i32_381 : BitVec 32 := 0#32
  let v491 : BitVec 1 := Scalar.cmpi .eq c4_i32_380 c0_i32_381
  let c1_i32_382 : BitVec 32 := 1#32
  let v492 : BitVec 32 := Scalar.select v491 c1_i32_382 c4_i32_380
  let v493 : BitVec 32 := Scalar.remsi v490 v492
  let c0_i32_384 : BitVec 32 := 0#32
  let v495 : BitVec 1 := Scalar.cmpi .slt v493 c0_i32_384
  let c0_i32_385 : BitVec 32 := 0#32
  let v496 : BitVec 1 := Scalar.cmpi .slt v492 c0_i32_385
  let v497 : BitVec 1 := Scalar.xori v495 v496
  let c0_i32_383 : BitVec 32 := 0#32
  let v494 : BitVec 1 := Scalar.cmpi .ne v493 c0_i32_383
  let v498 : BitVec 1 := Scalar.andi v497 v494
  let v499 : BitVec 32 := Scalar.addi v493 v492
  let v500 : BitVec 32 := Scalar.select v498 v499 v493
  let v518 : Index := Scalar.indexCast v500
  let c0_402 : Index := 0#32
  let c0_403 : Index := 0#32
  ![v518.toNat, 0, 0]
def k0_off14 (d0 : Dev nD) (c0_i32_379 : BitVec 32) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_378 : BitVec 32 := 1#32
  let v489 : BitVec 32 := Scalar.addi v19 c1_i32_378
  let v490 : BitVec 32 := Scalar.addi v489 c0_i32_379
  let c4_i32_380 : BitVec 32 := 4#32
  let c0_i32_381 : BitVec 32 := 0#32
  let v491 : BitVec 1 := Scalar.cmpi .eq c4_i32_380 c0_i32_381
  let c1_i32_382 : BitVec 32 := 1#32
  let v492 : BitVec 32 := Scalar.select v491 c1_i32_382 c4_i32_380
  let v493 : BitVec 32 := Scalar.remsi v490 v492
  let c0_i32_384 : BitVec 32 := 0#32
  let v495 : BitVec 1 := Scalar.cmpi .slt v493 c0_i32_384
  let c0_i32_385 : BitVec 32 := 0#32
  let v496 : BitVec 1 := Scalar.cmpi .slt v492 c0_i32_385
  let v497 : BitVec 1 := Scalar.xori v495 v496
  let c0_i32_383 : BitVec 32 := 0#32
  let v494 : BitVec 1 := Scalar.cmpi .ne v493 c0_i32_383
  let v498 : BitVec 1 := Scalar.andi v497 v494
  let v499 : BitVec 32 := Scalar.addi v493 v492
  let v500 : BitVec 32 := Scalar.select v498 v499 v493
  ![v500.toNat]
def k0_off15 (d0 : Dev nD) (c0_i32_379 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_378 : BitVec 32 := 1#32
  let v489 : BitVec 32 := Scalar.addi v19 c1_i32_378
  let v490 : BitVec 32 := Scalar.addi v489 c0_i32_379
  let c4_i32_380 : BitVec 32 := 4#32
  let c0_i32_381 : BitVec 32 := 0#32
  let v491 : BitVec 1 := Scalar.cmpi .eq c4_i32_380 c0_i32_381
  let c1_i32_382 : BitVec 32 := 1#32
  let v492 : BitVec 32 := Scalar.select v491 c1_i32_382 c4_i32_380
  let v493 : BitVec 32 := Scalar.remsi v490 v492
  let c0_i32_384 : BitVec 32 := 0#32
  let v495 : BitVec 1 := Scalar.cmpi .slt v493 c0_i32_384
  let c0_i32_385 : BitVec 32 := 0#32
  let v496 : BitVec 1 := Scalar.cmpi .slt v492 c0_i32_385
  let v497 : BitVec 1 := Scalar.xori v495 v496
  let c0_i32_383 : BitVec 32 := 0#32
  let v494 : BitVec 1 := Scalar.cmpi .ne v493 c0_i32_383
  let v498 : BitVec 1 := Scalar.andi v497 v494
  let v499 : BitVec 32 := Scalar.addi v493 v492
  let v500 : BitVec 32 := Scalar.select v498 v499 v493
  let c0_i32_406 : BitVec 32 := 0#32
  let c0_i32_407 : BitVec 32 := 0#32
  ![v500.toNat, 0, 0]
def k0_dev27 (d0 : Dev nD) : Nat :=
  let c0_i32_405 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_24 : BitVec 32 := 4#32
  let v51 : BitVec 32 := Scalar.muli v19 c4_i32_24
  let c3_i32_21 : BitVec 32 := 3#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v47 : BitVec 32 := Scalar.subi c3_i32_21 v29
  let v52 : BitVec 32 := Scalar.addi v51 v47
  let c1_i32_404 : BitVec 32 := 1#32
  let v522 : BitVec 32 := Scalar.muli v52 c1_i32_404
  let v523 : BitVec 32 := Scalar.addi c0_i32_405 v522
  v523.toNat
def k0_off16 (d0 : Dev nD) (c0_i32_379 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_378 : BitVec 32 := 1#32
  let v489 : BitVec 32 := Scalar.addi v19 c1_i32_378
  let v490 : BitVec 32 := Scalar.addi v489 c0_i32_379
  let c4_i32_380 : BitVec 32 := 4#32
  let c0_i32_381 : BitVec 32 := 0#32
  let v491 : BitVec 1 := Scalar.cmpi .eq c4_i32_380 c0_i32_381
  let c1_i32_382 : BitVec 32 := 1#32
  let v492 : BitVec 32 := Scalar.select v491 c1_i32_382 c4_i32_380
  let v493 : BitVec 32 := Scalar.remsi v490 v492
  let c0_i32_384 : BitVec 32 := 0#32
  let v495 : BitVec 1 := Scalar.cmpi .slt v493 c0_i32_384
  let c0_i32_385 : BitVec 32 := 0#32
  let v496 : BitVec 1 := Scalar.cmpi .slt v492 c0_i32_385
  let v497 : BitVec 1 := Scalar.xori v495 v496
  let c0_i32_383 : BitVec 32 := 0#32
  let v494 : BitVec 1 := Scalar.cmpi .ne v493 c0_i32_383
  let v498 : BitVec 1 := Scalar.andi v497 v494
  let v499 : BitVec 32 := Scalar.addi v493 v492
  let v500 : BitVec 32 := Scalar.select v498 v499 v493
  let c4_i32_420 : BitVec 32 := 4#32
  let v540 : BitVec 32 := Scalar.muli v500 c4_i32_420
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_13 : BitVec 32 := 1#32
  let v34 : BitVec 32 := Scalar.addi v29 c1_i32_13
  let c2_i32_20 : BitVec 32 := 2#32
  let c2_i32_14 : BitVec 32 := 2#32
  let c0_i32_15 : BitVec 32 := 0#32
  let v35 : BitVec 1 := Scalar.cmpi .eq c2_i32_14 c0_i32_15
  let c1_i32_16 : BitVec 32 := 1#32
  let v36 : BitVec 32 := Scalar.select v35 c1_i32_16 c2_i32_14
  let v37 : BitVec 32 := Scalar.remsi v29 v36
  let c0_i32_18 : BitVec 32 := 0#32
  let v39 : BitVec 1 := Scalar.cmpi .slt v37 c0_i32_18
  let c0_i32_19 : BitVec 32 := 0#32
  let v40 : BitVec 1 := Scalar.cmpi .slt v36 c0_i32_19
  let v41 : BitVec 1 := Scalar.xori v39 v40
  let c0_i32_17 : BitVec 32 := 0#32
  let v38 : BitVec 1 := Scalar.cmpi .ne v37 c0_i32_17
  let v42 : BitVec 1 := Scalar.andi v41 v38
  let v43 : BitVec 32 := Scalar.addi v37 v36
  let v44 : BitVec 32 := Scalar.select v42 v43 v37
  let v45 : BitVec 32 := Scalar.muli c2_i32_20 v44
  let v46 : BitVec 32 := Scalar.subi v34 v45
  let v541 : BitVec 32 := Scalar.addi v540 v46
  let c64_i32_421 : BitVec 32 := 64#32
  let v542 : BitVec 32 := Scalar.muli v541 c64_i32_421
  let v543 : Index := Scalar.indexCast v542
  let c256 : Index := 256#32
  ![v543.toNat, 256]
def k0_dev28 (d0 : Dev nD) : Nat :=
  let c0_i32_428 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_23 : BitVec 32 := 4#32
  let v49 : BitVec 32 := Scalar.muli v19 c4_i32_23
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_13 : BitVec 32 := 1#32
  let v34 : BitVec 32 := Scalar.addi v29 c1_i32_13
  let c2_i32_20 : BitVec 32 := 2#32
  let c2_i32_14 : BitVec 32 := 2#32
  let c0_i32_15 : BitVec 32 := 0#32
  let v35 : BitVec 1 := Scalar.cmpi .eq c2_i32_14 c0_i32_15
  let c1_i32_16 : BitVec 32 := 1#32
  let v36 : BitVec 32 := Scalar.select v35 c1_i32_16 c2_i32_14
  let v37 : BitVec 32 := Scalar.remsi v29 v36
  let c0_i32_18 : BitVec 32 := 0#32
  let v39 : BitVec 1 := Scalar.cmpi .slt v37 c0_i32_18
  let c0_i32_19 : BitVec 32 := 0#32
  let v40 : BitVec 1 := Scalar.cmpi .slt v36 c0_i32_19
  let v41 : BitVec 1 := Scalar.xori v39 v40
  let c0_i32_17 : BitVec 32 := 0#32
  let v38 : BitVec 1 := Scalar.cmpi .ne v37 c0_i32_17
  let v42 : BitVec 1 := Scalar.andi v41 v38
  let v43 : BitVec 32 := Scalar.addi v37 v36
  let v44 : BitVec 32 := Scalar.select v42 v43 v37
  let v45 : BitVec 32 := Scalar.muli c2_i32_20 v44
  let v46 : BitVec 32 := Scalar.subi v34 v45
  let v50 : BitVec 32 := Scalar.addi v49 v46
  let c1_i32_427 : BitVec 32 := 1#32
  let v553 : BitVec 32 := Scalar.muli v50 c1_i32_427
  let v554 : BitVec 32 := Scalar.addi c0_i32_428 v553
  v554.toNat
def k0_dev29 (d0 : Dev nD) : Nat :=
  let c0_i32_460 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_24 : BitVec 32 := 4#32
  let v51 : BitVec 32 := Scalar.muli v19 c4_i32_24
  let c3_i32_21 : BitVec 32 := 3#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v47 : BitVec 32 := Scalar.subi c3_i32_21 v29
  let v52 : BitVec 32 := Scalar.addi v51 v47
  let c1_i32_459 : BitVec 32 := 1#32
  let v596 : BitVec 32 := Scalar.muli v52 c1_i32_459
  let v597 : BitVec 32 := Scalar.addi c0_i32_460 v596
  v597.toNat
def k0_dev30 (d0 : Dev nD) : Nat :=
  let c0_i32_484 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_23 : BitVec 32 := 4#32
  let v49 : BitVec 32 := Scalar.muli v19 c4_i32_23
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_13 : BitVec 32 := 1#32
  let v34 : BitVec 32 := Scalar.addi v29 c1_i32_13
  let c2_i32_20 : BitVec 32 := 2#32
  let c2_i32_14 : BitVec 32 := 2#32
  let c0_i32_15 : BitVec 32 := 0#32
  let v35 : BitVec 1 := Scalar.cmpi .eq c2_i32_14 c0_i32_15
  let c1_i32_16 : BitVec 32 := 1#32
  let v36 : BitVec 32 := Scalar.select v35 c1_i32_16 c2_i32_14
  let v37 : BitVec 32 := Scalar.remsi v29 v36
  let c0_i32_18 : BitVec 32 := 0#32
  let v39 : BitVec 1 := Scalar.cmpi .slt v37 c0_i32_18
  let c0_i32_19 : BitVec 32 := 0#32
  let v40 : BitVec 1 := Scalar.cmpi .slt v36 c0_i32_19
  let v41 : BitVec 1 := Scalar.xori v39 v40
  let c0_i32_17 : BitVec 32 := 0#32
  let v38 : BitVec 1 := Scalar.cmpi .ne v37 c0_i32_17
  let v42 : BitVec 1 := Scalar.andi v41 v38
  let v43 : BitVec 32 := Scalar.addi v37 v36
  let v44 : BitVec 32 := Scalar.select v42 v43 v37
  let v45 : BitVec 32 := Scalar.muli c2_i32_20 v44
  let v46 : BitVec 32 := Scalar.subi v34 v45
  let v50 : BitVec 32 := Scalar.addi v49 v46
  let c1_i32_483 : BitVec 32 := 1#32
  let v627 : BitVec 32 := Scalar.muli v50 c1_i32_483
  let v628 : BitVec 32 := Scalar.addi c0_i32_484 v627
  v628.toNat
def k0_dev31 (d0 : Dev nD) : Nat :=
  let c0_i32_516 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_24 : BitVec 32 := 4#32
  let v51 : BitVec 32 := Scalar.muli v19 c4_i32_24
  let c3_i32_21 : BitVec 32 := 3#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v47 : BitVec 32 := Scalar.subi c3_i32_21 v29
  let v52 : BitVec 32 := Scalar.addi v51 v47
  let c1_i32_515 : BitVec 32 := 1#32
  let v670 : BitVec 32 := Scalar.muli v52 c1_i32_515
  let v671 : BitVec 32 := Scalar.addi c0_i32_516 v670
  v671.toNat
def k0_dev32 (d0 : Dev nD) : Nat :=
  let c0_i32_540 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_23 : BitVec 32 := 4#32
  let v49 : BitVec 32 := Scalar.muli v19 c4_i32_23
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_13 : BitVec 32 := 1#32
  let v34 : BitVec 32 := Scalar.addi v29 c1_i32_13
  let c2_i32_20 : BitVec 32 := 2#32
  let c2_i32_14 : BitVec 32 := 2#32
  let c0_i32_15 : BitVec 32 := 0#32
  let v35 : BitVec 1 := Scalar.cmpi .eq c2_i32_14 c0_i32_15
  let c1_i32_16 : BitVec 32 := 1#32
  let v36 : BitVec 32 := Scalar.select v35 c1_i32_16 c2_i32_14
  let v37 : BitVec 32 := Scalar.remsi v29 v36
  let c0_i32_18 : BitVec 32 := 0#32
  let v39 : BitVec 1 := Scalar.cmpi .slt v37 c0_i32_18
  let c0_i32_19 : BitVec 32 := 0#32
  let v40 : BitVec 1 := Scalar.cmpi .slt v36 c0_i32_19
  let v41 : BitVec 1 := Scalar.xori v39 v40
  let c0_i32_17 : BitVec 32 := 0#32
  let v38 : BitVec 1 := Scalar.cmpi .ne v37 c0_i32_17
  let v42 : BitVec 1 := Scalar.andi v41 v38
  let v43 : BitVec 32 := Scalar.addi v37 v36
  let v44 : BitVec 32 := Scalar.select v42 v43 v37
  let v45 : BitVec 32 := Scalar.muli c2_i32_20 v44
  let v46 : BitVec 32 := Scalar.subi v34 v45
  let v50 : BitVec 32 := Scalar.addi v49 v46
  let c1_i32_539 : BitVec 32 := 1#32
  let v701 : BitVec 32 := Scalar.muli v50 c1_i32_539
  let v702 : BitVec 32 := Scalar.addi c0_i32_540 v701
  v702.toNat
def k0_dev33 (d0 : Dev nD) : Nat :=
  let c0_i32_572 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_24 : BitVec 32 := 4#32
  let v51 : BitVec 32 := Scalar.muli v19 c4_i32_24
  let c3_i32_21 : BitVec 32 := 3#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v47 : BitVec 32 := Scalar.subi c3_i32_21 v29
  let v52 : BitVec 32 := Scalar.addi v51 v47
  let c1_i32_571 : BitVec 32 := 1#32
  let v744 : BitVec 32 := Scalar.muli v52 c1_i32_571
  let v745 : BitVec 32 := Scalar.addi c0_i32_572 v744
  v745.toNat
def k0_dev34 (d0 : Dev nD) : Nat :=
  let c0_i32_596 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_23 : BitVec 32 := 4#32
  let v49 : BitVec 32 := Scalar.muli v19 c4_i32_23
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_13 : BitVec 32 := 1#32
  let v34 : BitVec 32 := Scalar.addi v29 c1_i32_13
  let c2_i32_20 : BitVec 32 := 2#32
  let c2_i32_14 : BitVec 32 := 2#32
  let c0_i32_15 : BitVec 32 := 0#32
  let v35 : BitVec 1 := Scalar.cmpi .eq c2_i32_14 c0_i32_15
  let c1_i32_16 : BitVec 32 := 1#32
  let v36 : BitVec 32 := Scalar.select v35 c1_i32_16 c2_i32_14
  let v37 : BitVec 32 := Scalar.remsi v29 v36
  let c0_i32_18 : BitVec 32 := 0#32
  let v39 : BitVec 1 := Scalar.cmpi .slt v37 c0_i32_18
  let c0_i32_19 : BitVec 32 := 0#32
  let v40 : BitVec 1 := Scalar.cmpi .slt v36 c0_i32_19
  let v41 : BitVec 1 := Scalar.xori v39 v40
  let c0_i32_17 : BitVec 32 := 0#32
  let v38 : BitVec 1 := Scalar.cmpi .ne v37 c0_i32_17
  let v42 : BitVec 1 := Scalar.andi v41 v38
  let v43 : BitVec 32 := Scalar.addi v37 v36
  let v44 : BitVec 32 := Scalar.select v42 v43 v37
  let v45 : BitVec 32 := Scalar.muli c2_i32_20 v44
  let v46 : BitVec 32 := Scalar.subi v34 v45
  let v50 : BitVec 32 := Scalar.addi v49 v46
  let c1_i32_595 : BitVec 32 := 1#32
  let v775 : BitVec 32 := Scalar.muli v50 c1_i32_595
  let v776 : BitVec 32 := Scalar.addi c0_i32_596 v775
  v776.toNat
def k0_off17 (d0 : Dev nD) (c1_i32_601 : BitVec 32) (c0_i32_626 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32 : BitVec 32 := 2#32
  let v30 : BitVec 1 := Scalar.cmpi .eq v19 c2_i32
  let c3_i32_12 : BitVec 32 := 3#32
  let c3_i32 : BitVec 32 := 3#32
  let v31 : BitVec 1 := Scalar.cmpi .eq v19 c3_i32
  let c2_i32_11 : BitVec 32 := 2#32
  let v32 : BitVec 32 := Scalar.select v31 c2_i32_11 v19
  let v33 : BitVec 32 := Scalar.select v30 c3_i32_12 v32
  let v785 : BitVec 32 := Scalar.subi v33 c1_i32_601
  let c1_i32_602 : BitVec 32 := 1#32
  let v786 : BitVec 32 := Scalar.subi v785 c1_i32_602
  let c4_i32_603 : BitVec 32 := 4#32
  let c0_i32_604 : BitVec 32 := 0#32
  let v787 : BitVec 1 := Scalar.cmpi .eq c4_i32_603 c0_i32_604
  let c1_i32_605 : BitVec 32 := 1#32
  let v788 : BitVec 32 := Scalar.select v787 c1_i32_605 c4_i32_603
  let v789 : BitVec 32 := Scalar.remsi v786 v788
  let c0_i32_607 : BitVec 32 := 0#32
  let v791 : BitVec 1 := Scalar.cmpi .slt v789 c0_i32_607
  let c0_i32_608 : BitVec 32 := 0#32
  let v792 : BitVec 1 := Scalar.cmpi .slt v788 c0_i32_608
  let v793 : BitVec 1 := Scalar.xori v791 v792
  let c0_i32_606 : BitVec 32 := 0#32
  let v790 : BitVec 1 := Scalar.cmpi .ne v789 c0_i32_606
  let v794 : BitVec 1 := Scalar.andi v793 v790
  let v795 : BitVec 32 := Scalar.addi v789 v788
  let v796 : BitVec 32 := Scalar.select v794 v795 v789
  let c2_i32_609 : BitVec 32 := 2#32
  let v797 : BitVec 1 := Scalar.cmpi .eq v796 c2_i32_609
  let c3_i32_612 : BitVec 32 := 3#32
  let c3_i32_610 : BitVec 32 := 3#32
  let v798 : BitVec 1 := Scalar.cmpi .eq v796 c3_i32_610
  let c2_i32_611 : BitVec 32 := 2#32
  let v799 : BitVec 32 := Scalar.select v798 c2_i32_611 v796
  let v800 : BitVec 32 := Scalar.select v797 c3_i32_612 v799
  let c256_i32_625 : BitVec 32 := 256#32
  let v817 : BitVec 32 := Scalar.muli v800 c256_i32_625
  let v818 : BitVec 32 := Scalar.addi v817 c0_i32_626
  let v837 : Index := Scalar.indexCast v818
  let c512 : Index := 512#32
  ![v837.toNat, 512]
def k0_off18 (d0 : Dev nD) (c1_i32_613 : BitVec 32) (c0_i32_628 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32 : BitVec 32 := 2#32
  let v30 : BitVec 1 := Scalar.cmpi .eq v19 c2_i32
  let c3_i32_12 : BitVec 32 := 3#32
  let c3_i32 : BitVec 32 := 3#32
  let v31 : BitVec 1 := Scalar.cmpi .eq v19 c3_i32
  let c2_i32_11 : BitVec 32 := 2#32
  let v32 : BitVec 32 := Scalar.select v31 c2_i32_11 v19
  let v33 : BitVec 32 := Scalar.select v30 c3_i32_12 v32
  let v801 : BitVec 32 := Scalar.addi v33 c1_i32_613
  let c1_i32_614 : BitVec 32 := 1#32
  let v802 : BitVec 32 := Scalar.addi v801 c1_i32_614
  let c4_i32_615 : BitVec 32 := 4#32
  let c0_i32_616 : BitVec 32 := 0#32
  let v803 : BitVec 1 := Scalar.cmpi .eq c4_i32_615 c0_i32_616
  let c1_i32_617 : BitVec 32 := 1#32
  let v804 : BitVec 32 := Scalar.select v803 c1_i32_617 c4_i32_615
  let v805 : BitVec 32 := Scalar.remsi v802 v804
  let c0_i32_619 : BitVec 32 := 0#32
  let v807 : BitVec 1 := Scalar.cmpi .slt v805 c0_i32_619
  let c0_i32_620 : BitVec 32 := 0#32
  let v808 : BitVec 1 := Scalar.cmpi .slt v804 c0_i32_620
  let v809 : BitVec 1 := Scalar.xori v807 v808
  let c0_i32_618 : BitVec 32 := 0#32
  let v806 : BitVec 1 := Scalar.cmpi .ne v805 c0_i32_618
  let v810 : BitVec 1 := Scalar.andi v809 v806
  let v811 : BitVec 32 := Scalar.addi v805 v804
  let v812 : BitVec 32 := Scalar.select v810 v811 v805
  let c2_i32_621 : BitVec 32 := 2#32
  let v813 : BitVec 1 := Scalar.cmpi .eq v812 c2_i32_621
  let c3_i32_624 : BitVec 32 := 3#32
  let c3_i32_622 : BitVec 32 := 3#32
  let v814 : BitVec 1 := Scalar.cmpi .eq v812 c3_i32_622
  let c2_i32_623 : BitVec 32 := 2#32
  let v815 : BitVec 32 := Scalar.select v814 c2_i32_623 v812
  let v816 : BitVec 32 := Scalar.select v813 c3_i32_624 v815
  let c256_i32_627 : BitVec 32 := 256#32
  let v819 : BitVec 32 := Scalar.muli v816 c256_i32_627
  let v820 : BitVec 32 := Scalar.addi v819 c0_i32_628
  let v845 : Index := Scalar.indexCast v820
  let c768 : Index := 768#32
  ![v845.toNat, 768]
def k0_dev35 (d0 : Dev nD) : Nat :=
  let c0_i32_681 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32 : BitVec 32 := 2#32
  let v30 : BitVec 1 := Scalar.cmpi .eq v19 c2_i32
  let c3_i32_12 : BitVec 32 := 3#32
  let c3_i32 : BitVec 32 := 3#32
  let v31 : BitVec 1 := Scalar.cmpi .eq v19 c3_i32
  let c2_i32_11 : BitVec 32 := 2#32
  let v32 : BitVec 32 := Scalar.select v31 c2_i32_11 v19
  let v33 : BitVec 32 := Scalar.select v30 c3_i32_12 v32
  let c1_i32_26 : BitVec 32 := 1#32
  let v55 : BitVec 32 := Scalar.addi v33 c1_i32_26
  let c4_i32_27 : BitVec 32 := 4#32
  let c0_i32_28 : BitVec 32 := 0#32
  let v56 : BitVec 1 := Scalar.cmpi .eq c4_i32_27 c0_i32_28
  let c1_i32_29 : BitVec 32 := 1#32
  let v57 : BitVec 32 := Scalar.select v56 c1_i32_29 c4_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  let c2_i32_33 : BitVec 32 := 2#32
  let v66 : BitVec 1 := Scalar.cmpi .eq v65 c2_i32_33
  let c3_i32_36 : BitVec 32 := 3#32
  let c3_i32_34 : BitVec 32 := 3#32
  let v67 : BitVec 1 := Scalar.cmpi .eq v65 c3_i32_34
  let c2_i32_35 : BitVec 32 := 2#32
  let v68 : BitVec 32 := Scalar.select v67 c2_i32_35 v65
  let v69 : BitVec 32 := Scalar.select v66 c3_i32_36 v68
  let c4_i32_37 : BitVec 32 := 4#32
  let v70 : BitVec 32 := Scalar.muli v69 c4_i32_37
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v71 : BitVec 32 := Scalar.addi v70 v29
  let c1_i32_680 : BitVec 32 := 1#32
  let v853 : BitVec 32 := Scalar.muli v71 c1_i32_680
  let v854 : BitVec 32 := Scalar.addi c0_i32_681 v853
  v854.toNat
def k0_dev36 (d0 : Dev nD) : Nat :=
  let c0_i32_695 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32 : BitVec 32 := 2#32
  let v30 : BitVec 1 := Scalar.cmpi .eq v19 c2_i32
  let c3_i32_12 : BitVec 32 := 3#32
  let c3_i32 : BitVec 32 := 3#32
  let v31 : BitVec 1 := Scalar.cmpi .eq v19 c3_i32
  let c2_i32_11 : BitVec 32 := 2#32
  let v32 : BitVec 32 := Scalar.select v31 c2_i32_11 v19
  let v33 : BitVec 32 := Scalar.select v30 c3_i32_12 v32
  let c1_i32_38 : BitVec 32 := 1#32
  let v72 : BitVec 32 := Scalar.subi v33 c1_i32_38
  let c4_i32_39 : BitVec 32 := 4#32
  let c0_i32_40 : BitVec 32 := 0#32
  let v73 : BitVec 1 := Scalar.cmpi .eq c4_i32_39 c0_i32_40
  let c1_i32_41 : BitVec 32 := 1#32
  let v74 : BitVec 32 := Scalar.select v73 c1_i32_41 c4_i32_39
  let v75 : BitVec 32 := Scalar.remsi v72 v74
  let c0_i32_43 : BitVec 32 := 0#32
  let v77 : BitVec 1 := Scalar.cmpi .slt v75 c0_i32_43
  let c0_i32_44 : BitVec 32 := 0#32
  let v78 : BitVec 1 := Scalar.cmpi .slt v74 c0_i32_44
  let v79 : BitVec 1 := Scalar.xori v77 v78
  let c0_i32_42 : BitVec 32 := 0#32
  let v76 : BitVec 1 := Scalar.cmpi .ne v75 c0_i32_42
  let v80 : BitVec 1 := Scalar.andi v79 v76
  let v81 : BitVec 32 := Scalar.addi v75 v74
  let v82 : BitVec 32 := Scalar.select v80 v81 v75
  let c2_i32_45 : BitVec 32 := 2#32
  let v83 : BitVec 1 := Scalar.cmpi .eq v82 c2_i32_45
  let c3_i32_48 : BitVec 32 := 3#32
  let c3_i32_46 : BitVec 32 := 3#32
  let v84 : BitVec 1 := Scalar.cmpi .eq v82 c3_i32_46
  let c2_i32_47 : BitVec 32 := 2#32
  let v85 : BitVec 32 := Scalar.select v84 c2_i32_47 v82
  let v86 : BitVec 32 := Scalar.select v83 c3_i32_48 v85
  let c4_i32_49 : BitVec 32 := 4#32
  let v87 : BitVec 32 := Scalar.muli v86 c4_i32_49
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v88 : BitVec 32 := Scalar.addi v87 v29
  let c1_i32_694 : BitVec 32 := 1#32
  let v863 : BitVec 32 := Scalar.muli v88 c1_i32_694
  let v864 : BitVec 32 := Scalar.addi c0_i32_695 v863
  v864.toNat
def k0_dev37 (d0 : Dev nD) : Nat :=
  let c0_i32_759 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32 : BitVec 32 := 2#32
  let v30 : BitVec 1 := Scalar.cmpi .eq v19 c2_i32
  let c3_i32_12 : BitVec 32 := 3#32
  let c3_i32 : BitVec 32 := 3#32
  let v31 : BitVec 1 := Scalar.cmpi .eq v19 c3_i32
  let c2_i32_11 : BitVec 32 := 2#32
  let v32 : BitVec 32 := Scalar.select v31 c2_i32_11 v19
  let v33 : BitVec 32 := Scalar.select v30 c3_i32_12 v32
  let c1_i32_26 : BitVec 32 := 1#32
  let v55 : BitVec 32 := Scalar.addi v33 c1_i32_26
  let c4_i32_27 : BitVec 32 := 4#32
  let c0_i32_28 : BitVec 32 := 0#32
  let v56 : BitVec 1 := Scalar.cmpi .eq c4_i32_27 c0_i32_28
  let c1_i32_29 : BitVec 32 := 1#32
  let v57 : BitVec 32 := Scalar.select v56 c1_i32_29 c4_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  let c2_i32_33 : BitVec 32 := 2#32
  let v66 : BitVec 1 := Scalar.cmpi .eq v65 c2_i32_33
  let c3_i32_36 : BitVec 32 := 3#32
  let c3_i32_34 : BitVec 32 := 3#32
  let v67 : BitVec 1 := Scalar.cmpi .eq v65 c3_i32_34
  let c2_i32_35 : BitVec 32 := 2#32
  let v68 : BitVec 32 := Scalar.select v67 c2_i32_35 v65
  let v69 : BitVec 32 := Scalar.select v66 c3_i32_36 v68
  let c4_i32_37 : BitVec 32 := 4#32
  let v70 : BitVec 32 := Scalar.muli v69 c4_i32_37
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v71 : BitVec 32 := Scalar.addi v70 v29
  let c1_i32_758 : BitVec 32 := 1#32
  let v909 : BitVec 32 := Scalar.muli v71 c1_i32_758
  let v910 : BitVec 32 := Scalar.addi c0_i32_759 v909
  v910.toNat
def k0_dev38 (d0 : Dev nD) : Nat :=
  let c0_i32_773 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32 : BitVec 32 := 2#32
  let v30 : BitVec 1 := Scalar.cmpi .eq v19 c2_i32
  let c3_i32_12 : BitVec 32 := 3#32
  let c3_i32 : BitVec 32 := 3#32
  let v31 : BitVec 1 := Scalar.cmpi .eq v19 c3_i32
  let c2_i32_11 : BitVec 32 := 2#32
  let v32 : BitVec 32 := Scalar.select v31 c2_i32_11 v19
  let v33 : BitVec 32 := Scalar.select v30 c3_i32_12 v32
  let c1_i32_38 : BitVec 32 := 1#32
  let v72 : BitVec 32 := Scalar.subi v33 c1_i32_38
  let c4_i32_39 : BitVec 32 := 4#32
  let c0_i32_40 : BitVec 32 := 0#32
  let v73 : BitVec 1 := Scalar.cmpi .eq c4_i32_39 c0_i32_40
  let c1_i32_41 : BitVec 32 := 1#32
  let v74 : BitVec 32 := Scalar.select v73 c1_i32_41 c4_i32_39
  let v75 : BitVec 32 := Scalar.remsi v72 v74
  let c0_i32_43 : BitVec 32 := 0#32
  let v77 : BitVec 1 := Scalar.cmpi .slt v75 c0_i32_43
  let c0_i32_44 : BitVec 32 := 0#32
  let v78 : BitVec 1 := Scalar.cmpi .slt v74 c0_i32_44
  let v79 : BitVec 1 := Scalar.xori v77 v78
  let c0_i32_42 : BitVec 32 := 0#32
  let v76 : BitVec 1 := Scalar.cmpi .ne v75 c0_i32_42
  let v80 : BitVec 1 := Scalar.andi v79 v76
  let v81 : BitVec 32 := Scalar.addi v75 v74
  let v82 : BitVec 32 := Scalar.select v80 v81 v75
  let c2_i32_45 : BitVec 32 := 2#32
  let v83 : BitVec 1 := Scalar.cmpi .eq v82 c2_i32_45
  let c3_i32_48 : BitVec 32 := 3#32
  let c3_i32_46 : BitVec 32 := 3#32
  let v84 : BitVec 1 := Scalar.cmpi .eq v82 c3_i32_46
  let c2_i32_47 : BitVec 32 := 2#32
  let v85 : BitVec 32 := Scalar.select v84 c2_i32_47 v82
  let v86 : BitVec 32 := Scalar.select v83 c3_i32_48 v85
  let c4_i32_49 : BitVec 32 := 4#32
  let v87 : BitVec 32 := Scalar.muli v86 c4_i32_49
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v88 : BitVec 32 := Scalar.addi v87 v29
  let c1_i32_772 : BitVec 32 := 1#32
  let v919 : BitVec 32 := Scalar.muli v88 c1_i32_772
  let v920 : BitVec 32 := Scalar.addi c0_i32_773 v919
  v920.toNat
def k0_dev39 (d0 : Dev nD) : Nat :=
  let c0_i32_860 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32 : BitVec 32 := 2#32
  let v30 : BitVec 1 := Scalar.cmpi .eq v19 c2_i32
  let c3_i32_12 : BitVec 32 := 3#32
  let c3_i32 : BitVec 32 := 3#32
  let v31 : BitVec 1 := Scalar.cmpi .eq v19 c3_i32
  let c2_i32_11 : BitVec 32 := 2#32
  let v32 : BitVec 32 := Scalar.select v31 c2_i32_11 v19
  let v33 : BitVec 32 := Scalar.select v30 c3_i32_12 v32
  let c1_i32_26 : BitVec 32 := 1#32
  let v55 : BitVec 32 := Scalar.addi v33 c1_i32_26
  let c4_i32_27 : BitVec 32 := 4#32
  let c0_i32_28 : BitVec 32 := 0#32
  let v56 : BitVec 1 := Scalar.cmpi .eq c4_i32_27 c0_i32_28
  let c1_i32_29 : BitVec 32 := 1#32
  let v57 : BitVec 32 := Scalar.select v56 c1_i32_29 c4_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  let c2_i32_33 : BitVec 32 := 2#32
  let v66 : BitVec 1 := Scalar.cmpi .eq v65 c2_i32_33
  let c3_i32_36 : BitVec 32 := 3#32
  let c3_i32_34 : BitVec 32 := 3#32
  let v67 : BitVec 1 := Scalar.cmpi .eq v65 c3_i32_34
  let c2_i32_35 : BitVec 32 := 2#32
  let v68 : BitVec 32 := Scalar.select v67 c2_i32_35 v65
  let v69 : BitVec 32 := Scalar.select v66 c3_i32_36 v68
  let c4_i32_37 : BitVec 32 := 4#32
  let v70 : BitVec 32 := Scalar.muli v69 c4_i32_37
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v71 : BitVec 32 := Scalar.addi v70 v29
  let c1_i32_859 : BitVec 32 := 1#32
  let v997 : BitVec 32 := Scalar.muli v71 c1_i32_859
  let v998 : BitVec 32 := Scalar.addi c0_i32_860 v997
  v998.toNat
def k0_dev40 (d0 : Dev nD) : Nat :=
  let c0_i32_874 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32 : BitVec 32 := 2#32
  let v30 : BitVec 1 := Scalar.cmpi .eq v19 c2_i32
  let c3_i32_12 : BitVec 32 := 3#32
  let c3_i32 : BitVec 32 := 3#32
  let v31 : BitVec 1 := Scalar.cmpi .eq v19 c3_i32
  let c2_i32_11 : BitVec 32 := 2#32
  let v32 : BitVec 32 := Scalar.select v31 c2_i32_11 v19
  let v33 : BitVec 32 := Scalar.select v30 c3_i32_12 v32
  let c1_i32_38 : BitVec 32 := 1#32
  let v72 : BitVec 32 := Scalar.subi v33 c1_i32_38
  let c4_i32_39 : BitVec 32 := 4#32
  let c0_i32_40 : BitVec 32 := 0#32
  let v73 : BitVec 1 := Scalar.cmpi .eq c4_i32_39 c0_i32_40
  let c1_i32_41 : BitVec 32 := 1#32
  let v74 : BitVec 32 := Scalar.select v73 c1_i32_41 c4_i32_39
  let v75 : BitVec 32 := Scalar.remsi v72 v74
  let c0_i32_43 : BitVec 32 := 0#32
  let v77 : BitVec 1 := Scalar.cmpi .slt v75 c0_i32_43
  let c0_i32_44 : BitVec 32 := 0#32
  let v78 : BitVec 1 := Scalar.cmpi .slt v74 c0_i32_44
  let v79 : BitVec 1 := Scalar.xori v77 v78
  let c0_i32_42 : BitVec 32 := 0#32
  let v76 : BitVec 1 := Scalar.cmpi .ne v75 c0_i32_42
  let v80 : BitVec 1 := Scalar.andi v79 v76
  let v81 : BitVec 32 := Scalar.addi v75 v74
  let v82 : BitVec 32 := Scalar.select v80 v81 v75
  let c2_i32_45 : BitVec 32 := 2#32
  let v83 : BitVec 1 := Scalar.cmpi .eq v82 c2_i32_45
  let c3_i32_48 : BitVec 32 := 3#32
  let c3_i32_46 : BitVec 32 := 3#32
  let v84 : BitVec 1 := Scalar.cmpi .eq v82 c3_i32_46
  let c2_i32_47 : BitVec 32 := 2#32
  let v85 : BitVec 32 := Scalar.select v84 c2_i32_47 v82
  let v86 : BitVec 32 := Scalar.select v83 c3_i32_48 v85
  let c4_i32_49 : BitVec 32 := 4#32
  let v87 : BitVec 32 := Scalar.muli v86 c4_i32_49
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v88 : BitVec 32 := Scalar.addi v87 v29
  let c1_i32_873 : BitVec 32 := 1#32
  let v1007 : BitVec 32 := Scalar.muli v88 c1_i32_873
  let v1008 : BitVec 32 := Scalar.addi c0_i32_874 v1007
  v1008.toNat
def k0_dev41 (d0 : Dev nD) : Nat :=
  let c0_i32_938 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32 : BitVec 32 := 2#32
  let v30 : BitVec 1 := Scalar.cmpi .eq v19 c2_i32
  let c3_i32_12 : BitVec 32 := 3#32
  let c3_i32 : BitVec 32 := 3#32
  let v31 : BitVec 1 := Scalar.cmpi .eq v19 c3_i32
  let c2_i32_11 : BitVec 32 := 2#32
  let v32 : BitVec 32 := Scalar.select v31 c2_i32_11 v19
  let v33 : BitVec 32 := Scalar.select v30 c3_i32_12 v32
  let c1_i32_26 : BitVec 32 := 1#32
  let v55 : BitVec 32 := Scalar.addi v33 c1_i32_26
  let c4_i32_27 : BitVec 32 := 4#32
  let c0_i32_28 : BitVec 32 := 0#32
  let v56 : BitVec 1 := Scalar.cmpi .eq c4_i32_27 c0_i32_28
  let c1_i32_29 : BitVec 32 := 1#32
  let v57 : BitVec 32 := Scalar.select v56 c1_i32_29 c4_i32_27
  let v58 : BitVec 32 := Scalar.remsi v55 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  let c2_i32_33 : BitVec 32 := 2#32
  let v66 : BitVec 1 := Scalar.cmpi .eq v65 c2_i32_33
  let c3_i32_36 : BitVec 32 := 3#32
  let c3_i32_34 : BitVec 32 := 3#32
  let v67 : BitVec 1 := Scalar.cmpi .eq v65 c3_i32_34
  let c2_i32_35 : BitVec 32 := 2#32
  let v68 : BitVec 32 := Scalar.select v67 c2_i32_35 v65
  let v69 : BitVec 32 := Scalar.select v66 c3_i32_36 v68
  let c4_i32_37 : BitVec 32 := 4#32
  let v70 : BitVec 32 := Scalar.muli v69 c4_i32_37
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v71 : BitVec 32 := Scalar.addi v70 v29
  let c1_i32_937 : BitVec 32 := 1#32
  let v1053 : BitVec 32 := Scalar.muli v71 c1_i32_937
  let v1054 : BitVec 32 := Scalar.addi c0_i32_938 v1053
  v1054.toNat
def k0_dev42 (d0 : Dev nD) : Nat :=
  let c0_i32_952 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32 : BitVec 32 := 2#32
  let v30 : BitVec 1 := Scalar.cmpi .eq v19 c2_i32
  let c3_i32_12 : BitVec 32 := 3#32
  let c3_i32 : BitVec 32 := 3#32
  let v31 : BitVec 1 := Scalar.cmpi .eq v19 c3_i32
  let c2_i32_11 : BitVec 32 := 2#32
  let v32 : BitVec 32 := Scalar.select v31 c2_i32_11 v19
  let v33 : BitVec 32 := Scalar.select v30 c3_i32_12 v32
  let c1_i32_38 : BitVec 32 := 1#32
  let v72 : BitVec 32 := Scalar.subi v33 c1_i32_38
  let c4_i32_39 : BitVec 32 := 4#32
  let c0_i32_40 : BitVec 32 := 0#32
  let v73 : BitVec 1 := Scalar.cmpi .eq c4_i32_39 c0_i32_40
  let c1_i32_41 : BitVec 32 := 1#32
  let v74 : BitVec 32 := Scalar.select v73 c1_i32_41 c4_i32_39
  let v75 : BitVec 32 := Scalar.remsi v72 v74
  let c0_i32_43 : BitVec 32 := 0#32
  let v77 : BitVec 1 := Scalar.cmpi .slt v75 c0_i32_43
  let c0_i32_44 : BitVec 32 := 0#32
  let v78 : BitVec 1 := Scalar.cmpi .slt v74 c0_i32_44
  let v79 : BitVec 1 := Scalar.xori v77 v78
  let c0_i32_42 : BitVec 32 := 0#32
  let v76 : BitVec 1 := Scalar.cmpi .ne v75 c0_i32_42
  let v80 : BitVec 1 := Scalar.andi v79 v76
  let v81 : BitVec 32 := Scalar.addi v75 v74
  let v82 : BitVec 32 := Scalar.select v80 v81 v75
  let c2_i32_45 : BitVec 32 := 2#32
  let v83 : BitVec 1 := Scalar.cmpi .eq v82 c2_i32_45
  let c3_i32_48 : BitVec 32 := 3#32
  let c3_i32_46 : BitVec 32 := 3#32
  let v84 : BitVec 1 := Scalar.cmpi .eq v82 c3_i32_46
  let c2_i32_47 : BitVec 32 := 2#32
  let v85 : BitVec 32 := Scalar.select v84 c2_i32_47 v82
  let v86 : BitVec 32 := Scalar.select v83 c3_i32_48 v85
  let c4_i32_49 : BitVec 32 := 4#32
  let v87 : BitVec 32 := Scalar.muli v86 c4_i32_49
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v88 : BitVec 32 := Scalar.addi v87 v29
  let c1_i32_951 : BitVec 32 := 1#32
  let v1063 : BitVec 32 := Scalar.muli v88 c1_i32_951
  let v1064 : BitVec 32 := Scalar.addi c0_i32_952 v1063
  v1064.toNat
def k0_off19 (d0 : Dev nD) (c1_i32_957 : BitVec 32) : Fin 2 → Nat :=
  let c1_i32_966 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v1073 : BitVec 32 := Scalar.addi v19 c1_i32_957
  let c4_i32_958 : BitVec 32 := 4#32
  let c0_i32_959 : BitVec 32 := 0#32
  let v1074 : BitVec 1 := Scalar.cmpi .eq c4_i32_958 c0_i32_959
  let c1_i32_960 : BitVec 32 := 1#32
  let v1075 : BitVec 32 := Scalar.select v1074 c1_i32_960 c4_i32_958
  let v1076 : BitVec 32 := Scalar.remsi v1073 v1075
  let c0_i32_962 : BitVec 32 := 0#32
  let v1078 : BitVec 1 := Scalar.cmpi .slt v1076 c0_i32_962
  let c0_i32_963 : BitVec 32 := 0#32
  let v1079 : BitVec 1 := Scalar.cmpi .slt v1075 c0_i32_963
  let v1080 : BitVec 1 := Scalar.xori v1078 v1079
  let c0_i32_961 : BitVec 32 := 0#32
  let v1077 : BitVec 1 := Scalar.cmpi .ne v1076 c0_i32_961
  let v1081 : BitVec 1 := Scalar.andi v1080 v1077
  let v1082 : BitVec 32 := Scalar.addi v1076 v1075
  let v1083 : BitVec 32 := Scalar.select v1081 v1082 v1076
  ![1, v1083.toNat]
def k0_off20 (d0 : Dev nD) (c1_i32_957 : BitVec 32) : Fin 4 → Nat :=
  let c1_i32_965 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v1073 : BitVec 32 := Scalar.addi v19 c1_i32_957
  let c4_i32_958 : BitVec 32 := 4#32
  let c0_i32_959 : BitVec 32 := 0#32
  let v1074 : BitVec 1 := Scalar.cmpi .eq c4_i32_958 c0_i32_959
  let c1_i32_960 : BitVec 32 := 1#32
  let v1075 : BitVec 32 := Scalar.select v1074 c1_i32_960 c4_i32_958
  let v1076 : BitVec 32 := Scalar.remsi v1073 v1075
  let c0_i32_962 : BitVec 32 := 0#32
  let v1078 : BitVec 1 := Scalar.cmpi .slt v1076 c0_i32_962
  let c0_i32_963 : BitVec 32 := 0#32
  let v1079 : BitVec 1 := Scalar.cmpi .slt v1075 c0_i32_963
  let v1080 : BitVec 1 := Scalar.xori v1078 v1079
  let c0_i32_961 : BitVec 32 := 0#32
  let v1077 : BitVec 1 := Scalar.cmpi .ne v1076 c0_i32_961
  let v1081 : BitVec 1 := Scalar.andi v1080 v1077
  let v1082 : BitVec 32 := Scalar.addi v1076 v1075
  let v1083 : BitVec 32 := Scalar.select v1081 v1082 v1076
  let c0_i32_970 : BitVec 32 := 0#32
  let c0_i32_971 : BitVec 32 := 0#32
  ![1, v1083.toNat, 0, 0]
def k0_off21 (d0 : Dev nD) (c1_i32_957 : BitVec 32) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v1073 : BitVec 32 := Scalar.addi v19 c1_i32_957
  let c4_i32_958 : BitVec 32 := 4#32
  let c0_i32_959 : BitVec 32 := 0#32
  let v1074 : BitVec 1 := Scalar.cmpi .eq c4_i32_958 c0_i32_959
  let c1_i32_960 : BitVec 32 := 1#32
  let v1075 : BitVec 32 := Scalar.select v1074 c1_i32_960 c4_i32_958
  let v1076 : BitVec 32 := Scalar.remsi v1073 v1075
  let c0_i32_962 : BitVec 32 := 0#32
  let v1078 : BitVec 1 := Scalar.cmpi .slt v1076 c0_i32_962
  let c0_i32_963 : BitVec 32 := 0#32
  let v1079 : BitVec 1 := Scalar.cmpi .slt v1075 c0_i32_963
  let v1080 : BitVec 1 := Scalar.xori v1078 v1079
  let c0_i32_961 : BitVec 32 := 0#32
  let v1077 : BitVec 1 := Scalar.cmpi .ne v1076 c0_i32_961
  let v1081 : BitVec 1 := Scalar.andi v1080 v1077
  let v1082 : BitVec 32 := Scalar.addi v1076 v1075
  let v1083 : BitVec 32 := Scalar.select v1081 v1082 v1076
  ![v1083.toNat]
def k0_off22 (d0 : Dev nD) (c1_i32_957 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v1073 : BitVec 32 := Scalar.addi v19 c1_i32_957
  let c4_i32_958 : BitVec 32 := 4#32
  let c0_i32_959 : BitVec 32 := 0#32
  let v1074 : BitVec 1 := Scalar.cmpi .eq c4_i32_958 c0_i32_959
  let c1_i32_960 : BitVec 32 := 1#32
  let v1075 : BitVec 32 := Scalar.select v1074 c1_i32_960 c4_i32_958
  let v1076 : BitVec 32 := Scalar.remsi v1073 v1075
  let c0_i32_962 : BitVec 32 := 0#32
  let v1078 : BitVec 1 := Scalar.cmpi .slt v1076 c0_i32_962
  let c0_i32_963 : BitVec 32 := 0#32
  let v1079 : BitVec 1 := Scalar.cmpi .slt v1075 c0_i32_963
  let v1080 : BitVec 1 := Scalar.xori v1078 v1079
  let c0_i32_961 : BitVec 32 := 0#32
  let v1077 : BitVec 1 := Scalar.cmpi .ne v1076 c0_i32_961
  let v1081 : BitVec 1 := Scalar.andi v1080 v1077
  let v1082 : BitVec 32 := Scalar.addi v1076 v1075
  let v1083 : BitVec 32 := Scalar.select v1081 v1082 v1076
  let c0_i32_986 : BitVec 32 := 0#32
  let c0_i32_987 : BitVec 32 := 0#32
  ![v1083.toNat, 0, 0]
def k0_off23 (d0 : Dev nD) (c1_i32_957 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v1073 : BitVec 32 := Scalar.addi v19 c1_i32_957
  let c4_i32_958 : BitVec 32 := 4#32
  let c0_i32_959 : BitVec 32 := 0#32
  let v1074 : BitVec 1 := Scalar.cmpi .eq c4_i32_958 c0_i32_959
  let c1_i32_960 : BitVec 32 := 1#32
  let v1075 : BitVec 32 := Scalar.select v1074 c1_i32_960 c4_i32_958
  let v1076 : BitVec 32 := Scalar.remsi v1073 v1075
  let c0_i32_962 : BitVec 32 := 0#32
  let v1078 : BitVec 1 := Scalar.cmpi .slt v1076 c0_i32_962
  let c0_i32_963 : BitVec 32 := 0#32
  let v1079 : BitVec 1 := Scalar.cmpi .slt v1075 c0_i32_963
  let v1080 : BitVec 1 := Scalar.xori v1078 v1079
  let c0_i32_961 : BitVec 32 := 0#32
  let v1077 : BitVec 1 := Scalar.cmpi .ne v1076 c0_i32_961
  let v1081 : BitVec 1 := Scalar.andi v1080 v1077
  let v1082 : BitVec 32 := Scalar.addi v1076 v1075
  let v1083 : BitVec 32 := Scalar.select v1081 v1082 v1076
  let c4_i32_997 : BitVec 32 := 4#32
  let v1118 : BitVec 32 := Scalar.muli v1083 c4_i32_997
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v1119 : BitVec 32 := Scalar.addi v1118 v29
  let c64_i32_998 : BitVec 32 := 64#32
  let v1120 : BitVec 32 := Scalar.muli v1119 c64_i32_998
  let v1121 : Index := Scalar.indexCast v1120
  let c0_999 : Index := 0#32
  ![v1121.toNat, 0]
def k0_off24 (d0 : Dev nD) (c1_i32_957 : BitVec 32) : Fin 4 → Nat :=
  let c1_1000 : Index := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v1073 : BitVec 32 := Scalar.addi v19 c1_i32_957
  let c4_i32_958 : BitVec 32 := 4#32
  let c0_i32_959 : BitVec 32 := 0#32
  let v1074 : BitVec 1 := Scalar.cmpi .eq c4_i32_958 c0_i32_959
  let c1_i32_960 : BitVec 32 := 1#32
  let v1075 : BitVec 32 := Scalar.select v1074 c1_i32_960 c4_i32_958
  let v1076 : BitVec 32 := Scalar.remsi v1073 v1075
  let c0_i32_962 : BitVec 32 := 0#32
  let v1078 : BitVec 1 := Scalar.cmpi .slt v1076 c0_i32_962
  let c0_i32_963 : BitVec 32 := 0#32
  let v1079 : BitVec 1 := Scalar.cmpi .slt v1075 c0_i32_963
  let v1080 : BitVec 1 := Scalar.xori v1078 v1079
  let c0_i32_961 : BitVec 32 := 0#32
  let v1077 : BitVec 1 := Scalar.cmpi .ne v1076 c0_i32_961
  let v1081 : BitVec 1 := Scalar.andi v1080 v1077
  let v1082 : BitVec 32 := Scalar.addi v1076 v1075
  let v1083 : BitVec 32 := Scalar.select v1081 v1082 v1076
  let v1123 : Index := Scalar.indexCast v1083
  let c0_1001 : Index := 0#32
  let c0_1002 : Index := 0#32
  ![1, v1123.toNat, 0, 0]
def k0_off25 (d0 : Dev nD) (c1_i32_957 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v1073 : BitVec 32 := Scalar.addi v19 c1_i32_957
  let c4_i32_958 : BitVec 32 := 4#32
  let c0_i32_959 : BitVec 32 := 0#32
  let v1074 : BitVec 1 := Scalar.cmpi .eq c4_i32_958 c0_i32_959
  let c1_i32_960 : BitVec 32 := 1#32
  let v1075 : BitVec 32 := Scalar.select v1074 c1_i32_960 c4_i32_958
  let v1076 : BitVec 32 := Scalar.remsi v1073 v1075
  let c0_i32_962 : BitVec 32 := 0#32
  let v1078 : BitVec 1 := Scalar.cmpi .slt v1076 c0_i32_962
  let c0_i32_963 : BitVec 32 := 0#32
  let v1079 : BitVec 1 := Scalar.cmpi .slt v1075 c0_i32_963
  let v1080 : BitVec 1 := Scalar.xori v1078 v1079
  let c0_i32_961 : BitVec 32 := 0#32
  let v1077 : BitVec 1 := Scalar.cmpi .ne v1076 c0_i32_961
  let v1081 : BitVec 1 := Scalar.andi v1080 v1077
  let v1082 : BitVec 32 := Scalar.addi v1076 v1075
  let v1083 : BitVec 32 := Scalar.select v1081 v1082 v1076
  let v1127 : Index := Scalar.indexCast v1083
  let c0_1003 : Index := 0#32
  let c0_1004 : Index := 0#32
  ![v1127.toNat, 0, 0]
def k0_off26 (d0 : Dev nD) (c1_i32_957 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v1073 : BitVec 32 := Scalar.addi v19 c1_i32_957
  let c4_i32_958 : BitVec 32 := 4#32
  let c0_i32_959 : BitVec 32 := 0#32
  let v1074 : BitVec 1 := Scalar.cmpi .eq c4_i32_958 c0_i32_959
  let c1_i32_960 : BitVec 32 := 1#32
  let v1075 : BitVec 32 := Scalar.select v1074 c1_i32_960 c4_i32_958
  let v1076 : BitVec 32 := Scalar.remsi v1073 v1075
  let c0_i32_962 : BitVec 32 := 0#32
  let v1078 : BitVec 1 := Scalar.cmpi .slt v1076 c0_i32_962
  let c0_i32_963 : BitVec 32 := 0#32
  let v1079 : BitVec 1 := Scalar.cmpi .slt v1075 c0_i32_963
  let v1080 : BitVec 1 := Scalar.xori v1078 v1079
  let c0_i32_961 : BitVec 32 := 0#32
  let v1077 : BitVec 1 := Scalar.cmpi .ne v1076 c0_i32_961
  let v1081 : BitVec 1 := Scalar.andi v1080 v1077
  let v1082 : BitVec 32 := Scalar.addi v1076 v1075
  let v1083 : BitVec 32 := Scalar.select v1081 v1082 v1076
  let c4_i32_997 : BitVec 32 := 4#32
  let v1118 : BitVec 32 := Scalar.muli v1083 c4_i32_997
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v1119 : BitVec 32 := Scalar.addi v1118 v29
  let c64_i32_998 : BitVec 32 := 64#32
  let v1120 : BitVec 32 := Scalar.muli v1119 c64_i32_998
  let v1134 : Index := Scalar.indexCast v1120
  let c256_1008 : Index := 256#32
  ![v1134.toNat, 256]
def k0_dev43 (d0 : Dev nD) : Nat :=
  let c0_i32_1022 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_957 : BitVec 32 := 1#32
  let v1073 : BitVec 32 := Scalar.addi v19 c1_i32_957
  let c4_i32_958 : BitVec 32 := 4#32
  let c0_i32_959 : BitVec 32 := 0#32
  let v1074 : BitVec 1 := Scalar.cmpi .eq c4_i32_958 c0_i32_959
  let c1_i32_960 : BitVec 32 := 1#32
  let v1075 : BitVec 32 := Scalar.select v1074 c1_i32_960 c4_i32_958
  let v1076 : BitVec 32 := Scalar.remsi v1073 v1075
  let c0_i32_962 : BitVec 32 := 0#32
  let v1078 : BitVec 1 := Scalar.cmpi .slt v1076 c0_i32_962
  let c0_i32_963 : BitVec 32 := 0#32
  let v1079 : BitVec 1 := Scalar.cmpi .slt v1075 c0_i32_963
  let v1080 : BitVec 1 := Scalar.xori v1078 v1079
  let c0_i32_961 : BitVec 32 := 0#32
  let v1077 : BitVec 1 := Scalar.cmpi .ne v1076 c0_i32_961
  let v1081 : BitVec 1 := Scalar.andi v1080 v1077
  let v1082 : BitVec 32 := Scalar.addi v1076 v1075
  let v1083 : BitVec 32 := Scalar.select v1081 v1082 v1076
  let c4_i32_996 : BitVec 32 := 4#32
  let v1116 : BitVec 32 := Scalar.muli v1083 c4_i32_996
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v1117 : BitVec 32 := Scalar.addi v1116 v29
  let c1_i32_1021 : BitVec 32 := 1#32
  let v1147 : BitVec 32 := Scalar.muli v1117 c1_i32_1021
  let v1148 : BitVec 32 := Scalar.addi c0_i32_1022 v1147
  v1148.toNat
def k0_dev44 (d0 : Dev nD) : Nat :=
  let c0_i32_1092 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_1027 : BitVec 32 := 2#32
  let v1157 : BitVec 32 := Scalar.addi v19 c2_i32_1027
  let c4_i32_1028 : BitVec 32 := 4#32
  let c0_i32_1029 : BitVec 32 := 0#32
  let v1158 : BitVec 1 := Scalar.cmpi .eq c4_i32_1028 c0_i32_1029
  let c1_i32_1030 : BitVec 32 := 1#32
  let v1159 : BitVec 32 := Scalar.select v1158 c1_i32_1030 c4_i32_1028
  let v1160 : BitVec 32 := Scalar.remsi v1157 v1159
  let c0_i32_1032 : BitVec 32 := 0#32
  let v1162 : BitVec 1 := Scalar.cmpi .slt v1160 c0_i32_1032
  let c0_i32_1033 : BitVec 32 := 0#32
  let v1163 : BitVec 1 := Scalar.cmpi .slt v1159 c0_i32_1033
  let v1164 : BitVec 1 := Scalar.xori v1162 v1163
  let c0_i32_1031 : BitVec 32 := 0#32
  let v1161 : BitVec 1 := Scalar.cmpi .ne v1160 c0_i32_1031
  let v1165 : BitVec 1 := Scalar.andi v1164 v1161
  let v1166 : BitVec 32 := Scalar.addi v1160 v1159
  let v1167 : BitVec 32 := Scalar.select v1165 v1166 v1160
  let c4_i32_1066 : BitVec 32 := 4#32
  let v1200 : BitVec 32 := Scalar.muli v1167 c4_i32_1066
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v1201 : BitVec 32 := Scalar.addi v1200 v29
  let c1_i32_1091 : BitVec 32 := 1#32
  let v1231 : BitVec 32 := Scalar.muli v1201 c1_i32_1091
  let v1232 : BitVec 32 := Scalar.addi c0_i32_1092 v1231
  v1232.toNat
def k0_dev45 (d0 : Dev nD) : Nat :=
  let c0_i32_1162 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_1097 : BitVec 32 := 3#32
  let v1241 : BitVec 32 := Scalar.addi v19 c3_i32_1097
  let c4_i32_1098 : BitVec 32 := 4#32
  let c0_i32_1099 : BitVec 32 := 0#32
  let v1242 : BitVec 1 := Scalar.cmpi .eq c4_i32_1098 c0_i32_1099
  let c1_i32_1100 : BitVec 32 := 1#32
  let v1243 : BitVec 32 := Scalar.select v1242 c1_i32_1100 c4_i32_1098
  let v1244 : BitVec 32 := Scalar.remsi v1241 v1243
  let c0_i32_1102 : BitVec 32 := 0#32
  let v1246 : BitVec 1 := Scalar.cmpi .slt v1244 c0_i32_1102
  let c0_i32_1103 : BitVec 32 := 0#32
  let v1247 : BitVec 1 := Scalar.cmpi .slt v1243 c0_i32_1103
  let v1248 : BitVec 1 := Scalar.xori v1246 v1247
  let c0_i32_1101 : BitVec 32 := 0#32
  let v1245 : BitVec 1 := Scalar.cmpi .ne v1244 c0_i32_1101
  let v1249 : BitVec 1 := Scalar.andi v1248 v1245
  let v1250 : BitVec 32 := Scalar.addi v1244 v1243
  let v1251 : BitVec 32 := Scalar.select v1249 v1250 v1244
  let c4_i32_1136 : BitVec 32 := 4#32
  let v1284 : BitVec 32 := Scalar.muli v1251 c4_i32_1136
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v1285 : BitVec 32 := Scalar.addi v1284 v29
  let c1_i32_1161 : BitVec 32 := 1#32
  let v1315 : BitVec 32 := Scalar.muli v1285 c1_i32_1161
  let v1316 : BitVec 32 := Scalar.addi c0_i32_1162 v1315
  v1316.toNat
def k0_off27 (d0 : Dev nD) (c1_i32_1223 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_1231 : BitVec 32 := 4#32
  let v1370 : BitVec 32 := Scalar.muli v19 c4_i32_1231
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v1357 : BitVec 32 := Scalar.addi v29 c1_i32_1223
  let c4_i32_1224 : BitVec 32 := 4#32
  let c0_i32_1225 : BitVec 32 := 0#32
  let v1358 : BitVec 1 := Scalar.cmpi .eq c4_i32_1224 c0_i32_1225
  let c1_i32_1226 : BitVec 32 := 1#32
  let v1359 : BitVec 32 := Scalar.select v1358 c1_i32_1226 c4_i32_1224
  let v1360 : BitVec 32 := Scalar.remsi v1357 v1359
  let c0_i32_1228 : BitVec 32 := 0#32
  let v1362 : BitVec 1 := Scalar.cmpi .slt v1360 c0_i32_1228
  let c0_i32_1229 : BitVec 32 := 0#32
  let v1363 : BitVec 1 := Scalar.cmpi .slt v1359 c0_i32_1229
  let v1364 : BitVec 1 := Scalar.xori v1362 v1363
  let c0_i32_1227 : BitVec 32 := 0#32
  let v1361 : BitVec 1 := Scalar.cmpi .ne v1360 c0_i32_1227
  let v1365 : BitVec 1 := Scalar.andi v1364 v1361
  let v1366 : BitVec 32 := Scalar.addi v1360 v1359
  let v1367 : BitVec 32 := Scalar.select v1365 v1366 v1360
  let v1371 : BitVec 32 := Scalar.addi v1370 v1367
  let c64_i32_1232 : BitVec 32 := 64#32
  let v1372 : BitVec 32 := Scalar.muli v1371 c64_i32_1232
  let v1401 : Index := Scalar.indexCast v1372
  let c512_1247 : Index := 512#32
  ![v1401.toNat, 512]
def k0_off28 (d0 : Dev nD) (c1_i32_1223 : BitVec 32) : Fin 4 → Nat :=
  let c2_1248 : Index := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v1357 : BitVec 32 := Scalar.addi v29 c1_i32_1223
  let c4_i32_1224 : BitVec 32 := 4#32
  let c0_i32_1225 : BitVec 32 := 0#32
  let v1358 : BitVec 1 := Scalar.cmpi .eq c4_i32_1224 c0_i32_1225
  let c1_i32_1226 : BitVec 32 := 1#32
  let v1359 : BitVec 32 := Scalar.select v1358 c1_i32_1226 c4_i32_1224
  let v1360 : BitVec 32 := Scalar.remsi v1357 v1359
  let c0_i32_1228 : BitVec 32 := 0#32
  let v1362 : BitVec 1 := Scalar.cmpi .slt v1360 c0_i32_1228
  let c0_i32_1229 : BitVec 32 := 0#32
  let v1363 : BitVec 1 := Scalar.cmpi .slt v1359 c0_i32_1229
  let v1364 : BitVec 1 := Scalar.xori v1362 v1363
  let c0_i32_1227 : BitVec 32 := 0#32
  let v1361 : BitVec 1 := Scalar.cmpi .ne v1360 c0_i32_1227
  let v1365 : BitVec 1 := Scalar.andi v1364 v1361
  let v1366 : BitVec 32 := Scalar.addi v1360 v1359
  let v1367 : BitVec 32 := Scalar.select v1365 v1366 v1360
  let c0_i32_1234 : BitVec 32 := 0#32
  let v1374 : BitVec 1 := Scalar.cmpi .sgt v1367 c0_i32_1234
  let v1375 : BitVec 32 := Scalar.extui v1374
  let c0_i32_1235 : BitVec 32 := 0#32
  let v1376 : BitVec 1 := Scalar.cmpi .slt v1367 c0_i32_1235
  let v1377 : BitVec 32 := Scalar.extui v1376
  let v1378 : BitVec 32 := Scalar.subi v1375 v1377
  let c2_i32_1233 : BitVec 32 := 2#32
  let c0_i32_1236 : BitVec 32 := 0#32
  let v1379 : BitVec 1 := Scalar.cmpi .sgt c2_i32_1233 c0_i32_1236
  let v1380 : BitVec 32 := Scalar.extui v1379
  let c0_i32_1237 : BitVec 32 := 0#32
  let v1381 : BitVec 1 := Scalar.cmpi .slt c2_i32_1233 c0_i32_1237
  let v1382 : BitVec 32 := Scalar.extui v1381
  let v1383 : BitVec 32 := Scalar.subi v1380 v1382
  let v1384 : BitVec 1 := Scalar.cmpi .ne v1378 v1383
  let v1385 : BitVec 32 := Scalar.remsi v1367 c2_i32_1233
  let c0_i32_1238 : BitVec 32 := 0#32
  let v1386 : BitVec 1 := Scalar.cmpi .ne v1385 c0_i32_1238
  let v1387 : BitVec 1 := Scalar.andi v1384 v1386
  let v1373 : BitVec 32 := Scalar.divsi v1367 c2_i32_1233
  let c1_i32_1239 : BitVec 32 := 1#32
  let v1388 : BitVec 32 := Scalar.subi v1373 c1_i32_1239
  let v1389 : BitVec 32 := Scalar.select v1387 v1388 v1373
  let v1403 : Index := Scalar.indexCast v1389
  let c2_i32_1240 : BitVec 32 := 2#32
  let c0_i32_1241 : BitVec 32 := 0#32
  let v1390 : BitVec 1 := Scalar.cmpi .eq c2_i32_1240 c0_i32_1241
  let c1_i32_1242 : BitVec 32 := 1#32
  let v1391 : BitVec 32 := Scalar.select v1390 c1_i32_1242 c2_i32_1240
  let v1392 : BitVec 32 := Scalar.remsi v1367 v1391
  let c0_i32_1244 : BitVec 32 := 0#32
  let v1394 : BitVec 1 := Scalar.cmpi .slt v1392 c0_i32_1244
  let c0_i32_1245 : BitVec 32 := 0#32
  let v1395 : BitVec 1 := Scalar.cmpi .slt v1391 c0_i32_1245
  let v1396 : BitVec 1 := Scalar.xori v1394 v1395
  let c0_i32_1243 : BitVec 32 := 0#32
  let v1393 : BitVec 1 := Scalar.cmpi .ne v1392 c0_i32_1243
  let v1397 : BitVec 1 := Scalar.andi v1396 v1393
  let v1398 : BitVec 32 := Scalar.addi v1392 v1391
  let v1399 : BitVec 32 := Scalar.select v1397 v1398 v1392
  let c64_i32_1246 : BitVec 32 := 64#32
  let v1400 : BitVec 32 := Scalar.muli v1399 c64_i32_1246
  let v1404 : Index := Scalar.indexCast v1400
  let c0_1249 : Index := 0#32
  ![2, v1403.toNat, v1404.toNat, 0]
def k0_off29 (d0 : Dev nD) (c1_i32_1223 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_1231 : BitVec 32 := 4#32
  let v1370 : BitVec 32 := Scalar.muli v19 c4_i32_1231
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v1357 : BitVec 32 := Scalar.addi v29 c1_i32_1223
  let c4_i32_1224 : BitVec 32 := 4#32
  let c0_i32_1225 : BitVec 32 := 0#32
  let v1358 : BitVec 1 := Scalar.cmpi .eq c4_i32_1224 c0_i32_1225
  let c1_i32_1226 : BitVec 32 := 1#32
  let v1359 : BitVec 32 := Scalar.select v1358 c1_i32_1226 c4_i32_1224
  let v1360 : BitVec 32 := Scalar.remsi v1357 v1359
  let c0_i32_1228 : BitVec 32 := 0#32
  let v1362 : BitVec 1 := Scalar.cmpi .slt v1360 c0_i32_1228
  let c0_i32_1229 : BitVec 32 := 0#32
  let v1363 : BitVec 1 := Scalar.cmpi .slt v1359 c0_i32_1229
  let v1364 : BitVec 1 := Scalar.xori v1362 v1363
  let c0_i32_1227 : BitVec 32 := 0#32
  let v1361 : BitVec 1 := Scalar.cmpi .ne v1360 c0_i32_1227
  let v1365 : BitVec 1 := Scalar.andi v1364 v1361
  let v1366 : BitVec 32 := Scalar.addi v1360 v1359
  let v1367 : BitVec 32 := Scalar.select v1365 v1366 v1360
  let v1371 : BitVec 32 := Scalar.addi v1370 v1367
  let c64_i32_1232 : BitVec 32 := 64#32
  let v1372 : BitVec 32 := Scalar.muli v1371 c64_i32_1232
  let v1411 : Index := Scalar.indexCast v1372
  let c768_1253 : Index := 768#32
  ![v1411.toNat, 768]
def k0_dev46 (d0 : Dev nD) : Nat :=
  let c0_i32_1264 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_1230 : BitVec 32 := 4#32
  let v1368 : BitVec 32 := Scalar.muli v19 c4_i32_1230
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_1223 : BitVec 32 := 1#32
  let v1357 : BitVec 32 := Scalar.addi v29 c1_i32_1223
  let c4_i32_1224 : BitVec 32 := 4#32
  let c0_i32_1225 : BitVec 32 := 0#32
  let v1358 : BitVec 1 := Scalar.cmpi .eq c4_i32_1224 c0_i32_1225
  let c1_i32_1226 : BitVec 32 := 1#32
  let v1359 : BitVec 32 := Scalar.select v1358 c1_i32_1226 c4_i32_1224
  let v1360 : BitVec 32 := Scalar.remsi v1357 v1359
  let c0_i32_1228 : BitVec 32 := 0#32
  let v1362 : BitVec 1 := Scalar.cmpi .slt v1360 c0_i32_1228
  let c0_i32_1229 : BitVec 32 := 0#32
  let v1363 : BitVec 1 := Scalar.cmpi .slt v1359 c0_i32_1229
  let v1364 : BitVec 1 := Scalar.xori v1362 v1363
  let c0_i32_1227 : BitVec 32 := 0#32
  let v1361 : BitVec 1 := Scalar.cmpi .ne v1360 c0_i32_1227
  let v1365 : BitVec 1 := Scalar.andi v1364 v1361
  let v1366 : BitVec 32 := Scalar.addi v1360 v1359
  let v1367 : BitVec 32 := Scalar.select v1365 v1366 v1360
  let v1369 : BitVec 32 := Scalar.addi v1368 v1367
  let c1_i32_1263 : BitVec 32 := 1#32
  let v1421 : BitVec 32 := Scalar.muli v1369 c1_i32_1263
  let v1422 : BitVec 32 := Scalar.addi c0_i32_1264 v1421
  v1422.toNat
def k0_dev47 (d0 : Dev nD) : Nat :=
  let c0_i32_1310 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_1276 : BitVec 32 := 4#32
  let v1442 : BitVec 32 := Scalar.muli v19 c4_i32_1276
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_1269 : BitVec 32 := 2#32
  let v1431 : BitVec 32 := Scalar.addi v29 c2_i32_1269
  let c4_i32_1270 : BitVec 32 := 4#32
  let c0_i32_1271 : BitVec 32 := 0#32
  let v1432 : BitVec 1 := Scalar.cmpi .eq c4_i32_1270 c0_i32_1271
  let c1_i32_1272 : BitVec 32 := 1#32
  let v1433 : BitVec 32 := Scalar.select v1432 c1_i32_1272 c4_i32_1270
  let v1434 : BitVec 32 := Scalar.remsi v1431 v1433
  let c0_i32_1274 : BitVec 32 := 0#32
  let v1436 : BitVec 1 := Scalar.cmpi .slt v1434 c0_i32_1274
  let c0_i32_1275 : BitVec 32 := 0#32
  let v1437 : BitVec 1 := Scalar.cmpi .slt v1433 c0_i32_1275
  let v1438 : BitVec 1 := Scalar.xori v1436 v1437
  let c0_i32_1273 : BitVec 32 := 0#32
  let v1435 : BitVec 1 := Scalar.cmpi .ne v1434 c0_i32_1273
  let v1439 : BitVec 1 := Scalar.andi v1438 v1435
  let v1440 : BitVec 32 := Scalar.addi v1434 v1433
  let v1441 : BitVec 32 := Scalar.select v1439 v1440 v1434
  let v1443 : BitVec 32 := Scalar.addi v1442 v1441
  let c1_i32_1309 : BitVec 32 := 1#32
  let v1495 : BitVec 32 := Scalar.muli v1443 c1_i32_1309
  let v1496 : BitVec 32 := Scalar.addi c0_i32_1310 v1495
  v1496.toNat
def k0_dev48 (d0 : Dev nD) : Nat :=
  let c0_i32_1356 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_1322 : BitVec 32 := 4#32
  let v1516 : BitVec 32 := Scalar.muli v19 c4_i32_1322
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c3_i32_1315 : BitVec 32 := 3#32
  let v1505 : BitVec 32 := Scalar.addi v29 c3_i32_1315
  let c4_i32_1316 : BitVec 32 := 4#32
  let c0_i32_1317 : BitVec 32 := 0#32
  let v1506 : BitVec 1 := Scalar.cmpi .eq c4_i32_1316 c0_i32_1317
  let c1_i32_1318 : BitVec 32 := 1#32
  let v1507 : BitVec 32 := Scalar.select v1506 c1_i32_1318 c4_i32_1316
  let v1508 : BitVec 32 := Scalar.remsi v1505 v1507
  let c0_i32_1320 : BitVec 32 := 0#32
  let v1510 : BitVec 1 := Scalar.cmpi .slt v1508 c0_i32_1320
  let c0_i32_1321 : BitVec 32 := 0#32
  let v1511 : BitVec 1 := Scalar.cmpi .slt v1507 c0_i32_1321
  let v1512 : BitVec 1 := Scalar.xori v1510 v1511
  let c0_i32_1319 : BitVec 32 := 0#32
  let v1509 : BitVec 1 := Scalar.cmpi .ne v1508 c0_i32_1319
  let v1513 : BitVec 1 := Scalar.andi v1512 v1509
  let v1514 : BitVec 32 := Scalar.addi v1508 v1507
  let v1515 : BitVec 32 := Scalar.select v1513 v1514 v1508
  let v1517 : BitVec 32 := Scalar.addi v1516 v1515
  let c1_i32_1355 : BitVec 32 := 1#32
  let v1569 : BitVec 32 := Scalar.muli v1517 c1_i32_1355
  let v1570 : BitVec 32 := Scalar.addi c0_i32_1356 v1569
  v1570.toNat
def k0_off30 (d0 : Dev nD) : Fin 2 → Nat :=
  let c1_i32_1363 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  ![1, v19.toNat]
def k0_off31 (d0 : Dev nD) : Fin 4 → Nat :=
  let c1_i32_1362 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_1367 : BitVec 32 := 0#32
  let c0_i32_1368 : BitVec 32 := 0#32
  ![1, v19.toNat, 0, 0]
def k0_off32 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  ![v19.toNat]
def k0_off33 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_1383 : BitVec 32 := 0#32
  let c0_i32_1384 : BitVec 32 := 0#32
  ![v19.toNat, 0, 0]
def k0_off34 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_1453 : BitVec 32 := 64#32
  let v1659 : BitVec 32 := Scalar.muli v2 c64_i32_1453
  let v1688 : Index := Scalar.indexCast v1659
  let c0_1468 : Index := 0#32
  ![v1688.toNat, 0]
def k0_off35 (d0 : Dev nD) : Fin 4 → Nat :=
  let c1_1469 : Index := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v1690 : Index := Scalar.indexCast v19
  let c0_1470 : Index := 0#32
  let c0_1471 : Index := 0#32
  ![1, v1690.toNat, 0, 0]
def k0_off36 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v1694 : Index := Scalar.indexCast v19
  let c0_1472 : Index := 0#32
  let c0_1473 : Index := 0#32
  ![v1694.toNat, 0, 0]
def k0_off37 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_1453 : BitVec 32 := 64#32
  let v1659 : BitVec 32 := Scalar.muli v2 c64_i32_1453
  let v1707 : Index := Scalar.indexCast v1659
  let c256_1483 : Index := 256#32
  ![v1707.toNat, 256]
def k0_off38 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_1453 : BitVec 32 := 64#32
  let v1659 : BitVec 32 := Scalar.muli v2 c64_i32_1453
  let v1726 : Index := Scalar.indexCast v1659
  let c512_1498 : Index := 512#32
  ![v1726.toNat, 512]
def k0_off39 (d0 : Dev nD) : Fin 4 → Nat :=
  let c2_1499 : Index := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_1455 : BitVec 32 := 0#32
  let v1661 : BitVec 1 := Scalar.cmpi .sgt v29 c0_i32_1455
  let v1662 : BitVec 32 := Scalar.extui v1661
  let c0_i32_1456 : BitVec 32 := 0#32
  let v1663 : BitVec 1 := Scalar.cmpi .slt v29 c0_i32_1456
  let v1664 : BitVec 32 := Scalar.extui v1663
  let v1665 : BitVec 32 := Scalar.subi v1662 v1664
  let c2_i32_1454 : BitVec 32 := 2#32
  let c0_i32_1457 : BitVec 32 := 0#32
  let v1666 : BitVec 1 := Scalar.cmpi .sgt c2_i32_1454 c0_i32_1457
  let v1667 : BitVec 32 := Scalar.extui v1666
  let c0_i32_1458 : BitVec 32 := 0#32
  let v1668 : BitVec 1 := Scalar.cmpi .slt c2_i32_1454 c0_i32_1458
  let v1669 : BitVec 32 := Scalar.extui v1668
  let v1670 : BitVec 32 := Scalar.subi v1667 v1669
  let v1671 : BitVec 1 := Scalar.cmpi .ne v1665 v1670
  let v1672 : BitVec 32 := Scalar.remsi v29 c2_i32_1454
  let c0_i32_1459 : BitVec 32 := 0#32
  let v1673 : BitVec 1 := Scalar.cmpi .ne v1672 c0_i32_1459
  let v1674 : BitVec 1 := Scalar.andi v1671 v1673
  let v1660 : BitVec 32 := Scalar.divsi v29 c2_i32_1454
  let c1_i32_1460 : BitVec 32 := 1#32
  let v1675 : BitVec 32 := Scalar.subi v1660 c1_i32_1460
  let v1676 : BitVec 32 := Scalar.select v1674 v1675 v1660
  let v1728 : Index := Scalar.indexCast v1676
  let c2_i32_1461 : BitVec 32 := 2#32
  let c0_i32_1462 : BitVec 32 := 0#32
  let v1677 : BitVec 1 := Scalar.cmpi .eq c2_i32_1461 c0_i32_1462
  let c1_i32_1463 : BitVec 32 := 1#32
  let v1678 : BitVec 32 := Scalar.select v1677 c1_i32_1463 c2_i32_1461
  let v1679 : BitVec 32 := Scalar.remsi v29 v1678
  let c0_i32_1465 : BitVec 32 := 0#32
  let v1681 : BitVec 1 := Scalar.cmpi .slt v1679 c0_i32_1465
  let c0_i32_1466 : BitVec 32 := 0#32
  let v1682 : BitVec 1 := Scalar.cmpi .slt v1678 c0_i32_1466
  let v1683 : BitVec 1 := Scalar.xori v1681 v1682
  let c0_i32_1464 : BitVec 32 := 0#32
  let v1680 : BitVec 1 := Scalar.cmpi .ne v1679 c0_i32_1464
  let v1684 : BitVec 1 := Scalar.andi v1683 v1680
  let v1685 : BitVec 32 := Scalar.addi v1679 v1678
  let v1686 : BitVec 32 := Scalar.select v1684 v1685 v1679
  let c64_i32_1467 : BitVec 32 := 64#32
  let v1687 : BitVec 32 := Scalar.muli v1686 c64_i32_1467
  let v1729 : Index := Scalar.indexCast v1687
  let c0_1500 : Index := 0#32
  ![2, v1728.toNat, v1729.toNat, 0]
def k0_off40 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_1453 : BitVec 32 := 64#32
  let v1659 : BitVec 32 := Scalar.muli v2 c64_i32_1453
  let v1742 : Index := Scalar.indexCast v1659
  let c768_1510 : Index := 768#32
  ![v1742.toNat, 768]
abbrev stage0_0 : Fin 1 → Memref sig .tc .vmem S1024x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S64x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S64x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S1024x1024 : Shape := ⟨2, ![1024, 1024]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S1024x1024, .f32⟩
  | .hbm, ⟨7, _⟩ => ⟨S1024x1024, .f32⟩
  | .hbm, ⟨8, _⟩ => ⟨S_, .f32⟩
  | .hbm, ⟨9, _⟩ => ⟨S1024x1024, .f32⟩
  | .hbm, ⟨10, _⟩ => ⟨S1024x1024, .f32⟩
  | .hbm, ⟨11, _⟩ => ⟨S1024x1024, .f32⟩
  | .hbm, ⟨12, _⟩ => ⟨S1024x1024, .f32⟩
  | .hbm, ⟨13, _⟩ => ⟨S_, .f32⟩
  | .hbm, ⟨14, _⟩ => ⟨S1024x1024, .f32⟩
  | .hbm, ⟨15, _⟩ => ⟨S1024x1024, .f32⟩
  | .hbm, ⟨16, _⟩ => ⟨S1024x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_cst_0 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩

abbrev nD : Nat := 1
abbrev τ : Topo := Topo.v7x

variable {F : FTy → Type} [FloatOps F]
-- ==== UnclippedIdeal.lean ====
abbrev S1024x1024 : Shape := ⟨2, ![1024, 1024]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S_, .f32⟩
  | .hbm, ⟨6, _⟩ => ⟨S1024x1024, .f32⟩
  | .hbm, ⟨7, _⟩ => ⟨S1024x1024, .f32⟩
  | .hbm, ⟨8, _⟩ => ⟨S1024x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Proof.Mesh.lean ====
/-
The mesh of sixteen devices (four planes of four), the forty-two transfers a device makes, where each goes and where
it comes from, the program's own index arithmetic in closed form, and the order in which one device's events happen.
Nothing here speaks of memory contents; every fact is a finite check over the sixteen devices.
-/
module

public import proofs.«01_k».proof.Proof.Gen.KernelIdeal

@[expose] public section

set_option maxRecDepth 16384

namespace Cert.Mesh

open Cert.KernelIdeal Cert.KernelIdeal.Gen
open Idealize.ShloMosaic

/-! ## Devices: `c = 4 z + q` -/

/-- Place `q` of plane `z`. -/
def at_ (z q : Fin 4) : Dev nD := ⟨4 * z.val + q.val, by have := z.isLt; have := q.isLt; show _ < 16; omega⟩
def zOf (c : Dev nD) : Fin 4 := ⟨c.val / 4, by have : c.val < 16 := c.isLt; omega⟩
def qOf (c : Dev nD) : Fin 4 := ⟨c.val % 4, Nat.mod_lt _ (by decide)⟩

/-- The partner along x, along y, and the diagonal place in a plane. -/
def xq (q : Fin 4) : Fin 4 := ![1, 0, 3, 2] q
def yq (q : Fin 4) : Fin 4 := ![3, 2, 1, 0] q
def gq (q : Fin 4) : Fin 4 := q + 2
/-- The plane the column ring passes up to, down to, and the far one. -/
def uz (z : Fin 4) : Fin 4 := ![1, 3, 0, 2] z
def dz (z : Fin 4) : Fin 4 := ![2, 0, 3, 1] z
def fz (z : Fin 4) : Fin 4 := ![3, 2, 1, 0] z

def dX (c : Dev nD) : Dev nD := at_ (zOf c) (xq (qOf c))
def dY (c : Dev nD) : Dev nD := at_ (zOf c) (yq (qOf c))
def dG (c : Dev nD) : Dev nD := at_ (zOf c) (gq (qOf c))
def dU (c : Dev nD) : Dev nD := at_ (uz (zOf c)) (qOf c)
def dD (c : Dev nD) : Dev nD := at_ (dz (zOf c)) (qOf c)
def dF (c : Dev nD) : Dev nD := at_ (fz (zOf c)) (qOf c)
/-- The device `e + 1` planes on, and `e + 1` places on. -/
def dA (e : Fin 3) (c : Dev nD) : Dev nD := at_ (zOf c + e.castSucc + 1) (qOf c)
def dB (e : Fin 3) (c : Dev nD) : Dev nD := at_ (zOf c) (qOf c + e.castSucc + 1)

/-- The plane a device works on `r`-th, and its inverse. -/
def slot (c : Dev nD) (r : Fin 4) : Fin 4 := zOf c + 1 + r
def rel (c : Dev nD) (j : Fin 4) : Fin 4 := j - zOf c - 1

theorem rel_slot (c : Dev nD) (r : Fin 4) : rel c (slot c r) = r := by revert c r; decide +kernel
theorem slot_rel (c : Dev nD) (j : Fin 4) : slot c (rel c j) = j := by revert c j; decide +kernel

/-! ## The transfers -/

/-- `x1`/`y1`: tiles of the partial product to the plane partners (stage, plane); `x2`/`y2`: those added up and
    passed on; `bu`/`bd`: the column rings (step, half); `a2`/`b2`: the finished sums dealt to their owners. -/
inductive K
  | x1 (s : Fin 2) (j : Fin 4) | y1 (s : Fin 2) (j : Fin 4) | x2 (j : Fin 4) | y2 (j : Fin 4)
  | bu (s : Fin 3) (h : Fin 2) | bd (s : Fin 3) (h : Fin 2) | a2 (e : Fin 3) | b2 (e : Fin 3)
  deriving DecidableEq

/-- The transfers, family by family. -/
def K.fam : ((Fin 2 × Fin 4) ⊕ (Fin 2 × Fin 4) ⊕ Fin 4 ⊕ Fin 4 ⊕ (Fin 3 × Fin 2) ⊕ (Fin 3 × Fin 2) ⊕ Fin 3 ⊕ Fin 3) ≃ K where
  toFun
    | .inl p => .x1 p.1 p.2 | .inr (.inl p) => .y1 p.1 p.2 | .inr (.inr (.inl j)) => .x2 j | .inr (.inr (.inr (.inl j))) => .y2 j
    | .inr (.inr (.inr (.inr (.inl p)))) => .bu p.1 p.2 | .inr (.inr (.inr (.inr (.inr (.inl p))))) => .bd p.1 p.2
    | .inr (.inr (.inr (.inr (.inr (.inr (.inl e)))))) => .a2 e | .inr (.inr (.inr (.inr (.inr (.inr (.inr e)))))) => .b2 e
  invFun
    | .x1 s j => .inl (s, j) | .y1 s j => .inr (.inl (s, j)) | .x2 j => .inr (.inr (.inl j)) | .y2 j => .inr (.inr (.inr (.inl j)))
    | .bu s h => .inr (.inr (.inr (.inr (.inl (s, h))))) | .bd s h => .inr (.inr (.inr (.inr (.inr (.inl (s, h))))))
    | .a2 e => .inr (.inr (.inr (.inr (.inr (.inr (.inl e)))))) | .b2 e => .inr (.inr (.inr (.inr (.inr (.inr (.inr e))))))
  left_inv := by rintro (p | p | j | j | p | p | e | e) <;> rfl
  right_inv := by rintro (⟨s, j⟩ | ⟨s, j⟩ | j | j | ⟨s, h⟩ | ⟨s, h⟩ | e | e) <;> rfl

instance : Fintype K := Fintype.ofEquiv _ K.fam

theorem K.forall_iff (p : K → Prop) : (∀ k, p k) ↔ (∀ s j, p (.x1 s j)) ∧ (∀ s j, p (.y1 s j)) ∧ (∀ j, p (.x2 j)) ∧ (∀ j, p (.y2 j))
    ∧ (∀ s h, p (.bu s h)) ∧ (∀ s h, p (.bd s h)) ∧ (∀ e, p (.a2 e)) ∧ (∀ e, p (.b2 e)) :=
  ⟨fun h => ⟨fun _ _ => h _, fun _ _ => h _, fun _ => h _, fun _ => h _, fun _ _ => h _, fun _ _ => h _, fun _ => h _, fun _ => h _⟩,
    fun ⟨h1, h2, h3, h4, h5, h6, h7, h8⟩ k => match k with
      | .x1 s j => h1 s j | .y1 s j => h2 s j | .x2 j => h3 j | .y2 j => h4 j | .bu s h => h5 s h | .bd s h => h6 s h | .a2 e => h7 e | .b2 e => h8 e⟩

/-- A statement over all transfers is checked family by family. -/
instance (priority := 2000) (p : K → Prop) [DecidablePred p] : Decidable (∀ k, p k) := decidable_of_iff _ (K.forall_iff p).symm

/-- The device `c`'s transfer `k` goes to, and the one whose transfer `k` comes to `c`. -/
def dst : K → Dev nD → Dev nD
  | .x1 _ _ => dX | .y1 _ _ => dY | .x2 _ => dY | .y2 _ => dX | .bu _ _ => dU | .bd _ _ => dD | .a2 e => dA e | .b2 e => dB e
def src : K → Dev nD → Dev nD
  | .x1 _ _ => dX | .y1 _ _ => dY | .x2 _ => dY | .y2 _ => dX | .bu _ _ => dD | .bd _ _ => dU | .a2 e => dA e.rev | .b2 e => dB e.rev

theorem src_dst (k : K) (c : Dev nD) : src k (dst k c) = c := by revert k c; decide +kernel
theorem dst_src (k : K) (c : Dev nD) : dst k (src k c) = c := by revert k c; decide +kernel
def perm (k : K) : Dev nD ≃ Dev nD := ⟨dst k, src k, src_dst k, dst_src k⟩

/-- The six devices greeted at the start; `nb i` is inverse to `nb' i`. -/
def nb (i : Fin 6) : Dev nD → Dev nD := match i with | 0 => dX | 1 => dY | 2 => dG | 3 => dU | 4 => dD | 5 => dF
def nb' (i : Fin 6) : Dev nD → Dev nD := match i with | 0 => dX | 1 => dY | 2 => dG | 3 => dD | 4 => dU | 5 => dF
theorem nb'_nb (i : Fin 6) (c : Dev nD) : nb' i (nb i c) = c := by revert i c; decide +kernel
theorem nb_nb' (i : Fin 6) (c : Dev nD) : nb i (nb' i c) = c := by revert i c; decide +kernel
def nbPerm (i : Fin 6) : Dev nD ≃ Dev nD := ⟨nb i, nb' i, nb'_nb i, nb_nb' i⟩

/-- Which greeting device `c` gets from the device its transfer `k` goes to. -/
def who (k : K) (c : Dev nD) : Fin 6 :=
  if dst k c = nb' 0 c then 0 else if dst k c = nb' 1 c then 1 else if dst k c = nb' 2 c then 2
  else if dst k c = nb' 3 c then 3 else if dst k c = nb' 4 c then 4 else 5
theorem nb'_who (k : K) (c : Dev nD) : nb' (who k c) c = dst k c := by revert k c; decide +kernel
/-- The device that will send `k` to `p` is greeted by `p` under the number it expects. -/
def whom (k : K) (p : Dev nD) : Fin 6 := who k (src k p)
theorem nb_whom (k : K) (p : Dev nD) : nb (whom k p) p = src k p := by revert k p; decide +kernel
theorem whom_iff (k : K) (p : Dev nD) (i : Fin 6) : whom k p = i ↔ who k (nb i p) = i ∧ dst k (nb i p) = p := by
  revert k p i; decide +kernel

/-! ## The program's device numbers -/

theorem devs_greet : ∀ c : Dev nD, k0_dev1 c = (nb 0 c).val ∧ k0_dev2 c = (nb 1 c).val ∧ k0_dev3 c = (nb 2 c).val ∧ k0_dev4 c = (nb 3 c).val
    ∧ k0_dev5 c = (nb 4 c).val ∧ k0_dev6 c = (nb 5 c).val := by decide +kernel
theorem devs_x : ∀ c : Dev nD, k0_dev7 c = (dX c).val ∧ k0_dev9 c = (dX c).val ∧ k0_dev11 c = (dX c).val ∧ k0_dev13 c = (dX c).val
    ∧ k0_dev15 c = (dX c).val ∧ k0_dev17 c = (dX c).val ∧ k0_dev19 c = (dX c).val ∧ k0_dev21 c = (dX c).val := by decide +kernel
theorem devs_y : ∀ c : Dev nD, k0_dev8 c = (dY c).val ∧ k0_dev10 c = (dY c).val ∧ k0_dev12 c = (dY c).val ∧ k0_dev14 c = (dY c).val
    ∧ k0_dev16 c = (dY c).val ∧ k0_dev18 c = (dY c).val ∧ k0_dev20 c = (dY c).val ∧ k0_dev22 c = (dY c).val := by decide +kernel
theorem devs_2 : ∀ c : Dev nD, k0_dev27 c = (dY c).val ∧ k0_dev29 c = (dY c).val ∧ k0_dev31 c = (dY c).val ∧ k0_dev33 c = (dY c).val
    ∧ k0_dev28 c = (dX c).val ∧ k0_dev30 c = (dX c).val ∧ k0_dev32 c = (dX c).val ∧ k0_dev34 c = (dX c).val := by decide +kernel
theorem devs_u : ∀ c : Dev nD, k0_dev23 c = (dU c).val ∧ k0_dev25 c = (dU c).val ∧ k0_dev35 c = (dU c).val ∧ k0_dev37 c = (dU c).val
    ∧ k0_dev39 c = (dU c).val ∧ k0_dev41 c = (dU c).val := by decide +kernel
theorem devs_d : ∀ c : Dev nD, k0_dev24 c = (dD c).val ∧ k0_dev26 c = (dD c).val ∧ k0_dev36 c = (dD c).val ∧ k0_dev38 c = (dD c).val
    ∧ k0_dev40 c = (dD c).val ∧ k0_dev42 c = (dD c).val := by decide +kernel
theorem devs_ab : ∀ c : Dev nD, k0_dev43 c = (dA 0 c).val ∧ k0_dev44 c = (dA 1 c).val ∧ k0_dev45 c = (dA 2 c).val
    ∧ k0_dev46 c = (dB 0 c).val ∧ k0_dev47 c = (dB 1 c).val ∧ k0_dev48 c = (dB 2 c).val := by decide +kernel

/-! ## The program's offsets -/

/-- First row of place `q`'s tile of plane `j`. -/
def row (j q : Fin 4) : ℕ := 256 * j.val + 64 * q.val
/-- First row of half `h` of plane `z`. -/
def hrow (z : Fin 4) (h : Fin 2) : ℕ := 256 * z.val + 128 * h.val

theorem row_le (j q : Fin 4) : row j q + 64 ≤ 1024 := by revert j q; decide
theorem hrow_le (z : Fin 4) (h : Fin 2) : hrow z h + 128 ≤ 1024 := by revert z h; decide

theorem off1_eq : ∀ (c : Dev nD) (r : Fin 4), k0_off1 c (BitVec.ofNat 32 r.val) = ![0, (slot c r).val] := by decide +kernel
theorem off2_eq : ∀ (c : Dev nD) (r : Fin 4), k0_off2 c (BitVec.ofNat 32 r.val) = ![0, (slot c r).val, 0, 0] := by decide +kernel
theorem off3_eq : ∀ (c : Dev nD) (r : Fin 4), k0_off3 c (BitVec.ofNat 32 r.val) = ![row (slot c r) (gq (qOf c)), 0] := by decide +kernel
theorem off4_eq : ∀ (c : Dev nD) (r : Fin 4), k0_off4 c (BitVec.ofNat 32 r.val) = ![row (slot c r) (gq (qOf c)), 256] := by decide +kernel
theorem off5_eq : ∀ (c : Dev nD) (r : Fin 4), k0_off5 c (BitVec.ofNat 32 r.val) = ![1, (slot c r).val] := by decide +kernel
theorem off6_eq : ∀ (c : Dev nD) (r : Fin 4), k0_off6 c (BitVec.ofNat 32 r.val) = ![1, (slot c r).val, 0, 0] := by decide +kernel
theorem off7_eq : ∀ (c : Dev nD) (r : Fin 4), k0_off7 c (BitVec.ofNat 32 r.val) = ![row (slot c r) (xq (qOf c)), 0] := by decide +kernel
theorem off8_eq : ∀ (c : Dev nD) (r : Fin 4), k0_off8 c (BitVec.ofNat 32 r.val) = ![row (slot c r) (yq (qOf c)), 256] := by decide +kernel
theorem off9_eq : ∀ (c : Dev nD) (h : Fin 2), k0_off9 c (BitVec.ofNat 32 (128 * h.val)) = ![hrow (dz (zOf c)) h, 512] := by decide +kernel
theorem off10_eq : ∀ (c : Dev nD) (h : Fin 2), k0_off10 c (BitVec.ofNat 32 (128 * h.val)) = ![hrow (uz (zOf c)) h, 768] := by decide +kernel
theorem off11_eq : ∀ (c : Dev nD) (r : Fin 4), k0_off11 c (BitVec.ofNat 32 r.val) = ![row (slot c r) (yq (qOf c)), 0] := by decide +kernel
theorem off12_eq : ∀ (c : Dev nD) (r : Fin 4), k0_off12 c (BitVec.ofNat 32 r.val) = ![0, (slot c r).val, 0, 0] := by decide +kernel
theorem off13_eq : ∀ (c : Dev nD) (r : Fin 4), k0_off13 c (BitVec.ofNat 32 r.val) = ![(slot c r).val, 0, 0] := by decide +kernel
theorem off14_eq : ∀ (c : Dev nD) (r : Fin 4), k0_off14 c (BitVec.ofNat 32 r.val) = ![(slot c r).val] := by decide +kernel
theorem off15_eq : ∀ (c : Dev nD) (r : Fin 4), k0_off15 c (BitVec.ofNat 32 r.val) = ![(slot c r).val, 0, 0] := by decide +kernel
theorem off16_eq : ∀ (c : Dev nD) (r : Fin 4), k0_off16 c (BitVec.ofNat 32 r.val) = ![row (slot c r) (xq (qOf c)), 256] := by decide +kernel
/-- The plane whose tile joins the rising column sums at step `1 + s`, and the falling ones. -/
def upz (s : Fin 2) (z : Fin 4) : Fin 4 := match s with | 0 => fz z | 1 => uz z
def dnz (s : Fin 2) (z : Fin 4) : Fin 4 := match s with | 0 => fz z | 1 => dz z
theorem off17_eq : ∀ (c : Dev nD) (s h : Fin 2), k0_off17 c (BitVec.ofNat 32 (1 + s.val)) (BitVec.ofNat 32 (128 * h.val)) = ![hrow (upz s (zOf c)) h, 512] := by
  decide +kernel
theorem off18_eq : ∀ (c : Dev nD) (s h : Fin 2), k0_off18 c (BitVec.ofNat 32 (1 + s.val)) (BitVec.ofNat 32 (128 * h.val)) = ![hrow (dnz s (zOf c)) h, 768] := by
  decide +kernel
theorem off19_eq : ∀ (c : Dev nD) (e : Fin 3), k0_off19 c (BitVec.ofNat 32 (1 + e.val)) = ![1, (slot c e.castSucc).val] := by decide +kernel
theorem off20_eq : ∀ (c : Dev nD) (e : Fin 3), k0_off20 c (BitVec.ofNat 32 (1 + e.val)) = ![1, (slot c e.castSucc).val, 0, 0] := by decide +kernel
theorem off21_eq : ∀ (c : Dev nD) (e : Fin 3), k0_off21 c (BitVec.ofNat 32 (1 + e.val)) = ![(slot c e.castSucc).val] := by decide +kernel
theorem off22_eq : ∀ (c : Dev nD) (e : Fin 3), k0_off22 c (BitVec.ofNat 32 (1 + e.val)) = ![(slot c e.castSucc).val, 0, 0] := by decide +kernel
theorem off23_eq : ∀ (c : Dev nD) (e : Fin 3), k0_off23 c (BitVec.ofNat 32 (1 + e.val)) = ![row (slot c e.castSucc) (qOf c), 0] := by decide +kernel
theorem off24_eq : ∀ (c : Dev nD) (e : Fin 3), k0_off24 c (BitVec.ofNat 32 (1 + e.val)) = ![1, (slot c e.castSucc).val, 0, 0] := by decide +kernel
theorem off25_eq : ∀ (c : Dev nD) (e : Fin 3), k0_off25 c (BitVec.ofNat 32 (1 + e.val)) = ![(slot c e.castSucc).val, 0, 0] := by decide +kernel
theorem off26_eq : ∀ (c : Dev nD) (e : Fin 3), k0_off26 c (BitVec.ofNat 32 (1 + e.val)) = ![row (slot c e.castSucc) (qOf c), 256] := by decide +kernel
/-- The place `e + 1` on; which half of its plane it is in, and which part of the half. -/
def bq (c : Dev nD) (e : Fin 3) : Fin 4 := qOf c + e.castSucc + 1
def hf (q : Fin 4) : Fin 2 := ⟨q.val / 2, by have := q.isLt; omega⟩
def sub (q : Fin 4) : ℕ := 64 * (q.val % 2)
theorem off27_eq : ∀ (c : Dev nD) (e : Fin 3), k0_off27 c (BitVec.ofNat 32 (1 + e.val)) = ![row (zOf c) (bq c e), 512] := by decide +kernel
theorem off28_eq : ∀ (c : Dev nD) (e : Fin 3), k0_off28 c (BitVec.ofNat 32 (1 + e.val)) = ![2, (hf (bq c e)).val, sub (bq c e), 0] := by decide +kernel
theorem off29_eq : ∀ (c : Dev nD) (e : Fin 3), k0_off29 c (BitVec.ofNat 32 (1 + e.val)) = ![row (zOf c) (bq c e), 768] := by decide +kernel
theorem off30_eq : ∀ c : Dev nD, k0_off30 c = ![1, (slot c 3).val] := by decide +kernel
theorem off31_eq : ∀ c : Dev nD, k0_off31 c = ![1, (slot c 3).val, 0, 0] := by decide +kernel
theorem off32_eq : ∀ c : Dev nD, k0_off32 c = ![(slot c 3).val] := by decide +kernel
theorem off33_eq : ∀ c : Dev nD, k0_off33 c = ![(slot c 3).val, 0, 0] := by decide +kernel
theorem off34_eq : ∀ c : Dev nD, k0_off34 c = ![row (slot c 3) (qOf c), 0] := by decide +kernel
theorem off35_eq : ∀ c : Dev nD, k0_off35 c = ![1, (slot c 3).val, 0, 0] := by decide +kernel
theorem off36_eq : ∀ c : Dev nD, k0_off36 c = ![(slot c 3).val, 0, 0] := by decide +kernel
theorem off37_eq : ∀ c : Dev nD, k0_off37 c = ![row (slot c 3) (qOf c), 256] := by decide +kernel
theorem off38_eq : ∀ c : Dev nD, k0_off38 c = ![row (slot c 3) (qOf c), 512] := by decide +kernel
theorem off39_eq : ∀ c : Dev nD, k0_off39 c = ![2, (hf (qOf c)).val, sub (qOf c), 0] := by decide +kernel
theorem off40_eq : ∀ c : Dev nD, k0_off40 c = ![row (slot c 3) (qOf c), 768] := by decide +kernel

/-! ## The order of one device's events

A device's 154 events (copies started, staging slots filled, landings waited for, copies found finished) are numbered in
program order. For each transfer: when its first and its second store into the staging slot are done (0 when the source is
the product itself), when the copy starts, when it is found finished, and when the landing has been waited for. -/

def tHalf (c : Dev nD) : K → ℕ
  | .x1 _ _ => 0 | .y1 _ _ => 0 | .x2 j => 22 + 6 * (rel c j).val | .y2 j => 25 + 6 * (rel c j).val
  | .bu s h => if s = 0 then 0 else 35 + 12 * s.val + 6 * h.val | .bd s h => if s = 0 then 0 else 36 + 12 * s.val + 6 * h.val
  | .a2 e => 73 + 7 * e.val | .b2 e => 94 + 3 * e.val
def tFull (c : Dev nD) : K → ℕ
  | .a2 e => 74 + 7 * e.val | .b2 e => 95 + 3 * e.val | k => tHalf c k
def tSend (c : Dev nD) : K → ℕ
  | .x1 s j => 8 * s.val + 2 * (rel c j).val | .y1 s j => 8 * s.val + 2 * (rel c j).val + 1
  | .x2 j => 22 + 6 * (rel c j).val | .y2 j => 25 + 6 * (rel c j).val
  | .bu s h => if s = 0 then 16 + 2 * h.val else 36 + 12 * s.val + 6 * h.val
  | .bd s h => if s = 0 then 17 + 2 * h.val else 37 + 12 * s.val + 6 * h.val
  | .a2 e => 74 + 7 * e.val | .b2 e => 95 + 3 * e.val
def tDone : K → ℕ
  | .x1 s j => 112 + 8 * s.val + 2 * j.val | .y1 s j => 113 + 8 * s.val + 2 * j.val | .x2 j => 128 + 2 * j.val | .y2 j => 129 + 2 * j.val
  | .bu s h => 136 + 6 * s.val + 2 * h.val | .bd s h => 137 + 6 * s.val + 2 * h.val | .a2 e => 140 + 6 * e.val | .b2 e => 141 + 6 * e.val
def tRecv (c : Dev nD) : K → ℕ
  | .x1 s j => if s = 0 then 20 + 6 * (rel c j).val else if rel c j = 3 then 102 else 68 + 7 * (rel c j).val
  | .y1 s j => if s = 0 then 23 + 6 * (rel c j).val else if rel c j = 3 then 103 else 69 + 7 * (rel c j).val
  | .x2 j => if rel c j = 3 then 104 else 70 + 7 * (rel c j).val | .y2 j => if rel c j = 3 then 105 else 71 + 7 * (rel c j).val
  | .bu s h => if s = 2 then 89 + 2 * h.val else 44 + 12 * s.val + 6 * h.val
  | .bd s h => if s = 2 then 90 + 2 * h.val else 45 + 12 * s.val + 6 * h.val
  | .a2 e => 106 + 2 * e.val | .b2 e => 107 + 2 * e.val

/-- Where a transfer stands on the sending side, -/
inductive OS | ready | half | loaded | flight | done
  deriving DecidableEq
/-- and on the receiving side. -/
inductive IS | waiting | got
  deriving DecidableEq

def ost (c : Dev nD) (n : ℕ) (k : K) : OS :=
  if n < tHalf c k then .ready else if n < tFull c k then .half else if n ≤ tSend c k then .loaded else if n ≤ tDone k then .flight else .done
def ist (c : Dev nD) (n : ℕ) (k : K) : IS := if n ≤ tRecv c k then .waiting else .got

/-- Event `n` of device `c` moves transfer `k`'s sending side from `a` to `b` and nothing else. -/
def Out (c : Dev nD) (n : ℕ) (k : K) (a b : OS) : Prop :=
  ost c n k = a ∧ ost c (n + 1) k = b ∧ (∀ k', k' ≠ k → ost c (n + 1) k' = ost c n k') ∧ (∀ k', ist c (n + 1) k' = ist c n k')
    ∧ (∀ k', k' ≠ k → (n + 1 ≤ tSend c k' ↔ n ≤ tSend c k')) ∧ (n ≤ tSend c k ↔ a ≠ .flight) ∧ (n + 1 ≤ tSend c k ↔ b ≠ .flight ∧ b ≠ .done)
/-- Event `n` of device `c` is its landing `k` waited for. -/
def In (c : Dev nD) (n : ℕ) (k : K) : Prop :=
  ist c n k = .waiting ∧ ist c (n + 1) k = .got ∧ (∀ k', k' ≠ k → ist c (n + 1) k' = ist c n k') ∧ (∀ k', ost c (n + 1) k' = ost c n k')
    ∧ (∀ k', n + 1 ≤ tSend c k' ↔ n ≤ tSend c k') ∧ tSend c k < n

instance (c : Dev nD) (n : ℕ) (k : K) (a b : OS) : Decidable (Out c n k a b) := by unfold Out; infer_instance
instance (c : Dev nD) (n : ℕ) (k : K) : Decidable (In c n k) := by unfold In; infer_instance

theorem out_x1 : ∀ (c : Dev nD) (s : Fin 2) (r : Fin 4), Out c (8 * s.val + 2 * r.val) (.x1 s (slot c r)) .loaded .flight := by decide +kernel
theorem out_y1 : ∀ (c : Dev nD) (s : Fin 2) (r : Fin 4), Out c (8 * s.val + 2 * r.val + 1) (.y1 s (slot c r)) .loaded .flight := by decide +kernel
theorem out_bu0 : ∀ (c : Dev nD) (h : Fin 2), Out c (16 + 2 * h.val) (.bu 0 h) .loaded .flight := by decide +kernel
theorem out_bd0 : ∀ (c : Dev nD) (h : Fin 2), Out c (17 + 2 * h.val) (.bd 0 h) .loaded .flight := by decide +kernel
theorem in_x1 : ∀ (c : Dev nD) (r : Fin 4), In c (20 + 6 * r.val) (.x1 0 (slot c r)) := by decide +kernel
theorem st_x2 : ∀ (c : Dev nD) (r : Fin 4), Out c (21 + 6 * r.val) (.x2 (slot c r)) .ready .loaded := by decide +kernel
theorem out_x2 : ∀ (c : Dev nD) (r : Fin 4), Out c (22 + 6 * r.val) (.x2 (slot c r)) .loaded .flight := by decide +kernel
theorem in_y1 : ∀ (c : Dev nD) (r : Fin 4), In c (23 + 6 * r.val) (.y1 0 (slot c r)) := by decide +kernel
theorem st_y2 : ∀ (c : Dev nD) (r : Fin 4), Out c (24 + 6 * r.val) (.y2 (slot c r)) .ready .loaded := by decide +kernel
theorem out_y2 : ∀ (c : Dev nD) (r : Fin 4), Out c (25 + 6 * r.val) (.y2 (slot c r)) .loaded .flight := by decide +kernel
theorem in_bu : ∀ (c : Dev nD) (s h : Fin 2), In c (44 + 12 * s.val + 6 * h.val) (.bu s.castSucc h) := by decide +kernel
theorem in_bd : ∀ (c : Dev nD) (s h : Fin 2), In c (45 + 12 * s.val + 6 * h.val) (.bd s.castSucc h) := by decide +kernel
theorem st_bu : ∀ (c : Dev nD) (s h : Fin 2), Out c (46 + 12 * s.val + 6 * h.val) (.bu s.succ h) .ready .loaded := by decide +kernel
theorem st_bd : ∀ (c : Dev nD) (s h : Fin 2), Out c (47 + 12 * s.val + 6 * h.val) (.bd s.succ h) .ready .loaded := by decide +kernel
theorem out_bu : ∀ (c : Dev nD) (s h : Fin 2), Out c (48 + 12 * s.val + 6 * h.val) (.bu s.succ h) .loaded .flight := by decide +kernel
theorem out_bd : ∀ (c : Dev nD) (s h : Fin 2), Out c (49 + 12 * s.val + 6 * h.val) (.bd s.succ h) .loaded .flight := by decide +kernel
theorem in_a : ∀ (c : Dev nD) (e : Fin 3), In c (68 + 7 * e.val) (.x1 1 (slot c e.castSucc)) ∧ In c (69 + 7 * e.val) (.y1 1 (slot c e.castSucc))
    ∧ In c (70 + 7 * e.val) (.x2 (slot c e.castSucc)) ∧ In c (71 + 7 * e.val) (.y2 (slot c e.castSucc)) := by decide +kernel
theorem st_a2 : ∀ (c : Dev nD) (e : Fin 3), Out c (72 + 7 * e.val) (.a2 e) .ready .half ∧ Out c (73 + 7 * e.val) (.a2 e) .half .loaded
    ∧ Out c (74 + 7 * e.val) (.a2 e) .loaded .flight := by decide +kernel
theorem in_b2 : ∀ (c : Dev nD) (h : Fin 2), In c (89 + 2 * h.val) (.bu 2 h) ∧ In c (90 + 2 * h.val) (.bd 2 h) := by decide +kernel
theorem st_b2 : ∀ (c : Dev nD) (e : Fin 3), Out c (93 + 3 * e.val) (.b2 e) .ready .half ∧ Out c (94 + 3 * e.val) (.b2 e) .half .loaded
    ∧ Out c (95 + 3 * e.val) (.b2 e) .loaded .flight := by decide +kernel
theorem in_last : ∀ c : Dev nD, In c 102 (.x1 1 (slot c 3)) ∧ In c 103 (.y1 1 (slot c 3)) ∧ In c 104 (.x2 (slot c 3)) ∧ In c 105 (.y2 (slot c 3)) := by decide +kernel
theorem in_ab : ∀ (c : Dev nD) (e : Fin 3), In c (106 + 2 * e.val) (.a2 e) ∧ In c (107 + 2 * e.val) (.b2 e) := by decide +kernel
theorem fin_k : ∀ (k : K) (c : Dev nD), Out c (tDone k) k .flight .done ∧ 112 ≤ tDone k := by decide +kernel
theorem unsent : ∀ (k : K) (c : Dev nD), tSend c k < 112 := by decide +kernel
theorem ended : ∀ (k : K) (c : Dev nD), ost c 154 k = .done ∧ ist c 154 k = .got := by decide +kernel
/-- Every landing is got before 112. -/
theorem got_all : ∀ (k : K) (c : Dev nD), tRecv c k < 112 := by decide +kernel

end Cert.Mesh

end
-- ==== Proof.Cells.lean ====
/-
The forty-two transfers as memrefs and semaphores, what each of them carries, and the schedule of the cells they use.
-/
module

public import proofs.«01_k».proof.Proof.Mesh
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.ShareLeaves
public import Idealize.ShloMosaic.Lib.Tactic

@[expose] public section

set_option maxRecDepth 16384

noncomputable section

namespace Cert.Mesh

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## Semaphores -/

/-- The semaphore counting a transfer out, -/
def sSem : K → DmaSem sig
  | .x1 s j => ⟨3 + 4 * s.val + j.val, by show _ < 87; omega⟩
  | .y1 s j => ⟨27 + 4 * s.val + j.val, by show _ < 87; omega⟩
  | .x2 j => ⟨19 + j.val, by show _ < 87; omega⟩
  | .y2 j => ⟨43 + j.val, by show _ < 87; omega⟩
  | .bu s h => ⟨51 + 2 * s.val + h.val, by show _ < 87; omega⟩
  | .bd s h => ⟨57 + 2 * s.val + h.val, by show _ < 87; omega⟩
  | .a2 e => ⟨75 + e.val, by show _ < 87; omega⟩
  | .b2 e => ⟨81 + e.val, by show _ < 87; omega⟩
/-- and the one counting it in. -/
def rSem : K → DmaSem sig
  | .x1 s j => ⟨11 + 4 * s.val + j.val, by show _ < 87; omega⟩
  | .y1 s j => ⟨35 + 4 * s.val + j.val, by show _ < 87; omega⟩
  | .x2 j => ⟨23 + j.val, by show _ < 87; omega⟩
  | .y2 j => ⟨47 + j.val, by show _ < 87; omega⟩
  | .bu s h => ⟨63 + 2 * s.val + h.val, by show _ < 87; omega⟩
  | .bd s h => ⟨69 + 2 * s.val + h.val, by show _ < 87; omega⟩
  | .a2 e => ⟨78 + e.val, by show _ < 87; omega⟩
  | .b2 e => ⟨84 + e.val, by show _ < 87; omega⟩

theorem sSem_inj : ∀ k k' : K, sSem k = sSem k' → k = k' := by decide +kernel
theorem rSem_inj : ∀ k k' : K, rSem k = rSem k' → k = k' := by decide +kernel
theorem sSem_ne_rSem : ∀ k k' : K, sSem k ≠ rSem k' := by decide +kernel
theorem sems_le : ∀ k : K, 3 ≤ (sSem k).val ∧ 3 ≤ (rSem k).val := by decide +kernel

/-- The semaphore one entry of a table names. -/
def entry24 (A : DmaSems sig S2x4) (a : Fin 2) (b : Fin 4) : DmaSem sig :=
  ((A.slice (Rect.unit (s := S2x4) ![a.val, b.val] S1x1.size (by revert a b; decide))).squeeze S_ squeezes_S1x1_S_).sem
def entry32 (A : DmaSems sig S3x2) (a : Fin 3) (b : Fin 2) : DmaSem sig :=
  ((A.slice (Rect.unit (s := S3x2) ![a.val, b.val] S1x1.size (by revert a b; decide))).squeeze S_ squeezes_S1x1_S_).sem
def entry4 (A : DmaSems sig S4) (a : Fin 4) : DmaSem sig :=
  ((A.slice (Rect.unit (s := S4) ![a.val] S1.size (by revert a; decide))).squeeze S_ squeezes_S1_S_).sem
def entry3 (A : DmaSems sig S3) (a : Fin 3) : DmaSem sig :=
  ((A.slice (Rect.unit (s := S3) ![a.val] S1.size (by revert a; decide))).squeeze S_ squeezes_S1_S_).sem

theorem ent_x1s : ∀ a b, entry24 cc0_scratch17 a b = sSem (.x1 a b) := by decide +kernel
theorem ent_x1r : ∀ a b, entry24 cc0_scratch18 a b = rSem (.x1 a b) := by decide +kernel
theorem ent_x2s : ∀ a, entry4 cc0_scratch19 a = sSem (.x2 a) := by decide +kernel
theorem ent_x2r : ∀ a, entry4 cc0_scratch20 a = rSem (.x2 a) := by decide +kernel
theorem ent_y1s : ∀ a b, entry24 cc0_scratch21 a b = sSem (.y1 a b) := by decide +kernel
theorem ent_y1r : ∀ a b, entry24 cc0_scratch22 a b = rSem (.y1 a b) := by decide +kernel
theorem ent_y2s : ∀ a, entry4 cc0_scratch23 a = sSem (.y2 a) := by decide +kernel
theorem ent_y2r : ∀ a, entry4 cc0_scratch24 a = rSem (.y2 a) := by decide +kernel
theorem ent_bus : ∀ a b, entry32 cc0_scratch25 a b = sSem (.bu a b) := by decide +kernel
theorem ent_bds : ∀ a b, entry32 cc0_scratch26 a b = sSem (.bd a b) := by decide +kernel
theorem ent_bur : ∀ a b, entry32 cc0_scratch27 a b = rSem (.bu a b) := by decide +kernel
theorem ent_bdr : ∀ a b, entry32 cc0_scratch28 a b = rSem (.bd a b) := by decide +kernel
theorem ent_a2s : ∀ a, entry3 cc0_scratch29 a = sSem (.a2 a) := by decide +kernel
theorem ent_a2r : ∀ a, entry3 cc0_scratch30 a = rSem (.a2 a) := by decide +kernel
theorem ent_b2s : ∀ a, entry3 cc0_scratch31 a = sSem (.b2 a) := by decide +kernel
theorem ent_b2r : ∀ a, entry3 cc0_scratch32 a = rSem (.b2 a) := by decide +kernel

/-! ## Memrefs -/

abbrev pM : Memref sig .tc .vmem S1024x1024 .f32 := Memref.whole cc0_scratch0

theorem inb_tile (j q : Fin 4) (col : ℕ) (h : col ≤ 768) : ∀ a, ![row j q, col] a + S64x256.size a ≤ S1024x1024.size a := by
  have := row_le j q
  intro a; fin_cases a
  · exact this
  · show col + 256 ≤ 1024; omega
theorem inb_half (z : Fin 4) (b : Fin 2) (col : ℕ) (h : col ≤ 768) : ∀ a, ![hrow z b, col] a + S128x256.size a ≤ S1024x1024.size a := by
  have := hrow_le z b
  intro a; fin_cases a
  · exact this
  · show col + 256 ≤ 1024; omega
theorem inb_24 (s : Fin 2) (j : Fin 4) : ∀ a, ![s.val, j.val, 0, 0] a + S1x1x64x256.size a ≤ S2x4x64x256.size a := by revert s j; decide
theorem inb_32 (s : Fin 3) (h : Fin 2) : ∀ a, ![s.val, h.val, 0, 0] a + S1x1x128x256.size a ≤ S3x2x128x256.size a := by revert s h; decide
theorem inb_4 (j : Fin 4) : ∀ a, ![j.val, 0, 0] a + S1x64x256.size a ≤ S4x64x256.size a := by revert j; decide
theorem inb_3 (e : Fin 3) : ∀ a, ![e.val, 0, 0] a + S1x64x512.size a ≤ S3x64x512.size a := by revert e; decide

abbrev R24 (s : Fin 2) (j : Fin 4) : Rect S2x4x64x256 := Rect.unit (s := S2x4x64x256) ![s.val, j.val, 0, 0] S1x1x64x256.size (inb_24 s j)
abbrev R32 (s : Fin 3) (h : Fin 2) : Rect S3x2x128x256 := Rect.unit (s := S3x2x128x256) ![s.val, h.val, 0, 0] S1x1x128x256.size (inb_32 s h)
abbrev R4 (j : Fin 4) : Rect S4x64x256 := Rect.unit (s := S4x64x256) ![j.val, 0, 0] S1x64x256.size (inb_4 j)
abbrev R3 (e : Fin 3) : Rect S3x64x512 := Rect.unit (s := S3x64x512) ![e.val, 0, 0] S1x64x512.size (inb_3 e)
abbrev RT (j q : Fin 4) (col : ℕ) (h : col ≤ 768) : Rect S1024x1024 := Rect.unit (s := S1024x1024) ![row j q, col] S64x256.size (inb_tile j q col h)
abbrev RH (z : Fin 4) (b : Fin 2) (col : ℕ) (h : col ≤ 768) : Rect S1024x1024 := Rect.unit (s := S1024x1024) ![hrow z b, col] S128x256.size (inb_half z b col h)

abbrev M24 (m : Memref sig .tc .vmem S2x4x64x256 .f32) (s : Fin 2) (j : Fin 4) : Memref sig .tc .vmem S64x256 .f32 :=
  (m.slice (R24 s j) (fun _ => rfl)).squeeze S64x256 squeezes_S1x1x64x256_S64x256
abbrev M32 (m : Memref sig .tc .vmem S3x2x128x256 .f32) (s : Fin 3) (h : Fin 2) : Memref sig .tc .vmem S128x256 .f32 :=
  (m.slice (R32 s h) (fun _ => rfl)).squeeze S128x256 squeezes_S1x1x128x256_S128x256
abbrev M4 (m : Memref sig .tc .vmem S4x64x256 .f32) (j : Fin 4) : Memref sig .tc .vmem S64x256 .f32 :=
  (m.slice (R4 j) (fun _ => rfl)).squeeze S64x256 squeezes_S1x64x256_S64x256
abbrev M3 (m : Memref sig .tc .vmem S3x64x512 .f32) (e : Fin 3) : Memref sig .tc .vmem S64x512 .f32 :=
  (m.slice (R3 e) (fun _ => rfl)).squeeze S64x512 squeezes_S1x64x512_S64x512
abbrev MT' (j q : Fin 4) (col : ℕ) (h : col ≤ 768) : Memref sig .tc .vmem S64x256 .f32 := pM.slice (RT j q col h) (fun _ => rfl)
abbrev MH (z : Fin 4) (b : Fin 2) (col : ℕ) (h : col ≤ 768) : Memref sig .tc .vmem S128x256 .f32 := pM.slice (RH z b col h) (fun _ => rfl)

/-- The shape a transfer carries. -/
abbrev sh : K → Shape
  | .x1 _ _ => S64x256 | .y1 _ _ => S64x256 | .x2 _ => S64x256 | .y2 _ => S64x256
  | .bu _ _ => S128x256 | .bd _ _ => S128x256 | .a2 _ => S64x512 | .b2 _ => S64x512

/-- Where it lands, on every device the same. -/
def dM : (k : K) → Memref sig .tc .vmem (sh k) .f32
  | .x1 s j => M24 (Memref.whole cc0_scratch2) s j
  | .y1 s j => M24 (Memref.whole cc0_scratch6) s j
  | .x2 j => M4 (Memref.whole cc0_scratch4) j
  | .y2 j => M4 (Memref.whole cc0_scratch8) j
  | .bu s h => M32 (Memref.whole cc0_scratch11) s h
  | .bd s h => M32 (Memref.whole cc0_scratch12) s h
  | .a2 e => M3 (Memref.whole cc0_scratch14) e
  | .b2 e => M3 (Memref.whole cc0_scratch16) e

def xpl (s : Fin 2) (c : Dev nD) : Fin 4 := if s = 0 then gq (qOf c) else xq (qOf c)
def ypl (s : Fin 2) (c : Dev nD) : Fin 4 := if s = 0 then gq (qOf c) else yq (qOf c)

/-- Where it is read from. -/
def sM : (k : K) → Dev nD → Memref sig .tc .vmem (sh k) .f32
  | .x1 s j, c => MT' j (xpl s c) 0 (by decide)
  | .y1 s j, c => MT' j (ypl s c) 256 (by decide)
  | .x2 j, _ => M4 (Memref.whole cc0_scratch3) j
  | .y2 j, _ => M4 (Memref.whole cc0_scratch7) j
  | .bu s h, c => if s = 0 then MH (dz (zOf c)) h 512 (by decide) else M32 (Memref.whole cc0_scratch9) s h
  | .bd s h, c => if s = 0 then MH (uz (zOf c)) h 768 (by decide) else M32 (Memref.whole cc0_scratch10) s h
  | .a2 e, _ => M3 (Memref.whole cc0_scratch13) e
  | .b2 e, _ => M3 (Memref.whole cc0_scratch15) e

/-- Whether it is read from the partial product itself. -/
def isP : K → Bool
  | .x1 _ _ => true | .y1 _ _ => true | .bu s _ => s = 0 | .bd s _ => s = 0 | _ => false

/-- Its credit. -/
def NK (k : K) : ℕ := (dM k).view.dmaCredit
theorem sh_pos : ∀ k : K, 0 < (sh k).numel := by decide +kernel
theorem NK_pos (k : K) : 0 < NK k := View.dmaCredit_pos _ (sh_pos k)

/-! ## Contents -/

/-- Values of a slot read through its squeezed view, and back. -/
def sq {s s' : Shape} {E : Type} (hq : s.Squeezes s') (v : s.Idx → E) : s'.Idx → E := fun i => v (Shape.reshapeEquiv hq.numel_eq i)
def up {s s' : Shape} {E : Type} (hq : s.Squeezes s') (v : s'.Idx → E) : s.Idx → E := fun i => v ((Shape.reshapeEquiv hq.numel_eq).symm i)

theorem up_sq {s s' : Shape} {E : Type} (hq : s.Squeezes s') (v : s.Idx → E) : up hq (sq hq v) = v :=
  funext fun i => congrArg v (Equiv.apply_symm_apply _ _)
theorem sq_up {s s' : Shape} {E : Type} (hq : s.Squeezes s') (v : s'.Idx → E) : sq hq (up hq v) = v :=
  funext fun i => congrArg v (Equiv.symm_apply_apply _ _)

/-- The two column halves of a slot, and their join. -/
def lft (v : Vec F S1x64x512 .f32) : Vec F S1x64x256 .f32 := fun i => v (fun a => match a with
  | 0 => i 0 | 1 => i 1 | 2 => ⟨(i 2).val, by have : (i 2).val < 256 := (i 2).isLt; show _ < 512; omega⟩)
def rgt (v : Vec F S1x64x512 .f32) : Vec F S1x64x256 .f32 := fun i => v (fun a => match a with
  | 0 => i 0 | 1 => i 1 | 2 => ⟨256 + (i 2).val, by have : (i 2).val < 256 := (i 2).isLt; show _ < 512; omega⟩)
def cat (l r : Vec F S1x64x256 .f32) : Vec F S1x64x512 .f32 := fun i =>
  if h : (i 2).val < 256 then l (fun a => match a with | 0 => i 0 | 1 => i 1 | 2 => ⟨(i 2).val, h⟩)
  else r (fun a => match a with | 0 => i 0 | 1 => i 1 | 2 => ⟨(i 2).val - 256, by have : (i 2).val < 512 := (i 2).isLt; show _ < 256; omega⟩)
/-- The 64 rows starting at `o` of a half. -/
def rows (o : ℕ) (ho : o ≤ 64) (v : Vec F S1x1x128x256 .f32) : Vec F S1x1x64x256 .f32 := fun i => v (fun a => match a with
  | 0 => i 0 | 1 => i 1 | 2 => ⟨o + (i 2).val, by have : (i 2).val < 64 := (i 2).isLt; show _ < 128; omega⟩ | 3 => i 3)
theorem sub_le (q : Fin 4) : sub q ≤ 64 := by revert q; decide

section Contents

variable (X : Dev nD → Vec F S1024x64 .f32) (W : Dev nD → Vec F S64x1024 .f32)

/-- A device's partial product, its tiles and halves. -/
def Pm (c : Dev nD) : Vec F S1024x1024 .f32 := k0_pay2 (k0_pay1 (X c)) (W c)
def PT (c : Dev nD) (j q : Fin 4) (col : ℕ) (h : col ≤ 768 := by decide) : Vec F S64x256 .f32 := pM.view.readAt (Elt F) (RT j q col h).toLoadRect (Pm X W c)
def PH (c : Dev nD) (z : Fin 4) (b : Fin 2) (col : ℕ) (h : col ≤ 768 := by decide) : Vec F S128x256 .f32 := pM.view.readAt (Elt F) (RH z b col h).toLoadRect (Pm X W c)

abbrev u24 (v : Vec F S64x256 .f32) : Vec F S1x1x64x256 .f32 := up squeezes_S1x1x64x256_S64x256 v
abbrev u32 (v : Vec F S128x256 .f32) : Vec F S1x1x128x256 .f32 := up squeezes_S1x1x128x256_S128x256 v
abbrev u4 (v : Vec F S64x256 .f32) : Vec F S1x64x256 .f32 := up squeezes_S1x64x256_S64x256 v
abbrev u3 (v : Vec F S64x512 .f32) : Vec F S1x64x512 .f32 := up squeezes_S1x64x512_S64x512 v

def Vx1 (s : Fin 2) (j : Fin 4) (c : Dev nD) : Vec F S64x256 .f32 := PT X W c j (xpl s c) 0
def Vy1 (s : Fin 2) (j : Fin 4) (c : Dev nD) : Vec F S64x256 .f32 := PT X W c j (ypl s c) 256
/-- What is stored for `x2`, `y2`, and what these carry. -/
def Sx2 (j : Fin 4) (c : Dev nD) : Vec F S1x64x256 .f32 := k0_pay3 (PT X W c j (yq (qOf c)) 0) (u24 (Vx1 X W 0 j (dX c)))
def Sy2 (j : Fin 4) (c : Dev nD) : Vec F S1x64x256 .f32 := k0_pay4 (PT X W c j (xq (qOf c)) 256) (u24 (Vy1 X W 0 j (dY c)))
def Vx2 (j : Fin 4) (c : Dev nD) : Vec F S64x256 .f32 := sq squeezes_S1x64x256_S64x256 (Sx2 X W j c)
def Vy2 (j : Fin 4) (c : Dev nD) : Vec F S64x256 .f32 := sq squeezes_S1x64x256_S64x256 (Sy2 X W j c)
/-- The column rings, step by step. -/
def Vbu0 (h : Fin 2) (c : Dev nD) : Vec F S128x256 .f32 := PH X W c (dz (zOf c)) h 512
def Sbu1 (h : Fin 2) (c : Dev nD) : Vec F S1x1x128x256 .f32 := k0_pay11 (PH X W c (upz 0 (zOf c)) h 512) (u32 (Vbu0 X W h (dD c)))
def Vbu1 (h : Fin 2) (c : Dev nD) : Vec F S128x256 .f32 := sq squeezes_S1x1x128x256_S128x256 (Sbu1 X W h c)
def Sbu2 (h : Fin 2) (c : Dev nD) : Vec F S1x1x128x256 .f32 := k0_pay11 (PH X W c (upz 1 (zOf c)) h 512) (u32 (Vbu1 X W h (dD c)))
def Vbu2 (h : Fin 2) (c : Dev nD) : Vec F S128x256 .f32 := sq squeezes_S1x1x128x256_S128x256 (Sbu2 X W h c)
def Vbd0 (h : Fin 2) (c : Dev nD) : Vec F S128x256 .f32 := PH X W c (uz (zOf c)) h 768
def Sbd1 (h : Fin 2) (c : Dev nD) : Vec F S1x1x128x256 .f32 := k0_pay12 (PH X W c (dnz 0 (zOf c)) h 768) (u32 (Vbd0 X W h (dU c)))
def Vbd1 (h : Fin 2) (c : Dev nD) : Vec F S128x256 .f32 := sq squeezes_S1x1x128x256_S128x256 (Sbd1 X W h c)
def Sbd2 (h : Fin 2) (c : Dev nD) : Vec F S1x1x128x256 .f32 := k0_pay12 (PH X W c (dnz 1 (zOf c)) h 768) (u32 (Vbd1 X W h (dU c)))
def Vbd2 (h : Fin 2) (c : Dev nD) : Vec F S128x256 .f32 := sq squeezes_S1x1x128x256_S128x256 (Sbd2 X W h c)
/-- The sums dealt out, by halves. -/
def La2 (e : Fin 3) (c : Dev nD) : Vec F S1x64x256 .f32 :=
  k0_pay19 (PT X W c (slot c e.castSucc) (qOf c) 0) (u24 (Vx1 X W 1 (slot c e.castSucc) (dX c))) (u4 (Vx2 X W (slot c e.castSucc) (dY c)))
def Ra2 (e : Fin 3) (c : Dev nD) : Vec F S1x64x256 .f32 :=
  k0_pay20 (PT X W c (slot c e.castSucc) (qOf c) 256) (u24 (Vy1 X W 1 (slot c e.castSucc) (dY c))) (u4 (Vy2 X W (slot c e.castSucc) (dX c)))
def Va2 (e : Fin 3) (c : Dev nD) : Vec F S64x512 .f32 := sq squeezes_S1x64x512_S64x512 (cat (La2 X W e c) (Ra2 X W e c))
def Lb2 (e : Fin 3) (c : Dev nD) : Vec F S1x64x256 .f32 :=
  k0_pay27 (PT X W c (zOf c) (bq c e) 512) (rows (sub (bq c e)) (sub_le _) (u32 (Vbu2 X W (hf (bq c e)) (dD c))))
def Rb2 (e : Fin 3) (c : Dev nD) : Vec F S1x64x256 .f32 :=
  k0_pay28 (PT X W c (zOf c) (bq c e) 768) (rows (sub (bq c e)) (sub_le _) (u32 (Vbd2 X W (hf (bq c e)) (dU c))))
def Vb2 (e : Fin 3) (c : Dev nD) : Vec F S64x512 .f32 := sq squeezes_S1x64x512_S64x512 (cat (Lb2 X W e c) (Rb2 X W e c))

/-- What transfer `k` of device `c` carries. -/
def V : (k : K) → Dev nD → (sh k).Idx → Elt F .f32
  | .x1 s j, c => Vx1 X W s j c
  | .y1 s j, c => Vy1 X W s j c
  | .x2 j, c => Vx2 X W j c
  | .y2 j, c => Vy2 X W j c
  | .bu s h, c => match s with | 0 => Vbu0 X W h c | 1 => Vbu1 X W h c | 2 => Vbu2 X W h c
  | .bd s h, c => match s with | 0 => Vbd0 X W h c | 1 => Vbd1 X W h c | 2 => Vbd2 X W h c
  | .a2 e, c => Va2 X W e c
  | .b2 e, c => Vb2 X W e c

/-- What reaches device `c`. -/
def rV (k : K) (c : Dev nD) : (sh k).Idx → Elt F .f32 := V X W k (src k c)

/-- A device's four result tiles. -/
def Fo0 (c : Dev nD) : Vec F S64x256 .f32 :=
  k0_pay33 (PT X W c (slot c 3) (qOf c) 0) (u24 (rV X W (.x1 1 (slot c 3)) c)) (u4 (rV X W (.x2 (slot c 3)) c))
    (lft (u3 (rV X W (.a2 0) c))) (lft (u3 (rV X W (.a2 1) c))) (lft (u3 (rV X W (.a2 2) c)))
def Fo1' (c : Dev nD) : Vec F S64x256 .f32 :=
  k0_pay34 (PT X W c (slot c 3) (qOf c) 256) (u24 (rV X W (.y1 1 (slot c 3)) c)) (u4 (rV X W (.y2 (slot c 3)) c))
    (rgt (u3 (rV X W (.a2 0) c))) (rgt (u3 (rV X W (.a2 1) c)))
def Fo1 (c : Dev nD) : Vec F S64x256 .f32 := k0_pay35 (Fo1' X W c) (rgt (u3 (rV X W (.a2 2) c)))
def Fo2 (c : Dev nD) : Vec F S64x256 .f32 :=
  k0_pay36 (PT X W c (slot c 3) (qOf c) 512) (rows (sub (qOf c)) (sub_le _) (u32 (rV X W (.bu 2 (hf (qOf c))) c)))
    (lft (u3 (rV X W (.b2 0) c))) (lft (u3 (rV X W (.b2 1) c))) (lft (u3 (rV X W (.b2 2) c)))
def Fo3' (c : Dev nD) : Vec F S64x256 .f32 :=
  k0_pay37 (PT X W c (slot c 3) (qOf c) 768) (rows (sub (qOf c)) (sub_le _) (u32 (rV X W (.bd 2 (hf (qOf c))) c)))
    (rgt (u3 (rV X W (.b2 0) c))) (rgt (u3 (rV X W (.b2 1) c)))
def Fo3 (c : Dev nD) : Vec F S64x256 .f32 := k0_pay42 (Fo3' X W c) (k0_pay38 (rgt (u3 (rV X W (.b2 2) c))))
def tileOut (c : Dev nD) (i : Fin 4) : Vec F S64x256 .f32 :=
  match i with | 0 => k0_pay39 (Fo0 X W c) | 1 => k0_pay40 (Fo1 X W c) | 2 => k0_pay41 (Fo2 X W c) | 3 => Fo3 X W c
/-- A device's result. -/
def outV (c : Dev nD) : Vec F S64x1024 .f32 := fun i =>
  tileOut X W c ⟨(i 1).val / 256, by have : (i 1).val < 1024 := (i 1).isLt; omega⟩
    (fun a => match a with | 0 => i 0 | 1 => ⟨(i 1).val % 256, Nat.mod_lt _ (by decide)⟩)

end Contents

end Cert.Mesh

end
-- ==== Proof.Tiles.lean ====
/-
What every transfer carries, and what every result tile is before its last step, as a sum of tiles of the devices' partial products.
-/
module

public import proofs.«01_k».proof.Proof.Cells
public import Idealize.ShloMosaic.Lib.Pointwise

@[expose] public section

set_option maxRecDepth 16384

noncomputable section

namespace Cert.Mesh

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## Reshapes that undo one another -/

theorem cast_up {s s' : Shape} {E : Type} (hq : s.Squeezes s') (h : s.ShapeCasts s') (v : s'.Idx → E) : shapeCast s' (up hq v) h = v := by
  funext i
  unfold shapeCast up
  rw [Shape.reshapeEquiv_symm, Shape.reshapeEquiv_reshapeEquiv, Shape.reshapeEquiv_self]
theorem sq_cast {s s' : Shape} {E : Type} (hq : s.Squeezes s') (h : s'.ShapeCasts s) (v : s'.Idx → E) : sq hq (shapeCast s v h) = v := by
  funext i
  unfold shapeCast sq
  show v (Shape.reshapeEquiv _ (Shape.reshapeEquiv _ i)) = v i
  rw [Shape.reshapeEquiv_reshapeEquiv, Shape.reshapeEquiv_self]
theorem up_cast {s s' : Shape} {E : Type} (hq : s.Squeezes s') (h : s'.ShapeCasts s) (v : s'.Idx → E) : up hq v = shapeCast s v h := by
  funext i
  unfold shapeCast up
  rw [Shape.reshapeEquiv_symm]
theorem cast_cast {s s' : Shape} {E : Type} (h : s.ShapeCasts s') (h' : s'.ShapeCasts s) (v : s'.Idx → E) : shapeCast s' (shapeCast s v h') h = v := by
  funext i
  unfold shapeCast
  show v (Shape.reshapeEquiv _ (Shape.reshapeEquiv _ i)) = v i
  rw [Shape.reshapeEquiv_reshapeEquiv, Shape.reshapeEquiv_self]

theorem lft_cat (l r : Vec F S1x64x256 .f32) : lft (cat l r) = l := by
  funext i
  have h : (i 2).val < 256 := (i 2).isLt
  unfold lft cat
  rw [dif_pos h]
  exact congrArg l (funext fun a => by fin_cases a <;> rfl)
theorem rgt_cat (l r : Vec F S1x64x256 .f32) : rgt (cat l r) = r := by
  funext i
  have h : ¬ (256 + (i 2).val < 256) := by omega
  unfold rgt cat
  rw [dif_neg h]
  exact congrArg r (funext fun a => by fin_cases a <;> first | rfl | exact Fin.ext (Nat.add_sub_cancel_left 256 (i 2).val))

/-- Row `a` of the rows starting at `o` is row `o + a`. -/
theorem cast_rows (o : ℕ) (ho : o ≤ 64) (v : Vec F S128x256 .f32) (i : S64x256.Idx) :
    shapeCast S64x256 (rows o ho (u32 v)) shapeCasts_S1x1x64x256_S64x256 i
      = v (fun a => match a with | 0 => ⟨o + (i 0).val, by have : (i 0).val < 64 := (i 0).isLt; show _ < 128; omega⟩ | 1 => i 1) := by
  unfold u32
  rw [up_cast squeezes_S1x1x128x256_S128x256 (shapeCasts_S128x256_S1x1x128x256)]
  unfold rows
  pointwise
  exact congrArg v (funext fun a => by fin_cases a <;> rfl)

section Sums

variable (X : Dev nD → Vec F S1024x64 .f32) (W : Dev nD → Vec F S64x1024 .f32)

/-! ## What the transfers carry, as sums of tiles -/

theorem Vx2_eq (j : Fin 4) (c : Dev nD) : Vx2 X W j c = addf (PT X W c j (yq (qOf c)) 0) (Vx1 X W 0 j (dX c)) := by
  unfold Vx2 Sx2 k0_pay3
  rw [sq_cast, cast_up]
theorem Vy2_eq (j : Fin 4) (c : Dev nD) : Vy2 X W j c = addf (PT X W c j (xq (qOf c)) 256) (Vy1 X W 0 j (dY c)) := by
  unfold Vy2 Sy2 k0_pay4
  rw [sq_cast, cast_up]
theorem Vbu1_eq (h : Fin 2) (c : Dev nD) : Vbu1 X W h c = addf (PH X W c (upz 0 (zOf c)) h 512) (Vbu0 X W h (dD c)) := by
  unfold Vbu1 Sbu1 k0_pay11
  rw [sq_cast, cast_up]
theorem Vbu2_eq (h : Fin 2) (c : Dev nD) : Vbu2 X W h c = addf (PH X W c (upz 1 (zOf c)) h 512) (Vbu1 X W h (dD c)) := by
  unfold Vbu2 Sbu2 k0_pay11
  rw [sq_cast, cast_up]
theorem Vbd1_eq (h : Fin 2) (c : Dev nD) : Vbd1 X W h c = addf (PH X W c (dnz 0 (zOf c)) h 768) (Vbd0 X W h (dU c)) := by
  unfold Vbd1 Sbd1 k0_pay12
  rw [sq_cast, cast_up]
theorem Vbd2_eq (h : Fin 2) (c : Dev nD) : Vbd2 X W h c = addf (PH X W c (dnz 1 (zOf c)) h 768) (Vbd1 X W h (dU c)) := by
  unfold Vbd2 Sbd2 k0_pay12
  rw [sq_cast, cast_up]

/-- The sums dealt out, read back. -/
def Ls (e : Fin 3) (c : Dev nD) : Vec F S64x256 .f32 :=
  addf (addf (PT X W c (slot c e.castSucc) (qOf c) 0) (Vx1 X W 1 (slot c e.castSucc) (dX c))) (Vx2 X W (slot c e.castSucc) (dY c))
def Rs (e : Fin 3) (c : Dev nD) : Vec F S64x256 .f32 :=
  addf (addf (PT X W c (slot c e.castSucc) (qOf c) 256) (Vy1 X W 1 (slot c e.castSucc) (dY c))) (Vy2 X W (slot c e.castSucc) (dX c))
def Lr (e : Fin 3) (c : Dev nD) : Vec F S64x256 .f32 :=
  addf (PT X W c (zOf c) (bq c e) 512) (shapeCast S64x256 (rows (sub (bq c e)) (sub_le _) (u32 (Vbu2 X W (hf (bq c e)) (dD c)))) shapeCasts_S1x1x64x256_S64x256)
def Rr (e : Fin 3) (c : Dev nD) : Vec F S64x256 .f32 :=
  addf (PT X W c (zOf c) (bq c e) 768) (shapeCast S64x256 (rows (sub (bq c e)) (sub_le _) (u32 (Vbd2 X W (hf (bq c e)) (dU c)))) shapeCasts_S1x1x64x256_S64x256)

theorem back_La2 (e : Fin 3) (c : Dev nD) : shapeCast S64x256 (lft (u3 (Va2 X W e c))) shapeCasts_S1x64x256_S64x256 = Ls X W e c := by
  unfold Va2 u3
  rw [up_sq, lft_cat]
  unfold La2 k0_pay19
  rw [cast_cast, cast_up, cast_up]
  rfl
theorem back_Ra2 (e : Fin 3) (c : Dev nD) : shapeCast S64x256 (rgt (u3 (Va2 X W e c))) shapeCasts_S1x64x256_S64x256 = Rs X W e c := by
  unfold Va2 u3
  rw [up_sq, rgt_cat]
  unfold Ra2 k0_pay20
  rw [cast_cast, cast_up, cast_up]
  rfl
theorem back_Lb2 (e : Fin 3) (c : Dev nD) : shapeCast S64x256 (lft (u3 (Vb2 X W e c))) shapeCasts_S1x64x256_S64x256 = Lr X W e c := by
  unfold Vb2 u3
  rw [up_sq, lft_cat]
  unfold Lb2 k0_pay27
  rw [cast_cast]
  rfl
theorem back_Rb2 (e : Fin 3) (c : Dev nD) : shapeCast S64x256 (rgt (u3 (Vb2 X W e c))) shapeCasts_S1x64x256_S64x256 = Rr X W e c := by
  unfold Vb2 u3
  rw [up_sq, rgt_cat]
  unfold Rb2 k0_pay28
  rw [cast_cast]
  rfl

theorem rV_a2 (e : Fin 3) (c : Dev nD) : rV X W (.a2 e) c = Va2 X W e (dA e.rev c) := rfl
theorem rV_b2 (e : Fin 3) (c : Dev nD) : rV X W (.b2 e) c = Vb2 X W e (dB e.rev c) := rfl
theorem rV_x1 (j : Fin 4) (c : Dev nD) : rV X W (.x1 1 j) c = Vx1 X W 1 j (dX c) := rfl
theorem rV_y1 (j : Fin 4) (c : Dev nD) : rV X W (.y1 1 j) c = Vy1 X W 1 j (dY c) := rfl
theorem rV_x2 (j : Fin 4) (c : Dev nD) : rV X W (.x2 j) c = Vx2 X W j (dY c) := rfl
theorem rV_y2 (j : Fin 4) (c : Dev nD) : rV X W (.y2 j) c = Vy2 X W j (dX c) := rfl
theorem rV_bu (h : Fin 2) (c : Dev nD) : rV X W (.bu 2 h) c = Vbu2 X W h (dD c) := rfl
theorem rV_bd (h : Fin 2) (c : Dev nD) : rV X W (.bd 2 h) c = Vbd2 X W h (dU c) := rfl

theorem Fo0_eq (c : Dev nD) : Fo0 X W c
    = addf (addf (addf (addf (addf (PT X W c (slot c 3) (qOf c) 0) (Vx1 X W 1 (slot c 3) (dX c))) (Vx2 X W (slot c 3) (dY c)))
        (Ls X W 0 (dA 2 c))) (Ls X W 1 (dA 1 c))) (Ls X W 2 (dA 0 c)) := by
  unfold Fo0 k0_pay33
  rw [rV_a2, rV_a2, rV_a2, back_La2, back_La2, back_La2, cast_up, cast_up]
  rfl
theorem Fo1_eq (c : Dev nD) : Fo1 X W c
    = addf (addf (addf (addf (addf (PT X W c (slot c 3) (qOf c) 256) (Vy1 X W 1 (slot c 3) (dY c))) (Vy2 X W (slot c 3) (dX c)))
        (Rs X W 0 (dA 2 c))) (Rs X W 1 (dA 1 c))) (Rs X W 2 (dA 0 c)) := by
  unfold Fo1 Fo1' k0_pay35 k0_pay34
  rw [rV_a2, rV_a2, rV_a2, back_Ra2, back_Ra2, back_Ra2, cast_up, cast_up]
  rfl
theorem Fo2_eq (c : Dev nD) : Fo2 X W c
    = addf (addf (addf (addf (PT X W c (slot c 3) (qOf c) 512)
        (shapeCast S64x256 (rows (sub (qOf c)) (sub_le _) (u32 (Vbu2 X W (hf (qOf c)) (dD c)))) shapeCasts_S1x1x64x256_S64x256))
        (Lr X W 0 (dB 2 c))) (Lr X W 1 (dB 1 c))) (Lr X W 2 (dB 0 c)) := by
  unfold Fo2 k0_pay36
  rw [rV_b2, rV_b2, rV_b2, back_Lb2, back_Lb2, back_Lb2]
  rfl
theorem Fo3_eq (c : Dev nD) : addf (Fo3' X W c) (k0_pay38 (rgt (u3 (rV X W (.b2 2) c))))
    = addf (addf (addf (addf (PT X W c (slot c 3) (qOf c) 768)
        (shapeCast S64x256 (rows (sub (qOf c)) (sub_le _) (u32 (Vbd2 X W (hf (qOf c)) (dU c)))) shapeCasts_S1x1x64x256_S64x256))
        (Rr X W 0 (dB 2 c))) (Rr X W 1 (dB 1 c))) (Rr X W 2 (dB 0 c)) := by
  unfold Fo3' k0_pay37 k0_pay38
  rw [rV_b2, rV_b2, rV_b2, back_Rb2, back_Rb2, back_Rb2]
  rfl

/-! ## Tiles and halves at an element -/

/-- A device's partial product at a row and a column. -/
def Pn [Inhabited (F .f32)] (c : Dev nD) (r k : ℕ) : F .f32 :=
  if h : r < 1024 ∧ k < 1024 then Pm X W c (ix2 (⟨r, h.1⟩ : Fin 1024) (⟨k, h.2⟩ : Fin 1024)) else default

theorem PT_at [Inhabited (F .f32)] (c : Dev nD) (j q : Fin 4) (col : ℕ) (h : col ≤ 768) (i : S64x256.Idx) :
    PT X W c j q col h i = Pn X W c (row j q + (i 0).val) (col + (i 1).val) := by
  have h0 : (i 0).val < 64 := (i 0).isLt
  have h1 : (i 1).val < 256 := (i 1).isLt
  have := row_le j q
  unfold Pn PT
  rw [dif_pos ⟨by omega, by omega⟩, View.readAt_apply]
  exact congrArg (Pm X W c) (funext fun a => Fin.ext (by
    fin_cases a
    · show row j q + 1 * (i 0).val = row j q + (i 0).val; omega
    · show col + 1 * (i 1).val = col + (i 1).val; omega))

theorem PH_at [Inhabited (F .f32)] (c : Dev nD) (z : Fin 4) (b : Fin 2) (col : ℕ) (h : col ≤ 768) (i : S128x256.Idx) :
    PH X W c z b col h i = Pn X W c (hrow z b + (i 0).val) (col + (i 1).val) := by
  have h0 : (i 0).val < 128 := (i 0).isLt
  have h1 : (i 1).val < 256 := (i 1).isLt
  have := hrow_le z b
  unfold Pn PH
  rw [dif_pos ⟨by omega, by omega⟩, View.readAt_apply]
  exact congrArg (Pm X W c) (funext fun a => Fin.ext (by
    fin_cases a
    · show hrow z b + 1 * (i 0).val = hrow z b + (i 0).val; omega
    · show col + 1 * (i 1).val = col + (i 1).val; omega))

end Sums

end Cert.Mesh

end
-- ==== Proof.Value.lean ====
/-
Over the extended reals: a device's result at an element is the last step of the sum, over all the devices, of their partial products there.
-/
module

public import proofs.«01_k».proof.Proof.Tiles
public import Idealize.ShloMosaic.Lib.Pointwise
public import Idealize.ShloMosaic.Lib.IdealHost

@[expose] public section

set_option maxRecDepth 16384

noncomputable section

namespace Cert.Mesh

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! ## Who adds what -/

theorem slot3 : ∀ c : Dev nD, slot c 3 = zOf c := by decide +kernel
theorem slot_dA : ∀ (e : Fin 3) (c : Dev nD), slot (dA e.rev c) e.castSucc = zOf c := by decide +kernel
theorem qOf_dA : ∀ (e : Fin 3) (c : Dev nD), qOf (dA e c) = qOf c := by decide +kernel
theorem zOf_dB : ∀ (e : Fin 3) (c : Dev nD), zOf (dB e c) = zOf c := by decide +kernel
theorem bq_dB : ∀ (e : Fin 3) (c : Dev nD), bq (dB e.rev c) e = qOf c := by decide +kernel
theorem xq_dX : ∀ c : Dev nD, xq (qOf (dX c)) = qOf c := by decide +kernel
theorem yq_dY : ∀ c : Dev nD, yq (qOf (dY c)) = qOf c := by decide +kernel
theorem gq_dXdY : ∀ c : Dev nD, gq (qOf (dX (dY c))) = qOf c := by decide +kernel
theorem gq_dYdX : ∀ c : Dev nD, gq (qOf (dY (dX c))) = qOf c := by decide +kernel
theorem up1 : ∀ c : Dev nD, upz 1 (zOf (dD c)) = zOf c := by decide +kernel
theorem up0 : ∀ c : Dev nD, upz 0 (zOf (dD (dD c))) = zOf c := by decide +kernel
theorem up_ : ∀ c : Dev nD, dz (zOf (dD (dD (dD c)))) = zOf c := by decide +kernel
theorem dn1 : ∀ c : Dev nD, dnz 1 (zOf (dU c)) = zOf c := by decide +kernel
theorem dn0 : ∀ c : Dev nD, dnz 0 (zOf (dU (dU c))) = zOf c := by decide +kernel
theorem dn_ : ∀ c : Dev nD, uz (zOf (dU (dU (dU c)))) = zOf c := by decide +kernel
theorem hrow_sub : ∀ z q : Fin 4, hrow z (hf q) + sub q = row z q := by decide +kernel

/-- Each order of addition meets every device once. -/
def ordX (c : Dev nD) : List (Dev nD) := [c, dA 2 c, dA 1 c, dA 0 c].flatMap fun d => [d, dX d, dY d, dX (dY d)]
def ordY (c : Dev nD) : List (Dev nD) := [c, dA 2 c, dA 1 c, dA 0 c].flatMap fun d => [d, dY d, dX d, dY (dX d)]
def ordU (c : Dev nD) : List (Dev nD) := [c, dB 2 c, dB 1 c, dB 0 c].flatMap fun d => [d, dD d, dD (dD d), dD (dD (dD d))]
def ordD (c : Dev nD) : List (Dev nD) := [c, dB 2 c, dB 1 c, dB 0 c].flatMap fun d => [d, dU d, dU (dU d), dU (dU (dU d))]
theorem ordX_perm : ∀ c : Dev nD, (ordX c).Perm (List.finRange nD) := by decide +kernel
theorem ordY_perm : ∀ c : Dev nD, (ordY c).Perm (List.finRange nD) := by decide +kernel
theorem ordU_perm : ∀ c : Dev nD, (ordU c).Perm (List.finRange nD) := by decide +kernel
theorem ordD_perm : ∀ c : Dev nD, (ordD c).Perm (List.finRange nD) := by decide +kernel

theorem sum_of_perm {l : List (Dev nD)} (h : l.Perm (List.finRange nD)) (g : Dev nD → EReal) : (l.map g).sum = ∑ d : Dev nD, g d := by
  rw [(h.map g).sum_eq, ← Fin.sum_univ_def]

section Sums

instance : Inhabited (Ideal .f32) := ⟨(0 : EReal)⟩

variable (X : Dev nD → Vec Ideal S1024x64 .f32) (W : Dev nD → Vec Ideal S64x1024 .f32)

theorem rows_at (z q : Fin 4) (c : Dev nD) (i : S64x256.Idx) : hrow z (hf q) + (sub q + (i 0).val) = row z q + (i 0).val := by
  rw [← hrow_sub]; omega

theorem Vx1_at (s : Fin 2) (j : Fin 4) (c : Dev nD) (i : S64x256.Idx) : Vx1 X W s j c i = Pn X W c (row j (xpl s c) + (i 0).val) (0 + (i 1).val) := PT_at X W _ _ _ _ _ _
theorem Vy1_at (s : Fin 2) (j : Fin 4) (c : Dev nD) (i : S64x256.Idx) : Vy1 X W s j c i = Pn X W c (row j (ypl s c) + (i 0).val) (256 + (i 1).val) := PT_at X W _ _ _ _ _ _
theorem Vbu0_at (h : Fin 2) (c : Dev nD) (i : S128x256.Idx) : Vbu0 X W h c i = Pn X W c (hrow (dz (zOf c)) h + (i 0).val) (512 + (i 1).val) := PH_at X W _ _ _ _ _ _
theorem Vbd0_at (h : Fin 2) (c : Dev nD) (i : S128x256.Idx) : Vbd0 X W h c i = Pn X W c (hrow (uz (zOf c)) h + (i 0).val) (768 + (i 1).val) := PH_at X W _ _ _ _ _ _

/-- One plane's four devices, along `x` first or along `y` first. -/
theorem plane_x (j : Fin 4) (c : Dev nD) (i : S64x256.Idx) :
    addf (addf (PT X W c j (qOf c) 0) (Vx1 X W 1 j (dX c))) (Vx2 X W j (dY c)) i
      = ([c, dX c, dY c, dX (dY c)].map fun d => Pn X W d (row j (qOf c) + (i 0).val) (0 + (i 1).val)).sum := by
  rw [Vx2_eq]
  show (PT X W c j (qOf c) 0 _ i + Vx1 X W 1 j (dX c) i) + (PT X W (dY c) j (yq (qOf (dY c))) 0 _ i + Vx1 X W 0 j (dX (dY c)) i) = _
  rw [PT_at, PT_at, Vx1_at, Vx1_at, show xpl 1 (dX c) = qOf c from xq_dX c, show xpl 0 (dX (dY c)) = qOf c from gq_dXdY c, yq_dY]
  simp only [List.map_cons, List.map_nil, List.sum_cons, List.sum_nil, add_zero, add_assoc]
theorem plane_y (j : Fin 4) (c : Dev nD) (i : S64x256.Idx) :
    addf (addf (PT X W c j (qOf c) 256) (Vy1 X W 1 j (dY c))) (Vy2 X W j (dX c)) i
      = ([c, dY c, dX c, dY (dX c)].map fun d => Pn X W d (row j (qOf c) + (i 0).val) (256 + (i 1).val)).sum := by
  rw [Vy2_eq]
  show (PT X W c j (qOf c) 256 _ i + Vy1 X W 1 j (dY c) i) + (PT X W (dX c) j (xq (qOf (dX c))) 256 _ i + Vy1 X W 0 j (dY (dX c)) i) = _
  rw [PT_at, PT_at, Vy1_at, Vy1_at, show ypl 1 (dY c) = qOf c from yq_dY c, show ypl 0 (dY (dX c)) = qOf c from gq_dYdX c, xq_dX]
  simp only [List.map_cons, List.map_nil, List.sum_cons, List.sum_nil, add_zero, add_assoc]

/-- One column's four devices, upwards or downwards. -/
theorem column_u (q : Fin 4) (c : Dev nD) (i : S64x256.Idx) :
    addf (PT X W c (zOf c) q 512) (shapeCast S64x256 (rows (sub q) (sub_le _) (u32 (Vbu2 X W (hf q) (dD c)))) shapeCasts_S1x1x64x256_S64x256) i
      = ([c, dD c, dD (dD c), dD (dD (dD c))].map fun d => Pn X W d (row (zOf c) q + (i 0).val) (512 + (i 1).val)).sum := by
  show PT X W c (zOf c) q 512 _ i + shapeCast S64x256 (rows (sub q) (sub_le _) (u32 (Vbu2 X W (hf q) (dD c)))) shapeCasts_S1x1x64x256_S64x256 i = _
  rw [cast_rows, Vbu2_eq, Vbu1_eq]
  show PT X W c (zOf c) q 512 _ i + (PH X W (dD c) (upz 1 (zOf (dD c))) (hf q) 512 _ _ + (PH X W (dD (dD c)) (upz 0 (zOf (dD (dD c)))) (hf q) 512 _ _ + Vbu0 X W (hf q) (dD (dD (dD c))) _)) = _
  rw [PT_at, PH_at, PH_at, Vbu0_at, up1, up0, up_]
  show _ + (Pn X W _ (hrow (zOf c) (hf q) + (sub q + (i 0).val)) _ + (Pn X W _ (hrow (zOf c) (hf q) + (sub q + (i 0).val)) _ + Pn X W _ (hrow (zOf c) (hf q) + (sub q + (i 0).val)) _)) = _
  rw [rows_at (zOf c) q c i]
  simp only [List.map_cons, List.map_nil, List.sum_cons, List.sum_nil, add_zero]
theorem column_d (q : Fin 4) (c : Dev nD) (i : S64x256.Idx) :
    addf (PT X W c (zOf c) q 768) (shapeCast S64x256 (rows (sub q) (sub_le _) (u32 (Vbd2 X W (hf q) (dU c)))) shapeCasts_S1x1x64x256_S64x256) i
      = ([c, dU c, dU (dU c), dU (dU (dU c))].map fun d => Pn X W d (row (zOf c) q + (i 0).val) (768 + (i 1).val)).sum := by
  show PT X W c (zOf c) q 768 _ i + shapeCast S64x256 (rows (sub q) (sub_le _) (u32 (Vbd2 X W (hf q) (dU c)))) shapeCasts_S1x1x64x256_S64x256 i = _
  rw [cast_rows, Vbd2_eq, Vbd1_eq]
  show PT X W c (zOf c) q 768 _ i + (PH X W (dU c) (dnz 1 (zOf (dU c))) (hf q) 768 _ _ + (PH X W (dU (dU c)) (dnz 0 (zOf (dU (dU c)))) (hf q) 768 _ _ + Vbd0 X W (hf q) (dU (dU (dU c))) _)) = _
  rw [PT_at, PH_at, PH_at, Vbd0_at, dn1, dn0, dn_]
  show _ + (Pn X W _ (hrow (zOf c) (hf q) + (sub q + (i 0).val)) _ + (Pn X W _ (hrow (zOf c) (hf q) + (sub q + (i 0).val)) _ + Pn X W _ (hrow (zOf c) (hf q) + (sub q + (i 0).val)) _)) = _
  rw [rows_at (zOf c) q c i]
  simp only [List.map_cons, List.map_nil, List.sum_cons, List.sum_nil, add_zero]

theorem Ls_at (e : Fin 3) (c : Dev nD) (i : S64x256.Idx) : Ls X W e (dA e.rev c) i
    = ([dA e.rev c, dX (dA e.rev c), dY (dA e.rev c), dX (dY (dA e.rev c))].map fun d => Pn X W d (row (zOf c) (qOf c) + (i 0).val) (0 + (i 1).val)).sum := by
  unfold Ls
  rw [plane_x, slot_dA, qOf_dA]
theorem Rs_at (e : Fin 3) (c : Dev nD) (i : S64x256.Idx) : Rs X W e (dA e.rev c) i
    = ([dA e.rev c, dY (dA e.rev c), dX (dA e.rev c), dY (dX (dA e.rev c))].map fun d => Pn X W d (row (zOf c) (qOf c) + (i 0).val) (256 + (i 1).val)).sum := by
  unfold Rs
  rw [plane_y, slot_dA, qOf_dA]
theorem Lr_at (e : Fin 3) (c : Dev nD) (i : S64x256.Idx) : Lr X W e (dB e.rev c) i
    = ([dB e.rev c, dD (dB e.rev c), dD (dD (dB e.rev c)), dD (dD (dD (dB e.rev c)))].map fun d => Pn X W d (row (zOf c) (qOf c) + (i 0).val) (512 + (i 1).val)).sum := by
  unfold Lr
  rw [column_u, bq_dB, zOf_dB]
theorem Rr_at (e : Fin 3) (c : Dev nD) (i : S64x256.Idx) : Rr X W e (dB e.rev c) i
    = ([dB e.rev c, dU (dB e.rev c), dU (dU (dB e.rev c)), dU (dU (dU (dB e.rev c)))].map fun d => Pn X W d (row (zOf c) (qOf c) + (i 0).val) (768 + (i 1).val)).sum := by
  unfold Rr
  rw [column_d, bq_dB, zOf_dB]

/-! ## A result tile adds up all the devices -/

/-- Four groups of four, and the sixteen in a row. -/
theorem four (f : Dev nD → List (Dev nD)) (g : Dev nD → EReal) (a b c d : Dev nD) :
    (((f a).map g).sum + ((f b).map g).sum + ((f c).map g).sum + ((f d).map g).sum) = (([a, b, c, d].flatMap f).map g).sum := by
  simp only [List.flatMap_cons, List.flatMap_nil, List.map_append, List.map_nil, List.sum_append, List.sum_nil, add_zero, add_assoc]

theorem sum0 (c : Dev nD) (i : S64x256.Idx) : Fo0 X W c i = ∑ d : Dev nD, Pn X W d (row (zOf c) (qOf c) + (i 0).val) (0 + (i 1).val) := by
  rw [Fo0_eq, ← sum_of_perm (ordX_perm c), ordX, ← four]
  refine congrArg₂ (· + ·) (congrArg₂ (· + ·) (congrArg₂ (· + ·) ?_ (Ls_at X W 0 c i)) (Ls_at X W 1 c i)) (Ls_at X W 2 c i)
  exact (plane_x X W (slot c 3) c i).trans (by rw [slot3])
theorem sum1 (c : Dev nD) (i : S64x256.Idx) : Fo1 X W c i = ∑ d : Dev nD, Pn X W d (row (zOf c) (qOf c) + (i 0).val) (256 + (i 1).val) := by
  rw [Fo1_eq, ← sum_of_perm (ordY_perm c), ordY, ← four]
  refine congrArg₂ (· + ·) (congrArg₂ (· + ·) (congrArg₂ (· + ·) ?_ (Rs_at X W 0 c i)) (Rs_at X W 1 c i)) (Rs_at X W 2 c i)
  exact (plane_y X W (slot c 3) c i).trans (by rw [slot3])
theorem sum2 (c : Dev nD) (i : S64x256.Idx) : Fo2 X W c i = ∑ d : Dev nD, Pn X W d (row (zOf c) (qOf c) + (i 0).val) (512 + (i 1).val) := by
  rw [Fo2_eq, ← sum_of_perm (ordU_perm c), ordU, ← four, slot3]
  exact congrArg₂ (· + ·) (congrArg₂ (· + ·) (congrArg₂ (· + ·) (column_u X W (qOf c) c i) (Lr_at X W 0 c i)) (Lr_at X W 1 c i)) (Lr_at X W 2 c i)
theorem sum3 (c : Dev nD) (i : S64x256.Idx) : addf (Fo3' X W c) (k0_pay38 (rgt (u3 (rV X W (.b2 2) c)))) i
    = ∑ d : Dev nD, Pn X W d (row (zOf c) (qOf c) + (i 0).val) (768 + (i 1).val) := by
  rw [Fo3_eq, ← sum_of_perm (ordD_perm c), ordD, ← four, slot3]
  exact congrArg₂ (· + ·) (congrArg₂ (· + ·) (congrArg₂ (· + ·) (column_d X W (qOf c) c i) (Rr_at X W 0 c i)) (Rr_at X W 1 c i)) (Rr_at X W 2 c i)

/-! ## The last step -/

theorem exp_nonneg (y : EReal) : 0 ≤ Ideal.exp y := by
  induction y using EReal.rec with
  | bot => exact le_refl (0 : EReal)
  | top => exact (le_top : (0 : EReal) ≤ ⊤)
  | coe r => exact EReal.coe_nonneg.mpr (Real.exp_pos r).le
theorem den_ne (y : EReal) : 1 + Ideal.exp y ≠ 0 := by
  have h : (1 : EReal) ≤ 1 + Ideal.exp y := le_add_of_nonneg_right (exp_nonneg y)
  exact ne_of_gt (lt_of_lt_of_le zero_lt_one h)

/-- `y / (1 + e⁻ʸ)`. -/
def silu (y : EReal) : EReal := Ideal.div y (1 + Ideal.exp (-y))

theorem silu_eq (y : EReal) : y * Ideal.div 1 (1 + Ideal.exp (0 - y)) = silu y := by
  unfold silu Ideal.div
  rw [zero_sub, if_neg (den_ne _), if_neg (den_ne _), one_mul]

theorem pay39 (v : Vec Ideal S64x256 .f32) (i : S64x256.Idx) : k0_pay39 (F := Ideal) v i = silu (v i) := by
  rw [← silu_eq, ← Ideal.ofBits_zero_f32, ← Ideal.ofBits_one_f32]; rfl
theorem pay40 (v : Vec Ideal S64x256 .f32) (i : S64x256.Idx) : k0_pay40 (F := Ideal) v i = silu (v i) := by
  rw [← silu_eq, ← Ideal.ofBits_zero_f32, ← Ideal.ofBits_one_f32]; rfl
theorem pay41 (v : Vec Ideal S64x256 .f32) (i : S64x256.Idx) : k0_pay41 (F := Ideal) v i = silu (v i) := by
  rw [← silu_eq, ← Ideal.ofBits_zero_f32, ← Ideal.ofBits_one_f32]; rfl
theorem pay42 (v w : Vec Ideal S64x256 .f32) (i : S64x256.Idx) : k0_pay42 (F := Ideal) v w i = silu (addf (F := Ideal) (φ := .f32) (s := S64x256) v w i) := by
  rw [← silu_eq, ← Ideal.ofBits_zero_f32, ← Ideal.ofBits_one_f32]; rfl

theorem tile_at (c : Dev nD) (k : Fin 4) (i : S64x256.Idx) :
    tileOut X W c k i = silu (∑ d : Dev nD, Pn X W d (row (zOf c) (qOf c) + (i 0).val) (256 * k.val + (i 1).val)) := by
  fin_cases k
  · exact (pay39 _ i).trans (congrArg silu (sum0 X W c i))
  · exact (pay40 _ i).trans (congrArg silu (sum1 X W c i))
  · exact (pay41 _ i).trans (congrArg silu (sum2 X W c i))
  · exact (pay42 _ _ i).trans (congrArg silu (sum3 X W c i))

theorem row_eq : ∀ c : Dev nD, row (zOf c) (qOf c) = 64 * c.val := by decide +kernel

/-- A device's result at an element: the last step of the devices' partial products summed, at the device's rows. -/
theorem outV_at (c : Dev nD) (i : S64x1024.Idx) :
    outV X W c i = silu (∑ d : Dev nD, Pn X W d (64 * c.val + (i 0).val) (i 1).val) := by
  unfold outV
  rw [tile_at, row_eq]
  refine congrArg silu (Finset.sum_congr rfl fun d _ => congrArg (Pn X W d _) ?_)
  show 256 * ((i 1).val / 256) + (i 1).val % 256 = (i 1).val
  omega

/-- A partial product at an element. -/
theorem Pn_at (c : Dev nD) (r k : ℕ) (hr : r < 1024) (hk : k < 1024) :
    Pn X W c r k = ∑ t : Fin 64, X c (ix2 (⟨r, hr⟩ : Fin 1024) t) * W c (ix2 t (⟨k, hk⟩ : Fin 1024)) := by
  unfold Pn
  rw [dif_pos ⟨hr, hk⟩]
  unfold Pm k0_pay2 k0_pay1
  pointwise

end Sums

end Cert.Mesh

end
-- ==== Proof.Refs.lean ====
/-
The references at an element, and the devices' results as the blocks of theirs.
-/
module

public import proofs.«01_k».proof.Proof.Value
public import Idealize.ShloMosaic.Lib.Pointwise
public import Idealize.ShloMosaic.Lib.IdealHost
public import proofs.«01_k».proof.Proof.Gen.ReferenceIdeal
public import proofs.«01_k».proof.Proof.Gen.UnclippedIdeal
public import proofs.«01_k».proof.Proof.Gen.On_within

@[expose] public section

set_option maxRecDepth 16384

noncomputable section

namespace Cert.Mesh

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- The whole product at an element. -/
def prod (x w : FVec Ideal (⟨2, ![1024, 1024]⟩ : Shape) .f32) (i : (⟨2, ![1024, 1024]⟩ : Shape).Idx) : EReal :=
  ∑ k : Fin 1024, (x (ix2 (i 0) k) : EReal) * w (ix2 k (i 1))

/-- Cut in sixteen along the summed axis, the devices' partial products add up to it: a device's result is its block of the last step of the whole. -/
theorem blocks_out (X : Dev nD → Vec Ideal S1024x64 .f32) (W : Dev nD → Vec Ideal S64x1024 .f32) (x w : FVec Ideal (⟨2, ![1024, 1024]⟩ : Shape) .f32)
    (hX : ∀ c : Dev nD, X c = Layout.block ⟨2, ![1024, 64]⟩ ⟨2, ![1024, 1024]⟩ 1 16 c x)
    (hW : ∀ c : Dev nD, W c = Layout.block ⟨2, ![64, 1024]⟩ ⟨2, ![1024, 1024]⟩ 0 16 c w) (c : Dev nD) :
    outV X W c = Layout.block ⟨2, ![64, 1024]⟩ ⟨2, ![1024, 1024]⟩ 0 16 c (fun i => silu (prod x w i)) := by
  funext i
  have hc : c.val < 16 := c.isLt
  have h0 : (i 0).val < 64 := (i 0).isLt
  have h1 : (i 1).val < 1024 := (i 1).isLt
  rw [outV_at, Layout.block_apply]
  refine congrArg silu ?_
  unfold prod
  rw [Fin.sum_univ_tiles 16 64 rfl]
  refine Finset.sum_congr rfl fun d _ => ?_
  rw [Pn_at X W d _ _ (by omega) h1]
  refine Finset.sum_congr rfl fun t _ => ?_
  rw [hX, hW, Layout.block_apply, Layout.block_apply]
  refine congrArg₂ (· * ·) (congrArg x ?_) (congrArg w ?_)
  · funext a
    fin_cases a
    · exact Fin.ext (show 64 * c.val + (i 0).val = c.val * 64 + (i 0).val by omega)
    · exact Fin.ext (show d.val * 64 + t.val = d.val * 64 + t.val from rfl)
  · funext a
    fin_cases a
    · exact Fin.ext (show d.val * 64 + t.val = d.val * 64 + t.val from rfl)
    · exact Fin.ext (show (i 1).val = (i 1).val from rfl)

/-! ## The references at an element -/

theorem dot_u (x w : FVec Ideal (⟨2, ![1024, 1024]⟩ : Shape) .f32) (i : (⟨2, ![1024, 1024]⟩ : Shape).Idx) :
    Host.dotGeneral Cert.UnclippedIdeal.dot_S1024x1024_S1024x1024_S1024x1024_1_0_0_1_n_n none x w i = prod x w i := by
  unfold prod
  pointwise
theorem dot_r (x w : FVec Ideal (⟨2, ![1024, 1024]⟩ : Shape) .f32) (i : (⟨2, ![1024, 1024]⟩ : Shape).Idx) :
    Host.dotGeneral Cert.ReferenceIdeal.dot_S1024x1024_S1024x1024_S1024x1024_1_0_0_1_n_n none x w i = prod x w i := by
  unfold prod
  pointwise
theorem dot_w (x w : FVec Ideal (⟨2, ![1024, 1024]⟩ : Shape) .f32) (i : (⟨2, ![1024, 1024]⟩ : Shape).Idx) :
    Host.dotGeneral Cert.On_within.dot_S1024x1024_S1024x1024_S1024x1024_1_0_0_1_n_n none x w i = prod x w i := by
  unfold prod
  pointwise

section Unclipped
open Cert.UnclippedIdeal Cert.UnclippedIdeal.Facts₀ Cert.UnclippedIdeal.Facts
/-- What the reference without a clip computes. -/
theorem unclipped_at (x w : FVec Ideal (⟨2, ![1024, 1024]⟩ : Shape) .f32) :
    Host.divf (Host.dotGeneral dot_S1024x1024_S1024x1024_S1024x1024_1_0_0_1_n_n none x w) (addf (broadcastInDim Cert.UnclippedIdeal.S1024x1024 ![] bcast_S_S1024x1024 (constant Cert.UnclippedIdeal.S_ .f32 0x3F800000#32)) (Host.exp (Host.negf (Host.dotGeneral dot_S1024x1024_S1024x1024_S1024x1024_1_0_0_1_n_n none x w))))
      = fun i => silu (prod x w i) := by
  funext i
  show Ideal.div (Host.dotGeneral dot_S1024x1024_S1024x1024_S1024x1024_1_0_0_1_n_n none x w i)
    (Ideal.ofBits .f32 0x3F800000#32 + Ideal.exp (-(Host.dotGeneral dot_S1024x1024_S1024x1024_S1024x1024_1_0_0_1_n_n none x w i : EReal))) = _
  rw [dot_u, Ideal.ofBits_one_f32]
  rfl
end Unclipped

/-- An element of the mask is set where the product lies between the two constants. -/
theorem within_at (x w : FVec Ideal (⟨2, ![1024, 1024]⟩ : Shape) .f32) (i : (⟨2, ![1024, 1024]⟩ : Shape).Idx)
    (h : Cert.On_within.fn (F := Ideal) x w i = 1#1) :
    Ideal.ofBits .f32 0xC2700000#32 ≤ prod x w i ∧ prod x w i ≤ Ideal.ofBits .f32 0x42700000#32 := by
  have h' : IntOp.andi (Ideal.cmp .oge (Host.dotGeneral Cert.On_within.dot_S1024x1024_S1024x1024_S1024x1024_1_0_0_1_n_n none x w i) (Ideal.ofBits .f32 0xC2700000#32))
      (Ideal.cmp .ole (Host.dotGeneral Cert.On_within.dot_S1024x1024_S1024x1024_S1024x1024_1_0_0_1_n_n none x w i) (Ideal.ofBits .f32 0x42700000#32)) = 1#1 := h
  rw [dot_w] at h'
  have both : ∀ a b : Bool, IntOp.andi (BitVec.ofBool a) (BitVec.ofBool b) = 1#1 → a = true ∧ b = true := by decide
  have := both _ _ h'
  exact ⟨of_decide_eq_true this.1, of_decide_eq_true this.2⟩

section Reference
open Cert.ReferenceIdeal Cert.ReferenceIdeal.Facts₀ Cert.ReferenceIdeal.Facts
/-- What the reference computes where the clip leaves the product as it is. -/
theorem reference_at (x w : FVec Ideal (⟨2, ![1024, 1024]⟩ : Shape) .f32) (i : (⟨2, ![1024, 1024]⟩ : Shape).Idx)
    (h : Cert.On_within.fn (F := Ideal) x w i = 1#1) :
    Host.divf (Host.dotGeneral dot_S1024x1024_S1024x1024_S1024x1024_1_0_0_1_n_n none x w) (addf (broadcastInDim Cert.ReferenceIdeal.S1024x1024 ![] bcast_S_S1024x1024 (constant Cert.ReferenceIdeal.S_ .f32 0x3F800000#32)) (Host.exp (Host.negf (minimumf (broadcastInDim Cert.ReferenceIdeal.S1024x1024 ![] bcast_S_S1024x1024 (id (constant Cert.ReferenceIdeal.S_ .f32 0x42700000#32))) (maximumf (broadcastInDim Cert.ReferenceIdeal.S1024x1024 ![] bcast_S_S1024x1024 (id (constant Cert.ReferenceIdeal.S_ .f32 0xC2700000#32))) (Host.dotGeneral dot_S1024x1024_S1024x1024_S1024x1024_1_0_0_1_n_n none x w)))))) i
      = silu (prod x w i) := by
  obtain ⟨hl, hr⟩ := within_at x w i h
  show Ideal.div (Host.dotGeneral dot_S1024x1024_S1024x1024_S1024x1024_1_0_0_1_n_n none x w i)
    (Ideal.ofBits .f32 0x3F800000#32 + Ideal.exp (-(min (Ideal.ofBits .f32 0x42700000#32) (max (Ideal.ofBits .f32 0xC2700000#32)
      (Host.dotGeneral dot_S1024x1024_S1024x1024_S1024x1024_1_0_0_1_n_n none x w i : EReal))))) = _
  rw [dot_r, Ideal.ofBits_one_f32, max_eq_right hl, min_eq_right hr]
  rfl
end Reference

end Cert.Mesh

end
-- ==== Proof.Proto.lean ====
/-
The schedule of the cells, what a device owes and when, and the state of a device between two events.
-/
module

public import proofs.«01_k».proof.Proof.Cells

@[expose] public section

set_option maxRecDepth 16384

noncomputable section

namespace Cert.Mesh

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UB : Type := URounds (GSem nD τ sig) (Fin 6)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR
abbrev 𝒱₀ : Variants := Variants.none

/-! ## Cells -/

/-- The barrier (`none`), and each transfer's two cells (`false` out, `true` in). -/
abbrev CI : Type := Option (K × Bool)
abbrev barS : Sem sig := (SemArray.scalar (sig.barrier 0 rfl) : Sems sig S_).sem
def csem : CI → SemLoc sig
  | none => .reg barS
  | some (k, false) => .dma (sSem k)
  | some (k, true) => .dma (rSem k)

theorem csem_inj : Function.Injective csem := by
  rintro (_ | ⟨k, _ | _⟩) (_ | ⟨k', _ | _⟩) h <;> simp only [csem] at h
  · rfl
  · cases h
  · cases h
  · cases h
  · rw [sSem_inj k k' (SemLoc.dma.inj h)]
  · exact absurd (SemLoc.dma.inj h) (sSem_ne_rSem k k')
  · cases h
  · exact absurd (SemLoc.dma.inj h).symm (sSem_ne_rSem k' k)
  · rw [rSem_inj k k' (SemLoc.dma.inj h)]

def dec (s : SemLoc sig) : Option CI := by
  classical exact if h : ∃ i, csem i = s then some h.choose else none
theorem dec_csem (i : CI) : dec (csem i) = some i := by
  have h : ∃ i', csem i' = csem i := ⟨i, rfl⟩
  unfold dec
  rw [dif_pos h]
  exact congrArg some (csem_inj h.choose_spec)

abbrev cell (c : Dev nD) (i : CI) : GSem nD τ sig := ((c : Thread nD τ), csem i)
abbrev barCell (c : Dev nD) : GSem nD τ sig := ((c : Thread nD τ), .reg barS)
abbrev sCell (k : K) (c : Dev nD) : GSem nD τ sig := ((c : Thread nD τ), .dma (sSem k))
abbrev rCell (k : K) (c : Dev nD) : GSem nD τ sig := ((c : Thread nD τ), .dma (rSem k))

theorem cell_inj : Function.Injective (fun ci : Dev nD × CI => cell ci.1 ci.2) := by
  rintro ⟨c, i⟩ ⟨c', i'⟩ h
  have h1 : c = c' := by have := congrArg (fun g : GSem nD τ sig => g.1.1) h; exact this
  have h2 : i = i' := csem_inj (congrArg Prod.snd h)
  rw [h1, h2]

/-! ## What is held and handed over -/

/-- The share a transfer's source is held at. -/
def shq (k : K) : PosShare TreeShare :=
  if isP k then ShareLeaves.leaf 7 fullShare ⟨(sSem k).val, by have := (sSem k).isLt; have h : sig.nDmaSem = 87 := rfl; show _ < 128; omega⟩ else fullShare

/-- The landing slot of `k` on `c`, with any contents. -/
def dAny (k : K) (c : Dev nD) : sProp 𝕄 :=
  iprop(∃ f, (dM k).view.loc (c : Thread nD τ) ↦[(dM k).view.set]{fullShare} f)
def sAny (k : K) (c : Dev nD) : sProp 𝕄 :=
  iprop(∃ f, (sM k c).view.loc (c : Thread nD τ) ↦[(sM k c).view.set]{fullShare} f)

instance dAny_storable (k : K) (c : Dev nD) : BI.Storable (upEmb : UEmb _ 𝕄) (dAny (F := F) k c) := by unfold dAny; infer_instance

section

variable (X : Dev nD → Vec F S1024x64 .f32) (W : Dev nD → Vec F S64x1024 .f32)

def dHas (k : K) (c : Dev nD) : sProp 𝕄 := owns (c : Thread nD τ) (dM k) fullShare (rV X W k c)
def sHas (k : K) (c : Dev nD) : sProp 𝕄 := owns (c : Thread nD τ) (sM k c) (shq k) (V X W k c)

instance dHas_storable (k : K) (c : Dev nD) : BI.Storable (upEmb : UEmb _ 𝕄) (dHas X W k c) := by unfold dHas; infer_instance
instance sHas_storable (k : K) (c : Dev nD) : BI.Storable (upEmb : UEmb _ 𝕄) (sHas X W k c) := by unfold sHas; infer_instance

/-- What the greeting `i` brings `c`: the landing slots, on the greeting device, of the transfers `c` sends there. -/
def barPay (c : Dev nD) (i : Fin 6) : sProp 𝕄 := bigSep (Finset.univ.filter fun k => who k c = i) fun k => dAny k (dst k c)

instance barPay_storable (c : Dev nD) (i : Fin 6) : BI.Storable (upEmb : UEmb _ 𝕄) (barPay (F := F) c i) := by
  unfold barPay; infer_instance

def Rd : Rounds.Schedule (GSem nD τ sig) (Fin 6) 𝕄 where
  duties g r := if r = 0 ∧ g.1.2 = .tc then (match dec g.2 with | some none => Finset.univ | some (some _) => {0} | none => ∅) else ∅
  unitless _ := False
  amount g _ _ := match dec g.2 with | some (some (k, _)) => NK k | _ => 1
  payload g _ d := match dec g.2 with
    | some none => barPay g.1.1 d
    | some (some (k, true)) => dHas X W k g.1.1
    | some (some (k, false)) => sHas X W k g.1.1
    | none => iprop(emp)
  amount_pos g _ _ _ := by
    rcases dec g.2 with _ | _ | ⟨k, _⟩
    · exact Nat.one_pos
    · exact Nat.one_pos
    · exact NK_pos k

instance Rd_storable (g : GSem nD τ sig) (r : ℕ) (d : Fin 6) :
    BI.Storable (upEmb : UEmb _ 𝕄) ((Rd X W).payload g r d) := by
  dsimp only [Rd]
  rcases dec g.2 with _ | _ | ⟨k, _ | _⟩ <;> infer_instance

variable (c : Dev nD) (k : K)

theorem duties_bar : (Rd X W).duties (barCell c) 0 = Finset.univ := by
  dsimp only [Rd]; rw [if_pos ⟨rfl, rfl⟩, show (SemLoc.reg barS : SemLoc sig) = csem none from rfl, dec_csem]
theorem duties_s : (Rd X W).duties (sCell k c) 0 = {0} := by
  dsimp only [Rd]; rw [if_pos ⟨rfl, rfl⟩, show (SemLoc.dma (sSem k) : SemLoc sig) = csem (some (k, false)) from rfl, dec_csem]
theorem duties_r : (Rd X W).duties (rCell k c) 0 = {0} := by
  dsimp only [Rd]; rw [if_pos ⟨rfl, rfl⟩, show (SemLoc.dma (rSem k) : SemLoc sig) = csem (some (k, true)) from rfl, dec_csem]
theorem duties_later (g : GSem nD τ sig) : ∀ r, 1 ≤ r → (Rd X W).duties g r = ∅ :=
  fun r hr => by dsimp only [Rd]; rw [if_neg fun h => by omega]

theorem amount_bar (d : Fin 6) : (Rd X W).amount (barCell c) 0 d = 1 := by
  dsimp only [Rd]; rw [show (SemLoc.reg barS : SemLoc sig) = csem none from rfl, dec_csem]
theorem amount_s (d : Fin 6) : (Rd X W).amount (sCell k c) 0 d = NK k := by
  dsimp only [Rd]; rw [show (SemLoc.dma (sSem k) : SemLoc sig) = csem (some (k, false)) from rfl, dec_csem]
theorem amount_r (d : Fin 6) : (Rd X W).amount (rCell k c) 0 d = NK k := by
  dsimp only [Rd]; rw [show (SemLoc.dma (rSem k) : SemLoc sig) = csem (some (k, true)) from rfl, dec_csem]

theorem expect_bar : (Rd X W).expect (barCell c) 0 = 6 := by
  unfold Schedule.expect Schedule.amountOf
  rw [duties_bar, Finset.sum_congr rfl fun d _ => amount_bar X W c d, Finset.sum_const, Finset.card_univ, Fintype.card_fin, smul_eq_mul]
theorem expect_s : (Rd X W).expect (sCell k c) 0 = NK k := by
  unfold Schedule.expect Schedule.amountOf; rw [duties_s, Finset.sum_singleton, amount_s]
theorem expect_r : (Rd X W).expect (rCell k c) 0 = NK k := by
  unfold Schedule.expect Schedule.amountOf; rw [duties_r, Finset.sum_singleton, amount_r]

theorem payload_bar (d : Fin 6) : (Rd X W).payload (barCell c) 0 d = barPay c d := by
  dsimp only [Rd]; rw [show (SemLoc.reg barS : SemLoc sig) = csem none from rfl, dec_csem]
theorem payload_s (d : Fin 6) : (Rd X W).payload (sCell k c) 0 d = sHas X W k c := by
  dsimp only [Rd]; rw [show (SemLoc.dma (sSem k) : SemLoc sig) = csem (some (k, false)) from rfl, dec_csem]
theorem payload_r (d : Fin 6) : (Rd X W).payload (rCell k c) 0 d = dHas X W k c := by
  dsimp only [Rd]; rw [show (SemLoc.dma (rSem k) : SemLoc sig) = csem (some (k, true)) from rfl, dec_csem]

theorem rest_bar : bigSep ((Rd X W).duties (barCell c) 0 \ ∅) (fun d => (Rd X W).payload (barCell c) 0 d) = bigSep Finset.univ fun i => barPay c i := by
  rw [Finset.sdiff_empty, duties_bar]; exact bigSep_congr fun d _ => payload_bar X W c d
theorem rest_s : bigSep ((Rd X W).duties (sCell k c) 0 \ ∅) (fun d => (Rd X W).payload (sCell k c) 0 d) = sHas X W k c := by
  rw [Finset.sdiff_empty, duties_s, bigSep_singleton, payload_s]
theorem rest_r : bigSep ((Rd X W).duties (rCell k c) 0 \ ∅) (fun d => (Rd X W).payload (rCell k c) 0 d) = dHas X W k c := by
  rw [Finset.sdiff_empty, duties_r, bigSep_singleton, payload_r]

end

/-! ## What is owed, and the levels -/

/-- What device `c` owes when the events before `n` have happened: the credit of every transfer not yet started. -/
def Ow (c : Dev nD) (n : ℕ) : CellTallies nD τ sig Unit :=
  ∑ k : K, if n ≤ tSend c k then tallyAt (rCell k (dst k c)) () (NK k) else 0

theorem Ow_congr (c : Dev nD) (n n' : ℕ) (h : ∀ k, n' ≤ tSend c k ↔ n ≤ tSend c k) : Ow c n' = Ow c n :=
  Finset.sum_congr rfl fun k _ => if_congr (h k) rfl rfl

theorem Ow_send (c : Dev nD) (n : ℕ) (k : K) (h : ∀ k', k' ≠ k → (n + 1 ≤ tSend c k' ↔ n ≤ tSend c k')) (h1 : n ≤ tSend c k) (h2 : ¬ n + 1 ≤ tSend c k) :
    Ow c n = Ow c (n + 1) + tallyAt (rCell k (dst k c)) () (NK k) := by
  unfold Ow
  rw [← Finset.sum_erase_add _ _ (Finset.mem_univ k), ← Finset.sum_erase_add (a := k) (f := fun k' => if n + 1 ≤ tSend c k' then _ else _) _ (Finset.mem_univ k),
    if_pos h1, if_neg h2, add_zero]
  congr 1
  exact Finset.sum_congr rfl fun k' hk' => if_congr (h k' (Finset.ne_of_mem_erase hk')).symm rfl rfl

theorem Ow_zero (c : Dev nD) (n : ℕ) (h : 112 ≤ n) : Ow c n = 0 :=
  Finset.sum_eq_zero fun k _ => if_neg fun h' => by have := unsent k c; omega

theorem Ow_pos {c : Dev nD} {n : ℕ} {g : GSem nD τ sig} {u : Unit} (h : 0 < Ow c n g u) : ∃ k, n ≤ tSend c k ∧ g = rCell k (dst k c) := by
  unfold Ow at h
  rw [Finset.sum_apply, Finsupp.finset_sum_apply] at h
  obtain ⟨k, -, hk⟩ := Finset.exists_ne_zero_of_sum_ne_zero (Nat.pos_iff_ne_zero.mp h)
  by_cases hn : n ≤ tSend c k
  · rw [if_pos hn, tallyAt_apply] at hk
    refine ⟨k, hn, ?_⟩
    by_contra hg
    rw [if_neg fun h' => hg h'.1] at hk
    exact hk rfl
  · rw [if_neg hn] at hk; exact absurd rfl hk

def Lv (g : GSem nD τ sig) : Finset Unit := if g.1.2 = .tc then {()} else ∅
/-- Staging and outgoing cells 0, the barrier 1, an incoming cell by when it is sent. -/
def lv (g : GSem nD τ sig) (_ : Unit) : ℕ :=
  match dec g.2 with | some none => 1 | some (some (k, true)) => 2 + tSend (src k g.1.1) k | _ => 0

theorem L_of_ne (g : GSem nD τ sig) (h : g.1.2 ≠ .tc) : Lv g = ∅ := if_neg h
theorem L_tc (c : Dev nD) (sm : SemLoc sig) : Lv ((c : Thread nD τ), sm) = {()} := if_pos rfl
theorem lv_bar (c : Dev nD) (u : Unit) : lv (barCell c) u = 1 := by
  unfold lv; dsimp only; rw [show (SemLoc.reg barS : SemLoc sig) = csem none from rfl, dec_csem]
theorem lv_r (k : K) (c : Dev nD) (u : Unit) : lv (rCell k c) u = 2 + tSend (src k c) k := by
  unfold lv; dsimp only; rw [show (SemLoc.dma (rSem k) : SemLoc sig) = csem (some (k, true)) from rfl, dec_csem]
theorem lv_stage (c : Dev nD) (q : DmaSem sig) (hq : q.val < 3) (u : Unit) : lv ((c : Thread nD τ), .dma q) u = 0 := by
  unfold lv dec; dsimp only
  split_ifs with h
  · obtain ⟨i, hi⟩ := h
    exfalso
    rcases i with _ | ⟨k, _ | _⟩ <;> simp only [csem] at hi
    · cases hi
    · have := (sems_le k).1; rw [SemLoc.dma.inj hi] at this; omega
    · have := (sems_le k).2; rw [SemLoc.dma.inj hi] at this; omega
  · rfl

/-- A wait below the level of everything still owed is allowed. -/
theorem mayWait_of (c : Dev nD) (sm : SemLoc sig) (n l : ℕ) (hl : lv ((c : Thread nD τ), sm) () ≤ l) (h : ∀ k, n ≤ tSend c k → l < 2 + tSend c k) :
    (levAts Lv lv : sProp 𝕄) ⊢ MayWait (c : Thread nD τ) sm () (Ow c n) :=
  MayOwe.of_cut (L := Lv) (lev := lv) l (fun p hp => by rw [Finset.mem_singleton.mp hp, L_tc]; exact Finset.mem_singleton_self _)
    (fun g u hg => by obtain ⟨k, -, rfl⟩ := Ow_pos hg; rw [L_tc]; exact Finset.mem_singleton_self _)
    (fun p hp => by rw [Finset.mem_singleton.mp hp]; exact hl)
    (fun g u hg => by
      obtain ⟨k, hk, rfl⟩ := Ow_pos hg
      rw [lv_r, src_dst]; exact h k hk)

/-- A transfer is sent at the same event by the device it comes from and by the device it comes to. -/
theorem tSend_same : ∀ (k : K) (c : Dev nD), tSend (src k c) k = tSend c k := by decide +kernel

/-! ## The state of a device -/

section State

variable (X : Dev nD → Vec F S1024x64 .f32) (W : Dev nD → Vec F S64x1024 .f32) (KI : Dev nD × CI → ℕ)

/-- The facts every device may use at any time. -/
def records : sProp 𝕄 :=
  iprop((bigSep Finset.univ fun ci : Dev nD × CI => cellInv ER (Rd X W) (KI ci) (cell ci.1 ci.2))
    ∗ (bigSep Finset.univ fun ci : Dev nD × CI => reached ER (cell ci.1 ci.2) 0) ∗ levAts Lv lv)

instance records_persistent : BI.Persistent (records X W KI) := by unfold records; infer_instance

theorem rec_inv (c : Dev nD) (i : CI) : records X W KI ⊢ cellInv ER (Rd X W) (KI (c, i)) (cell c i) :=
  sep_elim_left.trans (show (bigSep Finset.univ fun ci : Dev nD × CI => (cellInv ER (Rd X W) (KI ci) (cell ci.1 ci.2) : sProp 𝕄)) ⊢ _ from bigSep_elim (Finset.mem_univ (c, i)))
theorem rec_reached (c : Dev nD) (i : CI) : records X W KI ⊢ reached ER (cell c i) 0 :=
  sep_elim_right.trans (sep_elim_left.trans
    (show (bigSep Finset.univ fun ci : Dev nD × CI => (reached ER (cell ci.1 ci.2) 0 : sProp 𝕄)) ⊢ _ from bigSep_elim (Finset.mem_univ (c, i))))
theorem rec_lev : records X W KI ⊢ levAts Lv lv := by
  unfold records; iintro ⟨-, -, H⟩; iexact H

/-- What a staging slot of `a2` or `b2` holds once its left half is in place. -/
def halfOk' : (k : K) → Dev nD → ((sh k).Idx → Elt F .f32) → Prop
  | .a2 e, c => fun g => lft (u3 g) = La2 X W e c
  | .b2 e, c => fun g => lft (u3 g) = Lb2 X W e c
  | _, _ => fun _ => True
def halfOk (k : K) (c : Dev nD) (f : Buf (Elt F) ((sM k c).view.loc (c : Thread nD τ))) : Prop := halfOk' X W k c ((sM k c).view.read (Elt F) f)

def pay2 (k : K) (c : Dev nD) : sProp 𝕄 :=
  iprop(atPos ER (sCell k c) 0 ∅ 0 ∗ dutyTok ER (sCell k c) 0 0 ∗ dutyTok ER (rCell k (dst k c)) 0 0 ∗ dAny k (dst k c))

/-- Transfer `k` seen from its sender. -/
def OutSt (k : K) (c : Dev nD) : OS → sProp 𝕄
  | .ready => iprop(pay2 k c ∗ sAny k c)
  | .half => iprop(pay2 k c ∗ ∃ f, ⌜halfOk X W k c f⌝ ∗ (sM k c).view.loc (c : Thread nD τ) ↦[(sM k c).view.set]{fullShare} f)
  | .loaded => iprop(pay2 k c ∗ sHas X W k c)
  | .flight => iprop(atPos ER (sCell k c) 0 ∅ 0 ∗ cred (tallyAt (sCell k c) () (NK k)))
  | .done => iprop(atPos ER (sCell k c) 1 ∅ 0 ∗ sHas X W k c)

/-- Transfer `k` seen from its receiver. -/
def InSt (k : K) (c : Dev nD) : IS → sProp 𝕄
  | .waiting => iprop(atPos ER (rCell k c) 0 ∅ 0 ∗ cred (tallyAt (rCell k c) () (NK k)))
  | .got => iprop(atPos ER (rCell k c) 1 ∅ 0 ∗ dHas X W k c)

def qL : PosShare TreeShare := ShareLeaves.leaf 7 fullShare ⟨0, by decide⟩

/-- The device before event `n`; `R` is whatever else it holds. -/
def St (c : Dev nD) (n : ℕ) (R : sProp 𝕄) : sProp 𝕄 :=
  iprop(records X W KI ∗ (∃ w, owes (c : Thread nD τ) (Ow c n) w)
    ∗ (bigSep Finset.univ fun k => OutSt X W k c (ost c n k)) ∗ (bigSep Finset.univ fun k => InSt X W k c (ist c n k))
    ∗ (((c : Thread nD τ).loc cc0_scratch0) ↦{qL} Pm X W c) ∗ R)

end State

end Cert.Mesh

end
-- ==== Proof.Steps.lean ====
/-
What one operation of the program does to the state of a device.
-/
module

public import proofs.«01_k».proof.Proof.Proto

@[expose] public section

set_option maxRecDepth 16384

noncomputable section

namespace Cert.Mesh

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Reaching into the state -/

section Access

variable {X : Dev nD → Vec F S1024x64 .f32} {W : Dev nD → Vec F S64x1024 .f32} {KI : Dev nD × CI → ℕ}

theorem St_out {c : Dev nD} {n : ℕ} {k : K} {a b : OS} (h : Out c n k a b) (R : sProp 𝕄) :
    ∃ M : sProp 𝕄, (St X W KI c n R ⊢ iprop(records X W KI ∗ (∃ w, owes (c : Thread nD τ) (Ow c n) w) ∗ OutSt X W k c a ∗ M))
      ∧ (iprop((∃ w, owes (c : Thread nD τ) (Ow c (n + 1)) w) ∗ OutSt X W k c b ∗ records X W KI ∗ M) ⊢ St X W KI c (n + 1) R) := by
  obtain ⟨ha, hb, ho, hi, -⟩ := h
  refine ⟨iprop((bigSep (Finset.univ.erase k) fun k' => OutSt X W k' c (ost c n k')) ∗ (bigSep Finset.univ fun k' => InSt X W k' c (ist c n k'))
    ∗ (((c : Thread nD τ).loc cc0_scratch0) ↦{qL} Pm X W c) ∗ R), ?_, ?_⟩
  · unfold St
    rw [bigSep_univ_at (fun k' => OutSt X W k' c (ost c n k')) k, ha]
    iintro ⟨H1, H2, ⟨H3, H4⟩, H5⟩
    isplitl [H1]; · iexact H1
    isplitl [H2]; · iexact H2
    isplitl [H3]; · iexact H3
    isplitl [H4]; · iexact H4
    iexact H5
  · unfold St
    rw [bigSep_univ_at (fun k' => OutSt X W k' c (ost c (n + 1) k')) k, hb,
      bigSep_congr (s := Finset.univ.erase k) (Φ := fun k' => OutSt X W k' c (ost c (n + 1) k')) (Ψ := fun k' => OutSt X W k' c (ost c n k'))
        (fun k' hk' => by rw [ho k' (Finset.ne_of_mem_erase hk')]),
      bigSep_congr (s := Finset.univ) (Φ := fun k' => InSt X W k' c (ist c (n + 1) k')) (Ψ := fun k' => InSt X W k' c (ist c n k'))
        (fun k' _ => by rw [hi k'])]
    iintro ⟨H2, H3, H1, H4, H5⟩
    isplitl [H1]; · iexact H1
    isplitl [H2]; · iexact H2
    isplitl [H3 H4]
    · isplitl [H3]; · iexact H3
      iexact H4
    iexact H5

theorem St_in {c : Dev nD} {n : ℕ} {k : K} (h : In c n k) (R : sProp 𝕄) :
    ∃ M : sProp 𝕄, (St X W KI c n R ⊢ iprop(records X W KI ∗ (∃ w, owes (c : Thread nD τ) (Ow c n) w) ∗ InSt X W k c .waiting ∗ M))
      ∧ (iprop((∃ w, owes (c : Thread nD τ) (Ow c n) w) ∗ InSt X W k c .got ∗ records X W KI ∗ M) ⊢ St X W KI c (n + 1) R) := by
  obtain ⟨ha, hb, hi, ho, hs, -⟩ := h
  refine ⟨iprop((bigSep Finset.univ fun k' => OutSt X W k' c (ost c n k')) ∗ (bigSep (Finset.univ.erase k) fun k' => InSt X W k' c (ist c n k'))
    ∗ (((c : Thread nD τ).loc cc0_scratch0) ↦{qL} Pm X W c) ∗ R), ?_, ?_⟩
  · unfold St
    rw [bigSep_univ_at (fun k' => InSt X W k' c (ist c n k')) k, ha]
    iintro ⟨H1, H2, H3, ⟨H4, H5⟩, H6⟩
    isplitl [H1]; · iexact H1
    isplitl [H2]; · iexact H2
    isplitl [H4]; · iexact H4
    isplitl [H3]; · iexact H3
    isplitl [H5]; · iexact H5
    iexact H6
  · unfold St
    rw [Ow_congr c n (n + 1) hs, bigSep_univ_at (fun k' => InSt X W k' c (ist c (n + 1) k')) k, hb,
      bigSep_congr (s := Finset.univ.erase k) (Φ := fun k' => InSt X W k' c (ist c (n + 1) k')) (Ψ := fun k' => InSt X W k' c (ist c n k'))
        (fun k' hk' => by rw [hi k' (Finset.ne_of_mem_erase hk')]),
      bigSep_congr (s := Finset.univ) (Φ := fun k' => OutSt X W k' c (ost c (n + 1) k')) (Ψ := fun k' => OutSt X W k' c (ost c n k'))
        (fun k' _ => by rw [ho k'])]
    iintro ⟨H2, H4, H1, H3, H5, H6⟩
    isplitl [H1]; · iexact H1
    isplitl [H2]; · iexact H2
    isplitl [H3]; · iexact H3
    isplitl [H4 H5]
    · isplitl [H4]; · iexact H4
      iexact H5
    iexact H6

theorem St_ost {c : Dev nD} {n : ℕ} {k : K} {a : OS} (ha : ost c n k = a) (R : sProp 𝕄) :
    ∃ M : sProp 𝕄, (St X W KI c n R ⊢ iprop(OutSt X W k c a ∗ M)) ∧ (iprop(OutSt X W k c a ∗ M) ⊢ St X W KI c n R) := by
  refine ⟨iprop(records X W KI ∗ (∃ w, owes (c : Thread nD τ) (Ow c n) w) ∗ (bigSep (Finset.univ.erase k) fun k' => OutSt X W k' c (ost c n k'))
    ∗ (bigSep Finset.univ fun k' => InSt X W k' c (ist c n k')) ∗ (((c : Thread nD τ).loc cc0_scratch0) ↦{qL} Pm X W c) ∗ R), ?_, ?_⟩
  · unfold St
    rw [bigSep_univ_at (fun k' => OutSt X W k' c (ost c n k')) k, ha]
    iintro ⟨H1, H2, ⟨H3, H4⟩, H5⟩
    isplitl [H3]; · iexact H3
    isplitl [H1]; · iexact H1
    isplitl [H2]; · iexact H2
    isplitl [H4]; · iexact H4
    iexact H5
  · unfold St
    rw [bigSep_univ_at (fun k' => OutSt X W k' c (ost c n k')) k, ha]
    iintro ⟨H3, H1, H2, H4, H5⟩
    isplitl [H1]; · iexact H1
    isplitl [H2]; · iexact H2
    isplitl [H3 H4]
    · isplitl [H3]; · iexact H3
      iexact H4
    iexact H5

theorem St_got {c : Dev nD} {n : ℕ} {k : K} (ha : ist c n k = .got) (R : sProp 𝕄) :
    ∃ M : sProp 𝕄, (St X W KI c n R ⊢ iprop(dHas X W k c ∗ M)) ∧ (iprop(dHas X W k c ∗ M) ⊢ St X W KI c n R) := by
  refine ⟨iprop(atPos ER (rCell k c) 1 ∅ 0 ∗ records X W KI ∗ (∃ w, owes (c : Thread nD τ) (Ow c n) w) ∗ (bigSep Finset.univ fun k' => OutSt X W k' c (ost c n k'))
    ∗ (bigSep (Finset.univ.erase k) fun k' => InSt X W k' c (ist c n k')) ∗ (((c : Thread nD τ).loc cc0_scratch0) ↦{qL} Pm X W c) ∗ R), ?_, ?_⟩
  · unfold St
    rw [bigSep_univ_at (fun k' => InSt X W k' c (ist c n k')) k, ha]
    unfold InSt
    iintro ⟨H1, H2, H3, ⟨⟨Ha, H4⟩, H5⟩, H6⟩
    isplitl [H4]; · iexact H4
    isplitl [Ha]; · iexact Ha
    isplitl [H1]; · iexact H1
    isplitl [H2]; · iexact H2
    isplitl [H3]; · iexact H3
    isplitl [H5]; · iexact H5
    iexact H6
  · unfold St
    rw [bigSep_univ_at (fun k' => InSt X W k' c (ist c n k')) k, ha]
    show iprop(dHas X W k c ∗ atPos ER (rCell k c) 1 ∅ 0 ∗ records X W KI ∗ (∃ w, owes (c : Thread nD τ) (Ow c n) w) ∗ (bigSep Finset.univ fun k' => OutSt X W k' c (ost c n k'))
      ∗ (bigSep (Finset.univ.erase k) fun k' => InSt X W k' c (ist c n k')) ∗ (((c : Thread nD τ).loc cc0_scratch0) ↦{qL} Pm X W c) ∗ R)
      ⊢ iprop(records X W KI ∗ (∃ w, owes (c : Thread nD τ) (Ow c n) w) ∗ (bigSep Finset.univ fun k' => OutSt X W k' c (ost c n k'))
      ∗ ((atPos ER (rCell k c) 1 ∅ 0 ∗ dHas X W k c) ∗ bigSep (Finset.univ.erase k) fun k' => InSt X W k' c (ist c n k')) ∗ (((c : Thread nD τ).loc cc0_scratch0) ↦{qL} Pm X W c) ∗ R)
    iintro ⟨H4, Ha, H1, H2, H3, H5, H6⟩
    isplitl [H1]; · iexact H1
    isplitl [H2]; · iexact H2
    isplitl [H3]; · iexact H3
    isplitl [H4 Ha H5]
    · isplitl [H4 Ha]
      · isplitl [Ha]; · iexact Ha
        iexact H4
      iexact H5
    iexact H6

theorem St_p (c : Dev nD) (n : ℕ) (R : sProp 𝕄) :
    ∃ M : sProp 𝕄, (St X W KI c n R ⊢ iprop((((c : Thread nD τ).loc cc0_scratch0) ↦{qL} Pm X W c) ∗ M))
      ∧ (iprop((((c : Thread nD τ).loc cc0_scratch0) ↦{qL} Pm X W c) ∗ M) ⊢ St X W KI c n R) := by
  refine ⟨iprop(records X W KI ∗ (∃ w, owes (c : Thread nD τ) (Ow c n) w) ∗ (bigSep Finset.univ fun k' => OutSt X W k' c (ost c n k'))
    ∗ (bigSep Finset.univ fun k' => InSt X W k' c (ist c n k')) ∗ R), ?_, ?_⟩
  · unfold St
    iintro ⟨H1, H2, H3, H4, H5, H6⟩
    isplitl [H5]; · iexact H5
    isplitl [H1]; · iexact H1
    isplitl [H2]; · iexact H2
    isplitl [H3]; · iexact H3
    isplitl [H4]; · iexact H4
    iexact H6
  · unfold St
    iintro ⟨H5, H1, H2, H3, H4, H6⟩
    isplitl [H1]; · iexact H1
    isplitl [H2]; · iexact H2
    isplitl [H3]; · iexact H3
    isplitl [H4]; · iexact H4
    isplitl [H5]; · iexact H5
    iexact H6

end Access

/-! ## Steps -/

section Steps

/-- From the state before event `n`, the program `p` runs to `Q`. -/
def Tri (X : Dev nD → Vec F S1024x64 .f32) (W : Dev nD → Vec F S64x1024 .f32) (KI : Dev nD × CI → ℕ) (c : Dev nD) (n : ℕ) (R : sProp 𝕄)
    {α : Type} (p : Prog (TpuEff nD τ sig (Elt F) Λ₀ .tc) α) (Q : α → sProp 𝕄) : Prop :=
  St X W KI c n R ⊢ wp frame (wpE (defs₀ (F := F)) 𝒱₀ (c : Thread nD τ) none) Set.univ p Q

/-- The program runs events `n` to `n'` and its result is as `pin` says. -/
def Spec (X : Dev nD → Vec F S1024x64 .f32) (W : Dev nD → Vec F S64x1024 .f32) (KI : Dev nD × CI → ℕ) (c : Dev nD) (n n' : ℕ)
    {α : Type} (p : Prog (TpuEff nD τ sig (Elt F) Λ₀ .tc) α) (pin : α → Prop) : Prop :=
  ∀ R : sProp 𝕄, Tri X W KI c n R p fun a => iprop(⌜pin a⌝ ∗ St X W KI c n' R)

variable {X : Dev nD → Vec F S1024x64 .f32} {W : Dev nD → Vec F S64x1024 .f32} {KI : Dev nD × CI → ℕ}
variable {c : Dev nD} {n : ℕ} {α β : Type}

theorem Tri.run {R : sProp 𝕄} {p : Prog (TpuEff nD τ sig (Elt F) Λ₀ .tc) α} {Q : α → sProp 𝕄} (h : Tri X W KI c n R p Q) :
    St X W KI c n R ⊢ wp frame (wpE (defs₀ (F := F)) 𝒱₀ (c : Thread nD τ) none) Set.univ p Q := h

theorem tri_pure {R : sProp 𝕄} {a : α} {pin : α → Prop} (h : pin a) : Tri X W KI c n R (pure a) (fun a => iprop(⌜pin a⌝ ∗ St X W KI c n R)) := by
  unfold Tri
  rw [wp_pure]
  iintro H
  imodintro
  isplitr; · ipureintro; exact h
  iexact H

theorem tri_part {R : sProp 𝕄} {Q : α → sProp 𝕄} {n' : ℕ} {p : Prog (TpuEff nD τ sig (Elt F) Λ₀ .tc) β} {pin : β → Prop} {kk : β → Prog (TpuEff nD τ sig (Elt F) Λ₀ .tc) α}
    (hp : Spec X W KI c n n' p pin) (hk : ∀ a, pin a → Tri X W KI c n' R (kk a) Q) : Tri X W KI c n R (p >>= kk) Q := by
  unfold Tri
  rw [wp_bind]
  refine (hp R).trans (wp_mono _ _ _ fun a => ?_)
  iintro ⟨%ha, H⟩
  iapply (hk a ha).run; iexact H

theorem tri_send {R : sProp 𝕄} {Q : α → sProp 𝕄} (k : K) (ho : Out c n k .loaded .flight) {d : Dev nD} {src dst : Memref sig .tc .vmem (sh k) .f32} {s r : DmaSem sig}
    {hsc : (dst : Memref sig (Dev.tc d : Thread nD τ).2.kind .vmem (sh k) .f32).view.ref.isScScratch = false}
    {hsrc : src.view.WordExact} {hdst : dst.view.WordExact}
    {hsem : DmaTarget.Typed .vmem (.dma r) (.remote (Dev.tc d : Thread nD τ) dst (.dma s) hsc)}
    {kk : PUnit → Prog (TpuEff nD τ sig (Elt F) Λ₀ .tc) α}
    (hd : d = Mesh.dst k c) (e1 : src = sM k c) (e2 : dst = dM k) (hs : s = sSem k) (hr : r = rSem k)
    (h : Tri X W KI c (n + 1) R (kk ⟨⟩) Q) :
    Tri X W KI c n R (Prog.lift (.enqueueDma src (.remote (Dev.tc d : Thread nD τ) dst (.dma s) hsc) (.dma r) hsrc hdst hsem) >>= kk) Q := by
  subst hd e1 e2 hs hr
  obtain ⟨M, h1, h2⟩ := St_out (X := X) (W := W) (KI := KI) ho R
  obtain ⟨-, -, -, -, hoth, hbef, haft⟩ := ho
  show St X W KI c n R ⊢ wp frame (wpE (defs₀ (F := F)) 𝒱₀ (c : Thread nD τ) none) Set.univ (.op _ kk) Q
  refine h1.trans ?_
  unfold OutSt pay2 sHas owns dAny
  iintro ⟨#Hrec, ⟨%w, HO⟩, ⟨⟨Hat, Hts, Htr, ⟨%fd, Hd⟩⟩, ⟨%fs, %hfs, Hs⟩⟩, HM⟩
  iapply (Rounds.wp_send_pointsTo 𝒱₀ ER (Rd X W) (c : Thread nD τ) none (κ₁ := KI (c, some (k, false))) (κ₂ := KI (Mesh.dst k c, some (k, true)))
    (r₁ := 0) (r₂ := 0) (d₁ := 0) (d₂ := 0) (fd := fd)
    (by rw [duties_s]; exact Finset.mem_singleton_self _) (by rw [duties_r]; exact Finset.mem_singleton_self _)
    () () (NK k) rfl (amount_s X W c k 0) (amount_r X W (Mesh.dst k c) k 0) (Ow c (n + 1))
    (Ow_send c n k hoth (hbef.mpr (by decide)) (fun h => (haft.mp h).1 rfl)) (W := w)
    (by rw [payload_s]; unfold sHas owns; iintro H; iexists fs; isplitr; · (ipureintro; exact hfs)
        iexact H)
    (by rw [payload_r]; unfold dHas owns; iintro H; iexists _; isplitr; swap; · iexact H
        ipureintro; rw [View.read_write_univ, hfs]; unfold rV; rw [src_dst])) $$ [Hs Hd HO Hts Htr]
  · isplitr; · iapply (rec_inv X W KI c (some (k, false))); iexact Hrec
    isplitr; · iapply (rec_inv X W KI (Mesh.dst k c) (some (k, true))); iexact Hrec
    isplitl [Hs]; · iexact Hs
    isplitl [Hd]; · iexact Hd
    isplitl [HO]; · iexact HO
    isplitl [Hts]; · iexact Hts
    isplitr; · iapply (rec_reached X W KI c (some (k, false))); iexact Hrec
    isplitl [Htr]; · iexact Htr
    iapply (rec_reached X W KI (Mesh.dst k c) (some (k, true))); iexact Hrec
  iintro ⟨Hc, HO⟩
  iapply h.run
  iapply h2
  isplitl [HO]; · iexists w; iexact HO
  isplitl [Hat Hc]
  · unfold OutSt
    isplitl [Hat]; · iexact Hat
    iexact Hc
  isplitr; · iexact Hrec
  iexact HM

theorem tri_recv {R : sProp 𝕄} {Q : α → sProp 𝕄} (k : K) (hi : In c n k) {s₁ : Shape} {e₁ : EltTy} {sp₁ sp₂ : Space} {src : Memref sig .tc sp₁ s₁ e₁} {dst : Memref sig .tc sp₂ s₁ e₁} {r : DmaSem sig}
    {hsrc : src.view.WordExact} {hdst : dst.view.WordExact} {kk : PUnit → Prog (TpuEff nD τ sig (Elt F) Λ₀ .tc) α}
    (hr : r = rSem k) (hN : dst.view.dmaCredit = NK k) (h : Tri X W KI c (n + 1) R (kk ⟨⟩) Q) :
    Tri X W KI c n R (Prog.lift (.waitDma2 r src dst hsrc hdst) >>= kk) Q := by
  subst hr
  obtain ⟨M, h1, h2⟩ := St_in (X := X) (W := W) (KI := KI) hi R
  obtain ⟨-, -, -, -, -, hlt⟩ := hi
  show St X W KI c n R ⊢ wp frame (wpE (defs₀ (F := F)) 𝒱₀ (c : Thread nD τ) none) Set.univ (.op _ kk) Q
  refine h1.trans ?_
  unfold InSt
  iintro ⟨#Hrec, ⟨%w, HO⟩, ⟨Hat, Hc⟩, HM⟩
  iapply (Rounds.wp_wait_rest_token 𝒱₀ ER (Rd X W) (c : Thread nD τ) none (κ := KI (c, some (k, true)))
      (wpE_waitDma2_eq 𝒱₀ (c : Thread nD τ) none Set.univ) (Set.mem_univ _) () (O := Ow c n) (W := w) (R := 0) (m := 0) (T := ∅)
      (by rw [Nat.zero_add, expect_r, hN])) $$ [Hc HO Hat]
  · isplitr; · iapply (rec_inv X W KI c (some (k, true))); iexact Hrec
    isplitl [Hc]; · rw [hN]; iexact Hc
    isplitl [HO]; · iexact HO
    isplitr
    · iapply (mayWait_of c (.dma (rSem k)) n (2 + tSend c k) (by rw [lv_r, tSend_same]) (fun k' hk' => by omega))
      iapply (rec_lev X W KI); iexact Hrec
    iexact Hat
  iintro ⟨HO, Hat, -, Hpay⟩
  ihave Hp := (Entails.of_eq (rest_r X W c k)) $$ Hpay
  iapply h.run
  iapply h2
  isplitl [HO]; · iexists _; iexact HO
  isplitl [Hat Hp]
  · unfold InSt
    isplitl [Hat]; · iexact Hat
    iexact Hp
  isplitr; · iexact Hrec
  iexact HM

theorem tri_fin {R : sProp 𝕄} {Q : α → sProp 𝕄} (k : K) (hn : n = tDone k) {s₁ : Shape} {e₁ : EltTy} {sp₁ sp₂ : Space} {src : Memref sig .tc sp₁ s₁ e₁} {dst : Memref sig .tc sp₂ s₁ e₁} {r : DmaSem sig}
    {hsrc : src.view.WordExact} {hdst : dst.view.WordExact} {kk : PUnit → Prog (TpuEff nD τ sig (Elt F) Λ₀ .tc) α}
    (hr : r = sSem k) (hN : dst.view.dmaCredit = NK k) (h : Tri X W KI c (n + 1) R (kk ⟨⟩) Q) :
    Tri X W KI c n R (Prog.lift (.waitDma2 r src dst hsrc hdst) >>= kk) Q := by
  subst hr hn
  obtain ⟨ho, hge⟩ := fin_k k c
  obtain ⟨M, h1, h2⟩ := St_out (X := X) (W := W) (KI := KI) ho R
  show St X W KI c (tDone k) R ⊢ wp frame (wpE (defs₀ (F := F)) 𝒱₀ (c : Thread nD τ) none) Set.univ (.op _ kk) Q
  refine h1.trans ?_
  rw [Ow_zero c (tDone k) hge]
  rw [Ow_zero c (tDone k + 1) (by omega)] at h2
  unfold OutSt
  iintro ⟨#Hrec, ⟨%w, HO⟩, ⟨Hat, Hc⟩, HM⟩
  iapply (Rounds.wp_wait_rest_token 𝒱₀ ER (Rd X W) (c : Thread nD τ) none (κ := KI (c, some (k, false)))
      (wpE_waitDma2_eq 𝒱₀ (c : Thread nD τ) none Set.univ) (Set.mem_univ _) () (O := 0) (W := w) (R := 0) (m := 0) (T := ∅)
      (by rw [Nat.zero_add, expect_s, hN])) $$ [Hc HO Hat]
  · isplitr; · iapply (rec_inv X W KI c (some (k, false))); iexact Hrec
    isplitl [Hc]; · rw [hN]; iexact Hc
    isplitl [HO]; · iexact HO
    isplitr; · rw [MayWait_zero]; iempintro
    iexact Hat
  iintro ⟨HO, Hat, -, Hpay⟩
  ihave Hp := (Entails.of_eq (rest_s X W c k)) $$ Hpay
  iapply h.run
  iapply h2
  isplitl [HO]; · iexists _; iexact HO
  isplitl [Hat Hp]
  · unfold OutSt
    isplitl [Hat]; · iexact Hat
    iexact Hp
  isplitr; · iexact Hrec
  iexact HM

/-! ### Loads -/

theorem got_of {m : ℕ} {k : K} (h : In c m k) (hn : m < n) : ist c n k = .got := by
  have h2 := h.2.1
  unfold ist at h2 ⊢
  by_cases hc : m + 1 ≤ tRecv c k
  · rw [if_pos hc] at h2; cases h2
  · rw [if_neg (by omega)]

/-- A load from the partial product. -/
theorem tri_load_p {R : sProp 𝕄} {Q : α → sProp 𝕄} {o o' sz : Fin 2 → ℕ} {h1 : ∀ a, o a + sz a ≤ S1024x1024.size a} {h2 : ∀ a, o' a + sz a ≤ S1024x1024.size a}
    {hl : pM.view.LoadsAt (Rect.unit (s := S1024x1024) o sz h1).toLoadRect}
    {kk : ((Rect.unit (s := S1024x1024) o sz h1).toLoadRect.shape.Idx → Elt F .f32) → Prog (TpuEff nD τ sig (Elt F) Λ₀ .tc) α}
    (v : (Rect.unit (s := S1024x1024) o sz h1).toLoadRect.shape.Idx → Elt F .f32) (ho : o = o')
    (hv : pM.view.readAt (Elt F) (Rect.unit (s := S1024x1024) o' sz h2).toLoadRect (Pm X W c) = v)
    (h : Tri X W KI c n R (kk v) Q) :
    Tri X W KI c n R (Prog.lift (.load pM (Rect.unit (s := S1024x1024) o sz h1).toLoadRect hl) >>= kk) Q := by
  subst ho hv
  obtain ⟨M, g1, g2⟩ := St_p (X := X) (W := W) (KI := KI) c n R
  show St X W KI c n R ⊢ wp frame (wpE (defs₀ (F := F)) 𝒱₀ (c : Thread nD τ) none) Set.univ (.op _ kk) Q
  refine g1.trans ?_
  iintro ⟨Hp, HM⟩
  iapply (wp_load 𝒱₀ (c : Thread nD τ) none Set.univ (m := pM) (S := Finset.univ) (Finset.subset_univ _)) $$ [Hp]
  · iexact Hp
  iintro Hp
  iapply h.run
  iapply g2
  isplitl [Hp]; · iexact Hp
  iexact HM

theorem tri_PT {R : sProp 𝕄} {Q : α → sProp 𝕄} {o : Fin 2 → ℕ} {h1 : ∀ a, o a + S64x256.size a ≤ S1024x1024.size a} (j q : Fin 4) (col : ℕ) {hc : col ≤ 768}
    {hl : pM.view.LoadsAt (Rect.unit (s := S1024x1024) o S64x256.size h1).toLoadRect}
    {kk : Vec F S64x256 .f32 → Prog (TpuEff nD τ sig (Elt F) Λ₀ .tc) α}
    (ho : o = ![row j q, col]) (h : Tri X W KI c n R (kk (PT X W c j q col hc)) Q) :
    Tri X W KI c n R (Prog.lift (.load pM (Rect.unit (s := S1024x1024) o S64x256.size h1).toLoadRect hl) >>= kk) Q :=
  tri_load_p (h2 := inb_tile j q col hc) (PT X W c j q col hc) ho rfl h

theorem tri_PH {R : sProp 𝕄} {Q : α → sProp 𝕄} {o : Fin 2 → ℕ} {h1 : ∀ a, o a + S128x256.size a ≤ S1024x1024.size a} (z : Fin 4) (b : Fin 2) (col : ℕ) {hc : col ≤ 768}
    {hl : pM.view.LoadsAt (Rect.unit (s := S1024x1024) o S128x256.size h1).toLoadRect}
    {kk : Vec F S128x256 .f32 → Prog (TpuEff nD τ sig (Elt F) Λ₀ .tc) α}
    (ho : o = ![hrow z b, col]) (h : Tri X W KI c n R (kk (PH X W c z b col hc)) Q) :
    Tri X W KI c n R (Prog.lift (.load pM (Rect.unit (s := S1024x1024) o S128x256.size h1).toLoadRect hl) >>= kk) Q :=
  tri_load_p (h2 := inb_half z b col hc) (PH X W c z b col hc) ho rfl h

theorem slot_set {s s' : Shape} (m : Memref sig .tc .vmem s .f32) (r0 : Rect s) (h1 : ∀ a, r0.stride a = 1) (hq : r0.shape.Squeezes s') :
    ((m.slice r0 h1).squeeze s' hq).view.set = m.view.setOn r0.set := by
  show ((m.view.slice r0).reshape s' hq.numel_eq).set = _
  rw [View.set_reshape, View.set_slice]; rfl

theorem setOn_sub {s : Shape} (m : Memref sig .tc .vmem s .f32) {A B : Finset s.Idx} (h : A ⊆ B) : m.view.setOn A ⊆ m.view.setOn B := Finset.map_subset_map.mpr h

/-- A load from a landing slot that has been waited for. -/
theorem tri_load_own {R : sProp 𝕄} {Q : α → sProp 𝕄} (k : K) (hg : ist c n k = .got) {s s' : Shape} {m : Memref sig .tc .vmem s .f32} {r0 : Rect s} {h1 : ∀ a, r0.stride a = 1}
    {hq : r0.shape.Squeezes s'} {g : s'.Idx → Elt F .f32} (eH : dHas X W k c = owns (c : Thread nD τ) ((m.slice r0 h1).squeeze s' hq) fullShare g)
    {r : LoadRect s} (hsub : r.set ⊆ r0.set) (v : r.shape.Idx → Elt F .f32)
    (hv : ∀ x : s.Idx → Elt F .f32, (fun i => x (r0.emb i)) = up hq g → (fun j => x (r.idx j)) = v)
    {hl : m.view.LoadsAt r} {kk : (r.shape.Idx → Elt F .f32) → Prog (TpuEff nD τ sig (Elt F) Λ₀ .tc) α}
    (h : Tri X W KI c n R (kk v) Q) :
    Tri X W KI c n R (Prog.lift (.load m r hl) >>= kk) Q := by
  obtain ⟨M, g1, g2⟩ := St_got (X := X) (W := W) (KI := KI) hg R
  rw [eH] at g1 g2
  show St X W KI c n R ⊢ wp frame (wpE (defs₀ (F := F)) 𝒱₀ (c : Thread nD τ) none) Set.univ (.op _ kk) Q
  refine g1.trans ?_
  unfold owns
  iintro ⟨⟨%f, %hf, Hp⟩, HM⟩
  iapply (wp_load 𝒱₀ (c : Thread nD τ) none Set.univ (m := m) (S := ((m.slice r0 h1).squeeze s' hq).view.set) (q := fullShare) (f := f)
    (by rw [slot_set]; exact setOn_sub m hsub)) $$ [Hp]
  · iexact Hp
  iintro Hp
  have hx : m.view.readAt (Elt F) r f = v := hv (m.view.read (Elt F) f) (by rw [← hf]; exact (up_sq hq _).symm)
  rw [hx]
  iapply h.run
  iapply g2
  isplitl [Hp]
  · unfold owns
    iexists f
    isplitr; · ipureintro; exact hf
    iexact Hp
  iexact HM

/-- The whole slot at once. -/
theorem tri_load_all {R : sProp 𝕄} {Q : α → sProp 𝕄} (k : K) {m' : ℕ} (hi : In c m' k) (hm : m' < n) {s : Shape} {m : Memref sig .tc .vmem s .f32} {r0 : Rect s} {h1 : ∀ a, r0.stride a = 1}
    {hq : r0.shape.Squeezes (sh k)} (e : dM k = (m.slice r0 h1).squeeze (sh k) hq)
    {hl : m.view.LoadsAt r0.toLoadRect} {kk : (r0.toLoadRect.shape.Idx → Elt F .f32) → Prog (TpuEff nD τ sig (Elt F) Λ₀ .tc) α}
    (h : Tri X W KI c n R (kk (up hq (rV X W k c))) Q) :
    Tri X W KI c n R (Prog.lift (.load m r0.toLoadRect hl) >>= kk) Q :=
  tri_load_own k (got_of hi hm) (by unfold dHas; rw [e]) (fun _ h => h) _ (fun _ hx => hx) h

/-! ### Staging slots -/

theorem shq_full {k : K} (hk : isP k = false) : shq k = fullShare := by unfold shq; rw [hk]; rfl

theorem ready_at {k : K} {S : Memref sig .tc .vmem (sh k) .f32} (e : sM k c = S) :
    OutSt X W k c .ready = iprop(pay2 k c ∗ ∃ f, S.view.loc (c : Thread nD τ) ↦[S.view.set]{fullShare} f) := by subst e; rfl
theorem half_at {k : K} {S : Memref sig .tc .vmem (sh k) .f32} (e : sM k c = S) :
    OutSt X W k c .half = iprop(pay2 k c ∗ ∃ f, ⌜halfOk' X W k c (S.view.read (Elt F) f)⌝ ∗ S.view.loc (c : Thread nD τ) ↦[S.view.set]{fullShare} f) := by
  subst e; rfl
theorem loaded_at {k : K} (hk : isP k = false) {S : Memref sig .tc .vmem (sh k) .f32} (e : sM k c = S) :
    OutSt X W k c .loaded = iprop(pay2 k c ∗ owns (c : Thread nD τ) S fullShare (V X W k c)) := by
  subst e; show iprop(pay2 k c ∗ owns (c : Thread nD τ) _ (shq k) (V X W k c)) = _; rw [shq_full hk]

/-- A load from a staging slot whose value is not used. -/
theorem tri_dead {R : sProp 𝕄} {Q : α → sProp 𝕄} (k : K) (hg : ost c n k = .ready ∨ ost c n k = .half) {s : Shape} {m : Memref sig .tc .vmem s .f32} {r0 : Rect s} {h1 : ∀ a, r0.stride a = 1}
    {hq : r0.shape.Squeezes (sh k)} (e : sM k c = (m.slice r0 h1).squeeze (sh k) hq) {r : LoadRect s} (hsub : r.set ⊆ r0.set)
    {hl : m.view.LoadsAt r} {kk : (r.shape.Idx → Elt F .f32) → Prog (TpuEff nD τ sig (Elt F) Λ₀ .tc) α}
    (h : ∀ v, Tri X W KI c n R (kk v) Q) :
    Tri X W KI c n R (Prog.lift (.load m r hl) >>= kk) Q := by
  show St X W KI c n R ⊢ wp frame (wpE (defs₀ (F := F)) 𝒱₀ (c : Thread nD τ) none) Set.univ (.op _ kk) Q
  rcases hg with hg | hg
  · obtain ⟨M, g1, g2⟩ := St_ost (X := X) (W := W) (KI := KI) hg R
    refine g1.trans ?_
    have eH : OutSt X W k c .ready = iprop(pay2 k c ∗ ∃ f, ((m.slice r0 h1).squeeze (sh k) hq).view.loc (c : Thread nD τ)
      ↦[((m.slice r0 h1).squeeze (sh k) hq).view.set]{fullShare} f) := ready_at e
    rw [eH] at g2 ⊢
    iintro ⟨⟨Hy, ⟨%f, Hp⟩⟩, HM⟩
    iapply (wp_load 𝒱₀ (c : Thread nD τ) none Set.univ (m := m) (S := ((m.slice r0 h1).squeeze (sh k) hq).view.set) (q := fullShare) (f := f)
      (by rw [slot_set]; exact setOn_sub m hsub)) $$ [Hp]
    · iexact Hp
    iintro Hp
    iapply (h _).run
    iapply g2
    isplitl [Hp Hy]
    · isplitl [Hy]; · iexact Hy
      iexists f; iexact Hp
    iexact HM
  · obtain ⟨M, g1, g2⟩ := St_ost (X := X) (W := W) (KI := KI) hg R
    refine g1.trans ?_
    obtain ⟨P, eH⟩ : ∃ P : Buf (Elt F) (((m.slice r0 h1).squeeze (sh k) hq).view.loc (c : Thread nD τ)) → Prop,
      OutSt X W k c .half = iprop(pay2 k c ∗ ∃ f, ⌜P f⌝ ∗ ((m.slice r0 h1).squeeze (sh k) hq).view.loc (c : Thread nD τ)
      ↦[((m.slice r0 h1).squeeze (sh k) hq).view.set]{fullShare} f) :=
      ⟨fun f => halfOk' X W k c (((m.slice r0 h1).squeeze (sh k) hq).view.read (Elt F) f), half_at e⟩
    rw [eH] at g1 g2 ⊢
    iintro ⟨⟨Hy, ⟨%f, %hf, Hp⟩⟩, HM⟩
    iapply (wp_load 𝒱₀ (c : Thread nD τ) none Set.univ (m := m) (S := ((m.slice r0 h1).squeeze (sh k) hq).view.set) (q := fullShare) (f := f)
      (by rw [slot_set]; exact setOn_sub m hsub)) $$ [Hp]
    · iexact Hp
    iintro Hp
    iapply (h _).run
    iapply g2
    isplitl [Hp Hy]
    · isplitl [Hy]; · iexact Hy
      iexists f
      isplitr; · ipureintro; exact hf
      iexact Hp
    iexact HM

/-- A store of a whole staging slot. -/
theorem tri_store {R : sProp 𝕄} {Q : α → sProp 𝕄} (k : K) (hk : isP k = false) (ho : Out c n k .ready .loaded) {s : Shape} {m : Memref sig .tc .vmem s .f32} {r0 : Rect s} {h1 : ∀ a, r0.stride a = 1}
    {hq : r0.shape.Squeezes (sh k)} (e : sM k c = (m.slice r0 h1).squeeze (sh k) hq) {pay : r0.shape.Idx → Elt F .f32} (hv : V X W k c = sq hq pay)
    {hx : (m.access r0).Stores Finset.univ} {hm : (Finset.univ : Finset r0.shape.Idx) = Finset.univ ∨ ∀ a, r0.stride a = 1}
    {kk : PUnit → Prog (TpuEff nD τ sig (Elt F) Λ₀ .tc) α} (h : Tri X W KI c (n + 1) R (kk ⟨⟩) Q) :
    Tri X W KI c n R (Prog.lift (.store m r0 pay Finset.univ hx hm) >>= kk) Q := by
  show St X W KI c n R ⊢ wp frame (wpE (defs₀ (F := F)) 𝒱₀ (c : Thread nD τ) none) Set.univ (.op _ kk) Q
  obtain ⟨M, g1, g2⟩ := St_out (X := X) (W := W) (KI := KI) ho R
  obtain ⟨-, -, -, -, hoth, hbef, haft⟩ := ho
  have hO : Ow c (n + 1) = Ow c n := Ow_congr c n (n + 1) (fun k' => by
    by_cases hkk : k' = k
    · subst hkk; exact ⟨fun _ => hbef.mpr (by decide), fun _ => haft.mpr (by decide)⟩
    · exact hoth k' hkk)
  rw [hO] at g2
  refine g1.trans ?_
  have eH : OutSt X W k c .ready = iprop(pay2 k c ∗ ∃ f, ((m.slice r0 h1).squeeze (sh k) hq).view.loc (c : Thread nD τ)
    ↦[((m.slice r0 h1).squeeze (sh k) hq).view.set]{fullShare} f) := ready_at e
  have eL : OutSt X W k c .loaded = iprop(pay2 k c ∗ owns (c : Thread nD τ) ((m.slice r0 h1).squeeze (sh k) hq) fullShare (V X W k c)) := loaded_at hk e
  rw [eL] at g2
  rw [eH]
  iintro ⟨Hr, HO, ⟨Hy, ⟨%f, Hp⟩⟩, HM⟩
  iapply (wp_store 𝒱₀ (c : Thread nD τ) none Set.univ (m := m) (r := r0) (w := pay) (Mk := Finset.univ) (S := ((m.slice r0 h1).squeeze (sh k) hq).view.set) (f := f)
    (by rw [slot_set]; show (m.view.slice r0).set ⊆ _; rw [View.set_slice]; exact fun _ h => h)) $$ [Hp]
  · iexact Hp
  iintro Hp
  iapply h.run
  iapply g2
  isplitl [HO]; · iexact HO
  isplitl [Hy Hp]
  · isplitl [Hy]; · iexact Hy
    unfold owns
    iexists _
    isplitr; swap; · iexact Hp
    ipureintro
    rw [hv]
    show sq hq ((m.view.slice r0).read (Elt F) ((m.view.slice r0).write (Elt F) f pay Finset.univ)) = _
    rw [View.read_write_univ]
  isplitl [Hr]; · iexact Hr
  iexact HM

/-- A store of the first half of a staging slot, -/
theorem tri_store1 {R : sProp 𝕄} {Q : α → sProp 𝕄} (k : K) (ho : Out c n k .ready .half) {s : Shape} {m : Memref sig .tc .vmem s .f32} {r0 : Rect s} {h1 : ∀ a, r0.stride a = 1}
    {hq : r0.shape.Squeezes (sh k)} (e : sM k c = (m.slice r0 h1).squeeze (sh k) hq) {r : Rect s} (hsub : r.set ⊆ r0.set) {pay : r.shape.Idx → Elt F .f32}
    (hv : ∀ x : s.Idx → Elt F .f32, (∀ j, x (r.emb j) = pay j) → halfOk' X W k c (sq hq fun i => x (r0.emb i)))
    {hx : (m.access r).Stores Finset.univ} {hm : (Finset.univ : Finset r.shape.Idx) = Finset.univ ∨ ∀ a, r.stride a = 1}
    {kk : PUnit → Prog (TpuEff nD τ sig (Elt F) Λ₀ .tc) α} (h : Tri X W KI c (n + 1) R (kk ⟨⟩) Q) :
    Tri X W KI c n R (Prog.lift (.store m r pay Finset.univ hx hm) >>= kk) Q := by
  show St X W KI c n R ⊢ wp frame (wpE (defs₀ (F := F)) 𝒱₀ (c : Thread nD τ) none) Set.univ (.op _ kk) Q
  obtain ⟨M, g1, g2⟩ := St_out (X := X) (W := W) (KI := KI) ho R
  obtain ⟨-, -, -, -, hoth, hbef, haft⟩ := ho
  have hO : Ow c (n + 1) = Ow c n := Ow_congr c n (n + 1) (fun k' => by
    by_cases hkk : k' = k
    · subst hkk; exact ⟨fun _ => hbef.mpr (by decide), fun _ => haft.mpr (by decide)⟩
    · exact hoth k' hkk)
  rw [hO] at g2
  refine g1.trans ?_
  have eH : OutSt X W k c .ready = iprop(pay2 k c ∗ ∃ f, ((m.slice r0 h1).squeeze (sh k) hq).view.loc (c : Thread nD τ)
    ↦[((m.slice r0 h1).squeeze (sh k) hq).view.set]{fullShare} f) := ready_at e
  have eL : OutSt X W k c .half = iprop(pay2 k c ∗ ∃ f, ⌜halfOk' X W k c (((m.slice r0 h1).squeeze (sh k) hq).view.read (Elt F) f)⌝
    ∗ ((m.slice r0 h1).squeeze (sh k) hq).view.loc (c : Thread nD τ) ↦[((m.slice r0 h1).squeeze (sh k) hq).view.set]{fullShare} f) := half_at e
  rw [eL] at g2
  rw [eH]
  iintro ⟨Hr, HO, ⟨Hy, ⟨%f, Hp⟩⟩, HM⟩
  iapply (wp_store 𝒱₀ (c : Thread nD τ) none Set.univ (m := m) (r := r) (w := pay) (Mk := Finset.univ) (S := ((m.slice r0 h1).squeeze (sh k) hq).view.set) (f := f)
    (by rw [slot_set]; show (m.view.slice r).set ⊆ _; rw [View.set_slice]; exact setOn_sub m hsub)) $$ [Hp]
  · iexact Hp
  iintro Hp
  iapply h.run
  iapply g2
  isplitl [HO]; · iexact HO
  isplitl [Hy Hp]
  · isplitl [Hy]; · iexact Hy
    iexists _
    isplitr; swap; · iexact Hp
    ipureintro
    exact hv (m.view.read (Elt F) ((m.view.slice r).write (Elt F) f pay Finset.univ)) (fun j => View.read_slice_write_emb (v := m.view) r f pay (Finset.mem_univ j))
  isplitl [Hr]; · iexact Hr
  iexact HM

/-- and of the second. -/
theorem tri_store2 {R : sProp 𝕄} {Q : α → sProp 𝕄} (k : K) (hk : isP k = false) (ho : Out c n k .half .loaded) {s : Shape} {m : Memref sig .tc .vmem s .f32} {r0 : Rect s} {h1 : ∀ a, r0.stride a = 1}
    {hq : r0.shape.Squeezes (sh k)} (e : sM k c = (m.slice r0 h1).squeeze (sh k) hq) {r : Rect s} (hsub : r.set ⊆ r0.set) {pay : r.shape.Idx → Elt F .f32}
    (hv : ∀ x x' : s.Idx → Elt F .f32, halfOk' X W k c (sq hq fun i => x (r0.emb i)) → (∀ j, x' (r.emb j) = pay j) → (∀ y, y ∉ r.set → x' y = x y) →
      (sq hq fun i => x' (r0.emb i)) = V X W k c)
    {hx : (m.access r).Stores Finset.univ} {hm : (Finset.univ : Finset r.shape.Idx) = Finset.univ ∨ ∀ a, r.stride a = 1}
    {kk : PUnit → Prog (TpuEff nD τ sig (Elt F) Λ₀ .tc) α} (h : Tri X W KI c (n + 1) R (kk ⟨⟩) Q) :
    Tri X W KI c n R (Prog.lift (.store m r pay Finset.univ hx hm) >>= kk) Q := by
  show St X W KI c n R ⊢ wp frame (wpE (defs₀ (F := F)) 𝒱₀ (c : Thread nD τ) none) Set.univ (.op _ kk) Q
  obtain ⟨M, g1, g2⟩ := St_out (X := X) (W := W) (KI := KI) ho R
  obtain ⟨-, -, -, -, hoth, hbef, haft⟩ := ho
  have hO : Ow c (n + 1) = Ow c n := Ow_congr c n (n + 1) (fun k' => by
    by_cases hkk : k' = k
    · subst hkk; exact ⟨fun _ => hbef.mpr (by decide), fun _ => haft.mpr (by decide)⟩
    · exact hoth k' hkk)
  rw [hO] at g2
  refine g1.trans ?_
  have eH : OutSt X W k c .half = iprop(pay2 k c ∗ ∃ f, ⌜halfOk' X W k c (((m.slice r0 h1).squeeze (sh k) hq).view.read (Elt F) f)⌝
    ∗ ((m.slice r0 h1).squeeze (sh k) hq).view.loc (c : Thread nD τ) ↦[((m.slice r0 h1).squeeze (sh k) hq).view.set]{fullShare} f) := half_at e
  have eL : OutSt X W k c .loaded = iprop(pay2 k c ∗ owns (c : Thread nD τ) ((m.slice r0 h1).squeeze (sh k) hq) fullShare (V X W k c)) := loaded_at hk e
  rw [eL] at g2
  rw [eH]
  iintro ⟨Hr, HO, ⟨Hy, ⟨%f, %hf, Hp⟩⟩, HM⟩
  iapply (wp_store 𝒱₀ (c : Thread nD τ) none Set.univ (m := m) (r := r) (w := pay) (Mk := Finset.univ) (S := ((m.slice r0 h1).squeeze (sh k) hq).view.set) (f := f)
    (by rw [slot_set]; show (m.view.slice r).set ⊆ _; rw [View.set_slice]; exact setOn_sub m hsub)) $$ [Hp]
  · iexact Hp
  iintro Hp
  iapply h.run
  iapply g2
  isplitl [HO]; · iexact HO
  isplitl [Hy Hp]
  · isplitl [Hy]; · iexact Hy
    unfold owns
    iexists _
    isplitr; swap; · iexact Hp
    ipureintro
    exact hv (m.view.read (Elt F) f) (m.view.read (Elt F) ((m.view.slice r).write (Elt F) f pay Finset.univ)) hf
      (fun j => View.read_slice_write_emb (v := m.view) r f pay (Finset.mem_univ j))
      (fun y hy => View.read_slice_write_of_not_mem (v := m.view) r f pay Finset.univ (by rw [Rect.map_emb_univ]; exact hy))
  isplitl [Hr]; · iexact Hr
  iexact HM

end Steps

end Cert.Mesh

end
-- ==== Proof.Slots.lean ====
/-
The slots and semaphores the program names, and the halves of a slot.
-/
module

public import proofs.«01_k».proof.Proof.Steps

@[expose] public section

set_option maxRecDepth 16384

noncomputable section

namespace Cert.Mesh

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- A part of the program on the kernel's own buffers and semaphores. -/
abbrev onArgs {β : Type*} (f : (arg0 : Memref sig .tc .vmem S1024x64 .f32) → (harg0 : arg0.IsWhole) → (arg1 : Memref sig .tc .vmem S64x1024 .f32) → (harg1 : arg1.IsWhole) → (arg2 : Memref sig .tc .vmem S64x1024 .f32) → (harg2 : arg2.IsWhole) → (arg3 : Memref sig .tc .vmem S1024x1024 .f32) → (harg3 : arg3.IsWhole) → (arg4 : Memref sig .tc .vmem S2x4x64x256 .f32) → (harg4 : arg4.IsWhole) → (arg5 : Memref sig .tc .vmem S2x4x64x256 .f32) → (harg5 : arg5.IsWhole) → (arg6 : Memref sig .tc .vmem S4x64x256 .f32) → (harg6 : arg6.IsWhole) → (arg7 : Memref sig .tc .vmem S4x64x256 .f32) → (harg7 : arg7.IsWhole) → (arg8 : Memref sig .tc .vmem S2x4x64x256 .f32) → (harg8 : arg8.IsWhole) → (arg9 : Memref sig .tc .vmem S2x4x64x256 .f32) → (harg9 : arg9.IsWhole) → (arg10 : Memref sig .tc .vmem S4x64x256 .f32) → (harg10 : arg10.IsWhole) → (arg11 : Memref sig .tc .vmem S4x64x256 .f32) → (harg11 : arg11.IsWhole) → (arg12 : Memref sig .tc .vmem S3x2x128x256 .f32) → (harg12 : arg12.IsWhole) → (arg13 : Memref sig .tc .vmem S3x2x128x256 .f32) → (harg13 : arg13.IsWhole) → (arg14 : Memref sig .tc .vmem S3x2x128x256 .f32) → (harg14 : arg14.IsWhole) → (arg15 : Memref sig .tc .vmem S3x2x128x256 .f32) → (harg15 : arg15.IsWhole) → (arg16 : Memref sig .tc .vmem S3x64x512 .f32) → (harg16 : arg16.IsWhole) → (arg17 : Memref sig .tc .vmem S3x64x512 .f32) → (harg17 : arg17.IsWhole) → (arg18 : Memref sig .tc .vmem S3x64x512 .f32) → (harg18 : arg18.IsWhole) → (arg19 : Memref sig .tc .vmem S3x64x512 .f32) → (harg19 : arg19.IsWhole) → (arg20 : DmaSems sig S2x4) → (arg21 : DmaSems sig S2x4) → (arg22 : DmaSems sig S4) → (arg23 : DmaSems sig S4) → (arg24 : DmaSems sig S2x4) → (arg25 : DmaSems sig S2x4) → (arg26 : DmaSems sig S4) → (arg27 : DmaSems sig S4) → (arg28 : DmaSems sig S3x2) → (arg29 : DmaSems sig S3x2) → (arg30 : DmaSems sig S3x2) → (arg31 : DmaSems sig S3x2) → (arg32 : DmaSems sig S3) → (arg33 : DmaSems sig S3) → (arg34 : DmaSems sig S3) → (arg35 : DmaSems sig S3) → β) : β :=
  f (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) cc0_scratch17 cc0_scratch18 cc0_scratch19 cc0_scratch20 cc0_scratch21 cc0_scratch22 cc0_scratch23 cc0_scratch24 cc0_scratch25 cc0_scratch26 cc0_scratch27 cc0_scratch28 cc0_scratch29 cc0_scratch30 cc0_scratch31 cc0_scratch32

theorem slot_congr {s s' : Shape} {m : Memref sig .tc .vmem s .f32} {o o' sz : Fin s.rank → ℕ} {h1 : ∀ a, o a + sz a ≤ s.size a} {h2 : ∀ a, o' a + sz a ≤ s.size a}
    {hq : (⟨s.rank, sz⟩ : Shape).Squeezes s'}
    (h : o = o') : (m.slice (Rect.unit o' sz h2) (fun _ => rfl)).squeeze s' hq = (m.slice (Rect.unit o sz h1) (fun _ => rfl)).squeeze s' hq := by subst h; rfl
theorem slot_congr' {s s' : Shape} {m : Memref sig .tc .vmem s .f32} {o o' sz : Fin s.rank → ℕ} {h1 : ∀ a, o a + sz a ≤ s.size a} {h2 : ∀ a, o' a + sz a ≤ s.size a}
    {hq : (⟨s.rank, sz⟩ : Shape).Squeezes s'}
    (h : o = o') : (m.slice (Rect.unit o sz h1) (fun _ => rfl)).squeeze s' hq = (m.slice (Rect.unit o' sz h2) (fun _ => rfl)).squeeze s' hq := (slot_congr h).symm
theorem part_congr {s : Shape} {m : Memref sig .tc .vmem s .f32} {o o' sz : Fin s.rank → ℕ} {h1 : ∀ a, o a + sz a ≤ s.size a} {h2 : ∀ a, o' a + sz a ≤ s.size a}
    (h : o = o') : m.slice (Rect.unit o sz h1) (fun _ => rfl) = m.slice (Rect.unit o' sz h2) (fun _ => rfl) := by subst h; rfl
theorem sem24 {A : DmaSems sig S2x4} {o : Fin 2 → ℕ} {h1 : ∀ a, o a + S1x1.size a ≤ S2x4.size a} (a : Fin 2) (b : Fin 4) {k : DmaSem sig} (h : o = ![a.val, b.val]) (hk : entry24 A a b = k) :
    ((A.slice (Rect.unit (s := S2x4) o S1x1.size h1)).squeeze S_ squeezes_S1x1_S_).sem = k := by subst h hk; rfl
theorem sem32 {A : DmaSems sig S3x2} {o : Fin 2 → ℕ} {h1 : ∀ a, o a + S1x1.size a ≤ S3x2.size a} (a : Fin 3) (b : Fin 2) {k : DmaSem sig} (h : o = ![a.val, b.val]) (hk : entry32 A a b = k) :
    ((A.slice (Rect.unit (s := S3x2) o S1x1.size h1)).squeeze S_ squeezes_S1x1_S_).sem = k := by subst h hk; rfl
theorem sem4 {A : DmaSems sig S4} {o : Fin 1 → ℕ} {h1 : ∀ a, o a + S1.size a ≤ S4.size a} (a : Fin 4) {k : DmaSem sig} (h : o = ![a.val]) (hk : entry4 A a = k) :
    ((A.slice (Rect.unit (s := S4) o S1.size h1)).squeeze S_ squeezes_S1_S_).sem = k := by subst h hk; rfl
theorem sem3 {A : DmaSems sig S3} {o : Fin 1 → ℕ} {h1 : ∀ a, o a + S1.size a ≤ S3.size a} (a : Fin 3) {k : DmaSem sig} (h : o = ![a.val]) (hk : entry3 A a = k) :
    ((A.slice (Rect.unit (s := S3) o S1.size h1)).squeeze S_ squeezes_S1_S_).sem = k := by subst h hk; rfl
theorem dev_eq {a : ℕ} {h : a < nD} {d : Dev nD} (e : a = d.val) : (⟨a, h⟩ : Dev nD) = d := Fin.ext e

/-! ## Halves -/

theorem inb_l (e : Fin 3) : ∀ a, ![e.val, 0, 0] a + S1x64x256.size a ≤ S3x64x512.size a := by revert e; decide
theorem inb_r (e : Fin 3) : ∀ a, ![e.val, 0, 256] a + S1x64x256.size a ≤ S3x64x512.size a := by revert e; decide
abbrev RL (e : Fin 3) : Rect S3x64x512 := Rect.unit (s := S3x64x512) ![e.val, 0, 0] S1x64x256.size (inb_l e)
abbrev RR (e : Fin 3) : Rect S3x64x512 := Rect.unit (s := S3x64x512) ![e.val, 0, 256] S1x64x256.size (inb_r e)

/-- A rectangle of unit strides inside another. -/
theorem unit_sub {s : Shape} {o o' sz sz' : Fin s.rank → ℕ} {h1 : ∀ a, o a + sz a ≤ s.size a} {h2 : ∀ a, o' a + sz' a ≤ s.size a}
    (hl : ∀ a, o' a ≤ o a) (hr : ∀ a, o a + sz a ≤ o' a + sz' a) : (Rect.unit o sz h1).set ⊆ (Rect.unit o' sz' h2).set := by
  intro i hi
  refine (LoadRect.mem_set _).mpr fun a => ?_
  obtain ⟨j, hj, e⟩ := (LoadRect.mem_set _).mp hi a
  have hj' : j < sz a := hj
  have e' : (i a).val = o a + 1 * j := e
  have := hl a; have := hr a
  exact ⟨o a + j - o' a, (by omega : o a + j - o' a < sz' a), (by omega : (i a).val = o' a + 1 * (o a + j - o' a))⟩

theorem sub_l (e : Fin 3) : (RL e).set ⊆ (R3 e).set := unit_sub (fun a => by fin_cases a <;> exact le_rfl) (fun a => by
  fin_cases a
  · exact le_rfl
  · exact le_rfl
  · exact (by decide : 0 + 256 ≤ 0 + 512))
theorem sub_r (e : Fin 3) : (RR e).set ⊆ (R3 e).set := unit_sub (fun a => by
  fin_cases a
  · exact le_rfl
  · exact le_rfl
  · exact (by decide : 0 ≤ 256)) (fun a => by
  fin_cases a
  · exact le_rfl
  · exact le_rfl
  · exact (by decide : 256 + 256 ≤ 0 + 512))

theorem lft_of {e : Fin 3} (x : S3x64x512.Idx → Elt F .f32) : lft (F := F) (fun i => x ((R3 e).emb i)) = fun j => x ((RL e).emb j) :=
  funext fun i => congrArg x (funext fun a => Fin.ext (by fin_cases a <;> rfl))
theorem rgt_of {e : Fin 3} (x : S3x64x512.Idx → Elt F .f32) : rgt (F := F) (fun i => x ((R3 e).emb i)) = fun j => x ((RR e).emb j) :=
  funext fun i => congrArg x (funext fun a => Fin.ext (by
    fin_cases a
    · rfl
    · rfl
    · show 0 + 1 * (256 + (i 2).val) = 256 + 1 * (i 2).val; omega))
theorem u3_sq (g : Vec F S1x64x512 .f32) : u3 (sq squeezes_S1x64x512_S64x512 g) = g := up_sq _ g
theorem cat_lft_rgt (v : Vec F S1x64x512 .f32) : cat (lft v) (rgt v) = v := by
  funext i
  unfold cat lft rgt
  by_cases h : (i 2).val < 256
  · rw [dif_pos h]
    exact congrArg v (funext fun a => Fin.ext (by fin_cases a <;> rfl))
  · rw [dif_neg h]
    exact congrArg v (funext fun a => Fin.ext (by
      fin_cases a
      · rfl
      · rfl
      · show 256 + ((i 2).val - 256) = (i 2).val; omega))
theorem l_not_r {e : Fin 3} (j : (RL e).shape.Idx) : (RL e).emb j ∉ (RR e).set := by
  intro h
  obtain ⟨i, hi, he⟩ := (LoadRect.mem_set _).mp h 2
  have h1 : 0 + 1 * (j 2).val = 256 + 1 * i := he
  have h2 : (j 2).val < 256 := (j 2).isLt
  omega

section

variable {X : Dev nD → Vec F S1024x64 .f32} {W : Dev nD → Vec F S64x1024 .f32} {KI : Dev nD × CI → ℕ} {c : Dev nD} {n : ℕ} {α : Type}

/-- A half of a landing slot of `a2` or `b2`. -/
theorem tri_lft {R : sProp 𝕄} {Q : α → sProp 𝕄} (e : Fin 3) (k : K) (v : Vec F S64x512 .f32) {m' : ℕ} (hi : In c m' k) (hm : m' < n) {m : Memref sig .tc .vmem S3x64x512 .f32}
    (hd : dHas X W k c = owns (c : Thread nD τ) (M3 m e) fullShare v)
    {o : Fin 3 → ℕ} {h1 : ∀ a, o a + S1x64x256.size a ≤ S3x64x512.size a} (ho : o = ![e.val, 0, 0])
    {hl : m.view.LoadsAt (Rect.unit (s := S3x64x512) o S1x64x256.size h1).toLoadRect} {kk : Vec F S1x64x256 .f32 → Prog (TpuEff nD τ sig (Elt F) Λ₀ .tc) α}
    (h : Tri X W KI c n R (kk (lft (u3 v))) Q) :
    Tri X W KI c n R (Prog.lift (.load m (Rect.unit (s := S3x64x512) o S1x64x256.size h1).toLoadRect hl) >>= kk) Q := by
  subst ho
  exact tri_load_own k (got_of hi hm) hd (sub_l e) _ (fun x hx => (lft_of x).symm.trans (congrArg lft hx)) h
theorem tri_rgt {R : sProp 𝕄} {Q : α → sProp 𝕄} (e : Fin 3) (k : K) (v : Vec F S64x512 .f32) {m' : ℕ} (hi : In c m' k) (hm : m' < n) {m : Memref sig .tc .vmem S3x64x512 .f32}
    (hd : dHas X W k c = owns (c : Thread nD τ) (M3 m e) fullShare v)
    {o : Fin 3 → ℕ} {h1 : ∀ a, o a + S1x64x256.size a ≤ S3x64x512.size a} (ho : o = ![e.val, 0, 256])
    {hl : m.view.LoadsAt (Rect.unit (s := S3x64x512) o S1x64x256.size h1).toLoadRect} {kk : Vec F S1x64x256 .f32 → Prog (TpuEff nD τ sig (Elt F) Λ₀ .tc) α}
    (h : Tri X W KI c n R (kk (rgt (u3 v))) Q) :
    Tri X W KI c n R (Prog.lift (.load m (Rect.unit (s := S3x64x512) o S1x64x256.size h1).toLoadRect hl) >>= kk) Q := by
  subst ho
  exact tri_load_own k (got_of hi hm) hd (sub_r e) _ (fun x hx => (rgt_of x).symm.trans (congrArg rgt hx)) h

/-- The rows of a landing half the device's own tile sits in. -/
theorem tri_rows {R : sProp 𝕄} {Q : α → sProp 𝕄} (b : Fin 2) (u : ℕ) (hu : u ≤ 64) (k : K) (v : Vec F S128x256 .f32) {m' : ℕ} (hi : In c m' k) (hm : m' < n) {m : Memref sig .tc .vmem S3x2x128x256 .f32}
    (hd : dHas X W k c = owns (c : Thread nD τ) (M32 m 2 b) fullShare v)
    {o : Fin 4 → ℕ} {h1 : ∀ a, o a + S1x1x64x256.size a ≤ S3x2x128x256.size a} (ho : o = ![2, b.val, u, 0])
    {hl : m.view.LoadsAt (Rect.unit (s := S3x2x128x256) o S1x1x64x256.size h1).toLoadRect} {kk : Vec F S1x1x64x256 .f32 → Prog (TpuEff nD τ sig (Elt F) Λ₀ .tc) α}
    (h : Tri X W KI c n R (kk (rows u hu (u32 v))) Q) :
    Tri X W KI c n R (Prog.lift (.load m (Rect.unit (s := S3x2x128x256) o S1x1x64x256.size h1).toLoadRect hl) >>= kk) Q := by
  subst ho
  refine tri_load_own k (got_of hi hm) hd (unit_sub (fun a => ?_) (fun a => ?_)) _ (fun x hx => ?_) h
  · fin_cases a
    · exact le_rfl
    · exact le_rfl
    · exact Nat.zero_le _
    · exact le_rfl
  · fin_cases a
    · exact le_rfl
    · exact le_rfl
    · show u + 64 ≤ 0 + 128; omega
    · exact le_rfl
  · refine Eq.trans ?_ (congrArg (rows u hu) hx)
    refine funext fun i => congrArg x (funext fun a => Fin.ext ?_)
    fin_cases a
    · rfl
    · rfl
    · show u + 1 * (i 2).val = 0 + 1 * (u + (i 2).val); omega
    · rfl

/-- The two stores into a staging slot of `a2`, -/
theorem tri_a2_l {R : sProp 𝕄} {Q : α → sProp 𝕄} (e : Fin 3) {o : Fin 3 → ℕ} {h1 : ∀ a, o a + S1x64x256.size a ≤ S3x64x512.size a} (hn : n = 72 + 7 * e.val) (ho : o = ![e.val, 0, 0])
    {pay : Vec F S1x64x256 .f32} (hv : La2 X W e c = pay)
    {hx : ((Memref.whole cc0_scratch13 : Memref sig .tc .vmem S3x64x512 .f32).access (Rect.unit (s := S3x64x512) o S1x64x256.size h1)).Stores Finset.univ}
    {hm : (Finset.univ : Finset (Rect.unit (s := S3x64x512) o S1x64x256.size h1).shape.Idx) = Finset.univ ∨ ∀ a, (Rect.unit (s := S3x64x512) o S1x64x256.size h1).stride a = 1}
    {kk : PUnit → Prog (TpuEff nD τ sig (Elt F) Λ₀ .tc) α} (h : Tri X W KI c (n + 1) R (kk ⟨⟩) Q) :
    Tri X W KI c n R (Prog.lift (.store (Memref.whole cc0_scratch13) (Rect.unit (s := S3x64x512) o S1x64x256.size h1) pay Finset.univ hx hm) >>= kk) Q := by
  subst ho hn hv
  refine tri_store1 (.a2 e) (st_a2 c e).1 (r0 := R3 e) (hq := squeezes_S1x64x512_S64x512) rfl (sub_l e) (fun x hx => ?_) h
  show lft (u3 (sq squeezes_S1x64x512_S64x512 fun i => x ((R3 e).emb i))) = _
  rw [u3_sq, lft_of]; exact funext hx
theorem tri_a2_r {R : sProp 𝕄} {Q : α → sProp 𝕄} (e : Fin 3) {o : Fin 3 → ℕ} {h1 : ∀ a, o a + S1x64x256.size a ≤ S3x64x512.size a} (hn : n = 73 + 7 * e.val) (ho : o = ![e.val, 0, 256])
    {pay : Vec F S1x64x256 .f32} (hv : Ra2 X W e c = pay)
    {hx : ((Memref.whole cc0_scratch13 : Memref sig .tc .vmem S3x64x512 .f32).access (Rect.unit (s := S3x64x512) o S1x64x256.size h1)).Stores Finset.univ}
    {hm : (Finset.univ : Finset (Rect.unit (s := S3x64x512) o S1x64x256.size h1).shape.Idx) = Finset.univ ∨ ∀ a, (Rect.unit (s := S3x64x512) o S1x64x256.size h1).stride a = 1}
    {kk : PUnit → Prog (TpuEff nD τ sig (Elt F) Λ₀ .tc) α} (h : Tri X W KI c (n + 1) R (kk ⟨⟩) Q) :
    Tri X W KI c n R (Prog.lift (.store (Memref.whole cc0_scratch13) (Rect.unit (s := S3x64x512) o S1x64x256.size h1) pay Finset.univ hx hm) >>= kk) Q := by
  subst ho hn hv
  refine tri_store2 (.a2 e) rfl (st_a2 c e).2.1 (r0 := R3 e) (hq := squeezes_S1x64x512_S64x512) rfl (sub_r e) (fun x x' hL hR hoff => ?_) h
  have hL' : lft (u3 (sq squeezes_S1x64x512_S64x512 fun i => x ((R3 e).emb i))) = La2 X W e c := hL
  rw [u3_sq, lft_of] at hL'
  show _ = Va2 X W e c
  unfold Va2
  rw [← hL', ← (show (fun j => x' ((RR e).emb j)) = Ra2 X W e c from funext hR), ← rgt_of,
    show (fun j => x ((RL e).emb j)) = lft (F := F) fun i => x' ((R3 e).emb i) from by rw [lft_of]; exact funext fun j => (hoff _ (l_not_r j)).symm, cat_lft_rgt]
  rfl
/-- and of `b2`. -/
theorem tri_b2_l {R : sProp 𝕄} {Q : α → sProp 𝕄} (e : Fin 3) {o : Fin 3 → ℕ} {h1 : ∀ a, o a + S1x64x256.size a ≤ S3x64x512.size a} (hn : n = 93 + 3 * e.val) (ho : o = ![e.val, 0, 0])
    {pay : Vec F S1x64x256 .f32} (hv : Lb2 X W e c = pay)
    {hx : ((Memref.whole cc0_scratch15 : Memref sig .tc .vmem S3x64x512 .f32).access (Rect.unit (s := S3x64x512) o S1x64x256.size h1)).Stores Finset.univ}
    {hm : (Finset.univ : Finset (Rect.unit (s := S3x64x512) o S1x64x256.size h1).shape.Idx) = Finset.univ ∨ ∀ a, (Rect.unit (s := S3x64x512) o S1x64x256.size h1).stride a = 1}
    {kk : PUnit → Prog (TpuEff nD τ sig (Elt F) Λ₀ .tc) α} (h : Tri X W KI c (n + 1) R (kk ⟨⟩) Q) :
    Tri X W KI c n R (Prog.lift (.store (Memref.whole cc0_scratch15) (Rect.unit (s := S3x64x512) o S1x64x256.size h1) pay Finset.univ hx hm) >>= kk) Q := by
  subst ho hn hv
  refine tri_store1 (.b2 e) (st_b2 c e).1 (r0 := R3 e) (hq := squeezes_S1x64x512_S64x512) rfl (sub_l e) (fun x hx => ?_) h
  show lft (u3 (sq squeezes_S1x64x512_S64x512 fun i => x ((R3 e).emb i))) = _
  rw [u3_sq, lft_of]; exact funext hx
theorem tri_b2_r {R : sProp 𝕄} {Q : α → sProp 𝕄} (e : Fin 3) {o : Fin 3 → ℕ} {h1 : ∀ a, o a + S1x64x256.size a ≤ S3x64x512.size a} (hn : n = 94 + 3 * e.val) (ho : o = ![e.val, 0, 256])
    {pay : Vec F S1x64x256 .f32} (hv : Rb2 X W e c = pay)
    {hx : ((Memref.whole cc0_scratch15 : Memref sig .tc .vmem S3x64x512 .f32).access (Rect.unit (s := S3x64x512) o S1x64x256.size h1)).Stores Finset.univ}
    {hm : (Finset.univ : Finset (Rect.unit (s := S3x64x512) o S1x64x256.size h1).shape.Idx) = Finset.univ ∨ ∀ a, (Rect.unit (s := S3x64x512) o S1x64x256.size h1).stride a = 1}
    {kk : PUnit → Prog (TpuEff nD τ sig (Elt F) Λ₀ .tc) α} (h : Tri X W KI c (n + 1) R (kk ⟨⟩) Q) :
    Tri X W KI c n R (Prog.lift (.store (Memref.whole cc0_scratch15) (Rect.unit (s := S3x64x512) o S1x64x256.size h1) pay Finset.univ hx hm) >>= kk) Q := by
  subst ho hn hv
  refine tri_store2 (.b2 e) rfl (st_b2 c e).2.1 (r0 := R3 e) (hq := squeezes_S1x64x512_S64x512) rfl (sub_r e) (fun x x' hL hR hoff => ?_) h
  have hL' : lft (u3 (sq squeezes_S1x64x512_S64x512 fun i => x ((R3 e).emb i))) = Lb2 X W e c := hL
  rw [u3_sq, lft_of] at hL'
  show _ = Vb2 X W e c
  unfold Vb2
  rw [← hL', ← (show (fun j => x' ((RR e).emb j)) = Rb2 X W e c from funext hR), ← rgt_of,
    show (fun j => x ((RL e).emb j)) = lft (F := F) fun i => x' ((R3 e).emb i) from by rw [lft_of]; exact funext fun j => (hoff _ (l_not_r j)).symm, cat_lft_rgt]
  rfl

end

end Cert.Mesh

end
-- ==== Proof.PartsA.lean ====
/-
What each stretch of the program does: the first copies and the exchange across the square.
-/
module

public import proofs.«01_k».proof.Proof.Slots

@[expose] public section

set_option maxRecDepth 16384

noncomputable section

namespace Cert.Mesh

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

section

variable {X : Dev nD → Vec F S1024x64 .f32} {W : Dev nD → Vec F S64x1024 .f32} {KI : Dev nD × CI → ℕ} {c : Dev nD}

theorem part5 (a0 a1 a2 a3 a4 a5) : Spec X W KI c 0 2 (onArgs (k0_part5 (F := F)) c a0 a1 a2 a3 a4 a5) fun _ => True := fun R => by
  rw [k0_part5_eq_skeleton]
  unfold k0_part5_skel
  refine tri_send (.x1 0 (slot c 0)) (out_x1 c 0 0) (dev_eq (devs_x c).1) (part_congr (off3_eq c 0)) (slot_congr' (off2_eq c 0)) (sem24 0 (slot c 0) (off1_eq c 0) (ent_x1s _ _)) (sem24 0 (slot c 0) (off1_eq c 0) (ent_x1r _ _)) ?_
  refine tri_send (.y1 0 (slot c 0)) (out_y1 c 0 0) (dev_eq (devs_y c).1) (part_congr (off4_eq c 0)) (slot_congr' (off2_eq c 0)) (sem24 0 (slot c 0) (off1_eq c 0) (ent_y1s _ _)) (sem24 0 (slot c 0) (off1_eq c 0) (ent_y1r _ _)) ?_
  exact tri_pure trivial

theorem part6 (a0 a1 a2 a3 a4) : Spec X W KI c 2 3 (onArgs (k0_part6 (F := F)) c a0 a1 a2 a3 a4) fun _ => True := fun R => by
  rw [k0_part6_eq_skeleton]
  unfold k0_part6_skel
  refine tri_send (.x1 0 (slot c 1)) (out_x1 c 0 1) (dev_eq (devs_x c).2.1) (part_congr (off3_eq c 1)) (slot_congr' (off2_eq c 1)) (sem24 0 (slot c 1) (off1_eq c 1) (ent_x1s _ _)) (sem24 0 (slot c 1) (off1_eq c 1) (ent_x1r _ _)) ?_
  exact tri_pure trivial

theorem part7 (a0 a1 a2 a3) : Spec X W KI c 3 5 (onArgs (k0_part7 (F := F)) c a0 a1 a2 a3) fun _ => True := fun R => by
  rw [k0_part7_eq_skeleton]
  unfold k0_part7_skel
  refine tri_send (.y1 0 (slot c 1)) (out_y1 c 0 1) (dev_eq (devs_y c).2.1) (part_congr (off4_eq c 1)) (slot_congr' (off2_eq c 1)) (sem24 0 (slot c 1) (off1_eq c 1) (ent_y1s _ _)) (sem24 0 (slot c 1) (off1_eq c 1) (ent_y1r _ _)) ?_
  refine tri_send (.x1 0 (slot c 2)) (out_x1 c 0 2) (dev_eq (devs_x c).2.2.1) (part_congr (off3_eq c 2)) (slot_congr' (off2_eq c 2)) (sem24 0 (slot c 2) (off1_eq c 2) (ent_x1s _ _)) (sem24 0 (slot c 2) (off1_eq c 2) (ent_x1r _ _)) ?_
  exact tri_pure trivial

theorem part8 (a0 a1 a2) : Spec X W KI c 5 7 (onArgs (k0_part8 (F := F)) c a0 a1 a2) fun _ => True := fun R => by
  rw [k0_part8_eq_skeleton]
  unfold k0_part8_skel
  refine tri_send (.y1 0 (slot c 2)) (out_y1 c 0 2) (dev_eq (devs_y c).2.2.1) (part_congr (off4_eq c 2)) (slot_congr' (off2_eq c 2)) (sem24 0 (slot c 2) (off1_eq c 2) (ent_y1s _ _)) (sem24 0 (slot c 2) (off1_eq c 2) (ent_y1r _ _)) ?_
  refine tri_send (.x1 0 (slot c 3)) (out_x1 c 0 3) (dev_eq (devs_x c).2.2.2.1) (part_congr (off3_eq c 3)) (slot_congr' (off2_eq c 3)) (sem24 0 (slot c 3) (off1_eq c 3) (ent_x1s _ _)) (sem24 0 (slot c 3) (off1_eq c 3) (ent_x1r _ _)) ?_
  exact tri_pure trivial

theorem part9 (a0 a1 a2 a3 a4) : Spec X W KI c 7 8 (onArgs (k0_part9 (F := F)) c a0 a1 a2 a3 a4) fun _ => True := fun R => by
  rw [k0_part9_eq_skeleton]
  unfold k0_part9_skel
  refine tri_send (.y1 0 (slot c 3)) (out_y1 c 0 3) (dev_eq (devs_y c).2.2.2.1) (part_congr (off4_eq c 3)) (slot_congr' (off2_eq c 3)) (sem24 0 (slot c 3) (off1_eq c 3) (ent_y1s _ _)) (sem24 0 (slot c 3) (off1_eq c 3) (ent_y1r _ _)) ?_
  exact tri_pure trivial

theorem part10 (a0 a1 a2 a3 a4) : Spec X W KI c 8 10 (onArgs (k0_part10 (F := F)) c a0 a1 a2 a3 a4) fun _ => True := fun R => by
  rw [k0_part10_eq_skeleton]
  unfold k0_part10_skel
  refine tri_send (.x1 1 (slot c 0)) (out_x1 c 1 0) (dev_eq (devs_x c).2.2.2.2.1) (part_congr (off7_eq c 0)) (slot_congr' (off6_eq c 0)) (sem24 1 (slot c 0) (off5_eq c 0) (ent_x1s _ _)) (sem24 1 (slot c 0) (off5_eq c 0) (ent_x1r _ _)) ?_
  refine tri_send (.y1 1 (slot c 0)) (out_y1 c 1 0) (dev_eq (devs_y c).2.2.2.2.1) (part_congr (off8_eq c 0)) (slot_congr' (off6_eq c 0)) (sem24 1 (slot c 0) (off5_eq c 0) (ent_y1s _ _)) (sem24 1 (slot c 0) (off5_eq c 0) (ent_y1r _ _)) ?_
  exact tri_pure trivial

theorem part11 (a0 a1 a2 a3) : Spec X W KI c 10 12 (onArgs (k0_part11 (F := F)) c a0 a1 a2 a3) fun _ => True := fun R => by
  rw [k0_part11_eq_skeleton]
  unfold k0_part11_skel
  refine tri_send (.x1 1 (slot c 1)) (out_x1 c 1 1) (dev_eq (devs_x c).2.2.2.2.2.1) (part_congr (off7_eq c 1)) (slot_congr' (off6_eq c 1)) (sem24 1 (slot c 1) (off5_eq c 1) (ent_x1s _ _)) (sem24 1 (slot c 1) (off5_eq c 1) (ent_x1r _ _)) ?_
  refine tri_send (.y1 1 (slot c 1)) (out_y1 c 1 1) (dev_eq (devs_y c).2.2.2.2.2.1) (part_congr (off8_eq c 1)) (slot_congr' (off6_eq c 1)) (sem24 1 (slot c 1) (off5_eq c 1) (ent_y1s _ _)) (sem24 1 (slot c 1) (off5_eq c 1) (ent_y1r _ _)) ?_
  exact tri_pure trivial

theorem part12 (a0 a1 a2 a3) : Spec X W KI c 12 14 (onArgs (k0_part12 (F := F)) c a0 a1 a2 a3) fun _ => True := fun R => by
  rw [k0_part12_eq_skeleton]
  unfold k0_part12_skel
  refine tri_send (.x1 1 (slot c 2)) (out_x1 c 1 2) (dev_eq (devs_x c).2.2.2.2.2.2.1) (part_congr (off7_eq c 2)) (slot_congr' (off6_eq c 2)) (sem24 1 (slot c 2) (off5_eq c 2) (ent_x1s _ _)) (sem24 1 (slot c 2) (off5_eq c 2) (ent_x1r _ _)) ?_
  refine tri_send (.y1 1 (slot c 2)) (out_y1 c 1 2) (dev_eq (devs_y c).2.2.2.2.2.2.1) (part_congr (off8_eq c 2)) (slot_congr' (off6_eq c 2)) (sem24 1 (slot c 2) (off5_eq c 2) (ent_y1s _ _)) (sem24 1 (slot c 2) (off5_eq c 2) (ent_y1r _ _)) ?_
  exact tri_pure trivial

theorem part13 (a0 a1 a2 a3 a4) : Spec X W KI c 14 16 (onArgs (k0_part13 (F := F)) c a0 a1 a2 a3 a4) fun _ => True := fun R => by
  rw [k0_part13_eq_skeleton]
  unfold k0_part13_skel
  refine tri_send (.x1 1 (slot c 3)) (out_x1 c 1 3) (dev_eq (devs_x c).2.2.2.2.2.2.2) (part_congr (off7_eq c 3)) (slot_congr' (off6_eq c 3)) (sem24 1 (slot c 3) (off5_eq c 3) (ent_x1s _ _)) (sem24 1 (slot c 3) (off5_eq c 3) (ent_x1r _ _)) ?_
  refine tri_send (.y1 1 (slot c 3)) (out_y1 c 1 3) (dev_eq (devs_y c).2.2.2.2.2.2.2) (part_congr (off8_eq c 3)) (slot_congr' (off6_eq c 3)) (sem24 1 (slot c 3) (off5_eq c 3) (ent_y1s _ _)) (sem24 1 (slot c 3) (off5_eq c 3) (ent_y1r _ _)) ?_
  exact tri_pure trivial

theorem part14 (a0 a1 a2 a3 a4) : Spec X W KI c 16 17 (onArgs (k0_part14 (F := F)) c a0 a1 a2 a3 a4) fun _ => True := fun R => by
  rw [k0_part14_eq_skeleton]
  unfold k0_part14_skel
  refine tri_send (.bu 0 0) (out_bu0 c 0) (dev_eq (devs_u c).1) (part_congr (off9_eq c 0)) rfl (sem32 0 0 rfl (ent_bus _ _)) (sem32 0 0 rfl (ent_bur _ _)) ?_
  exact tri_pure trivial

theorem part15 (a0 a1 a2 a3) : Spec X W KI c 17 19 (onArgs (k0_part15 (F := F)) c a0 a1 a2 a3) fun _ => True := fun R => by
  rw [k0_part15_eq_skeleton]
  unfold k0_part15_skel
  refine tri_send (.bd 0 0) (out_bd0 c 0) (dev_eq (devs_d c).1) (part_congr (off10_eq c 0)) rfl (sem32 0 0 rfl (ent_bds _ _)) (sem32 0 0 rfl (ent_bdr _ _)) ?_
  refine tri_send (.bu 0 1) (out_bu0 c 1) (dev_eq (devs_u c).2.1) (part_congr (off9_eq c 1)) rfl (sem32 0 1 rfl (ent_bus _ _)) (sem32 0 1 rfl (ent_bur _ _)) ?_
  exact tri_pure trivial

theorem part16 (a0 a1 a2) : Spec X W KI c 19 21 (onArgs (k0_part16 (F := F)) c a0 a1 a2) fun a => a.2 = (PT X W c (slot c 0) (yq (qOf c)) 0) := fun R => by
  rw [k0_part16_eq_skeleton]
  unfold k0_part16_skel
  refine tri_send (.bd 0 1) (out_bd0 c 1) (dev_eq (devs_d c).2.1) (part_congr (off10_eq c 1)) rfl (sem32 0 1 rfl (ent_bds _ _)) (sem32 0 1 rfl (ent_bdr _ _)) ?_
  refine tri_recv (.x1 0 (slot c 0)) (in_x1 c 0) (sem24 0 (slot c 0) (off1_eq c 0) (ent_x1r _ _)) rfl ?_
  refine tri_PT (hc := by decide) (slot c 0) (yq (qOf c)) 0 (off11_eq c 0) ?_
  exact tri_pure rfl

theorem part17 (a0 a1 a2) : Spec X W KI c 21 24 (onArgs (k0_part17 (F := F)) c a0 a1 a2 (PT X W c (slot c 0) (yq (qOf c)) 0)) fun a => a = (PT X W c (slot c 0) (xq (qOf c)) 256) := fun R => by
  rw [k0_part17_eq_skeleton]
  unfold k0_part17_skel
  refine tri_load_all (hq := squeezes_S1x1x64x256_S64x256) (.x1 0 (slot c 0)) (in_x1 c 0) (by decide) (slot_congr (off12_eq c 0)) ?_
  refine tri_dead (hq := squeezes_S1x64x256_S64x256) (.x2 (slot c 0)) (.inl (st_x2 c 0).1) (slot_congr (off13_eq c 0)) (fun _ h => h) fun _ => ?_
  refine tri_store (hq := squeezes_S1x64x256_S64x256) (.x2 (slot c 0)) rfl (st_x2 c 0) (slot_congr (off13_eq c 0)) rfl ?_
  refine tri_send (.x2 (slot c 0)) (out_x2 c 0) (dev_eq (devs_2 c).1) (slot_congr' (off15_eq c 0)) (slot_congr' (off15_eq c 0)) (sem4 (slot c 0) (off14_eq c 0) (ent_x2s _)) (sem4 (slot c 0) (off14_eq c 0) (ent_x2r _)) ?_
  refine tri_recv (.y1 0 (slot c 0)) (in_y1 c 0) (sem24 0 (slot c 0) (off1_eq c 0) (ent_y1r _ _)) rfl ?_
  refine tri_PT (hc := by decide) (slot c 0) (xq (qOf c)) 256 (off16_eq c 0) ?_
  exact tri_pure rfl

theorem part18 (a0 a1 a2) : Spec X W KI c 24 26 (onArgs (k0_part18 (F := F)) c a0 a1 a2 (PT X W c (slot c 0) (xq (qOf c)) 256)) fun _ => True := fun R => by
  rw [k0_part18_eq_skeleton]
  unfold k0_part18_skel
  refine tri_load_all (hq := squeezes_S1x1x64x256_S64x256) (.y1 0 (slot c 0)) (in_y1 c 0) (by decide) (slot_congr (off12_eq c 0)) ?_
  refine tri_dead (hq := squeezes_S1x64x256_S64x256) (.y2 (slot c 0)) (.inl (st_y2 c 0).1) (slot_congr (off13_eq c 0)) (fun _ h => h) fun _ => ?_
  refine tri_store (hq := squeezes_S1x64x256_S64x256) (.y2 (slot c 0)) rfl (st_y2 c 0) (slot_congr (off13_eq c 0)) rfl ?_
  refine tri_send (.y2 (slot c 0)) (out_y2 c 0) (dev_eq (devs_2 c).2.2.2.2.1) (slot_congr' (off15_eq c 0)) (slot_congr' (off15_eq c 0)) (sem4 (slot c 0) (off14_eq c 0) (ent_y2s _)) (sem4 (slot c 0) (off14_eq c 0) (ent_y2r _)) ?_
  exact tri_pure trivial

theorem part19 (a0 a1 a2) : Spec X W KI c 26 29 (onArgs (k0_part19 (F := F)) c a0 a1 a2) fun _ => True := fun R => by
  rw [k0_part19_eq_skeleton]
  unfold k0_part19_skel
  refine tri_recv (.x1 0 (slot c 1)) (in_x1 c 1) (sem24 0 (slot c 1) (off1_eq c 1) (ent_x1r _ _)) rfl ?_
  refine tri_PT (hc := by decide) (slot c 1) (yq (qOf c)) 0 (off11_eq c 1) ?_
  refine tri_load_all (hq := squeezes_S1x1x64x256_S64x256) (.x1 0 (slot c 1)) (in_x1 c 1) (by decide) (slot_congr (off12_eq c 1)) ?_
  refine tri_dead (hq := squeezes_S1x64x256_S64x256) (.x2 (slot c 1)) (.inl (st_x2 c 1).1) (slot_congr (off13_eq c 1)) (fun _ h => h) fun _ => ?_
  refine tri_store (hq := squeezes_S1x64x256_S64x256) (.x2 (slot c 1)) rfl (st_x2 c 1) (slot_congr (off13_eq c 1)) rfl ?_
  refine tri_send (.x2 (slot c 1)) (out_x2 c 1) (dev_eq (devs_2 c).2.1) (slot_congr' (off15_eq c 1)) (slot_congr' (off15_eq c 1)) (sem4 (slot c 1) (off14_eq c 1) (ent_x2s _)) (sem4 (slot c 1) (off14_eq c 1) (ent_x2r _)) ?_
  exact tri_pure trivial

theorem part20 (a0 a1 a2 a3) : Spec X W KI c 29 32 (onArgs (k0_part20 (F := F)) c a0 a1 a2 a3) fun _ => True := fun R => by
  rw [k0_part20_eq_skeleton]
  unfold k0_part20_skel
  refine tri_recv (.y1 0 (slot c 1)) (in_y1 c 1) (sem24 0 (slot c 1) (off1_eq c 1) (ent_y1r _ _)) rfl ?_
  refine tri_PT (hc := by decide) (slot c 1) (xq (qOf c)) 256 (off16_eq c 1) ?_
  refine tri_load_all (hq := squeezes_S1x1x64x256_S64x256) (.y1 0 (slot c 1)) (in_y1 c 1) (by decide) (slot_congr (off12_eq c 1)) ?_
  refine tri_dead (hq := squeezes_S1x64x256_S64x256) (.y2 (slot c 1)) (.inl (st_y2 c 1).1) (slot_congr (off13_eq c 1)) (fun _ h => h) fun _ => ?_
  refine tri_store (hq := squeezes_S1x64x256_S64x256) (.y2 (slot c 1)) rfl (st_y2 c 1) (slot_congr (off13_eq c 1)) rfl ?_
  refine tri_send (.y2 (slot c 1)) (out_y2 c 1) (dev_eq (devs_2 c).2.2.2.2.2.1) (slot_congr' (off15_eq c 1)) (slot_congr' (off15_eq c 1)) (sem4 (slot c 1) (off14_eq c 1) (ent_y2s _)) (sem4 (slot c 1) (off14_eq c 1) (ent_y2r _)) ?_
  exact tri_pure trivial

theorem part21 (a0 a1 a2 a3 a4 a5 a6) : Spec X W KI c 32 34 (onArgs (k0_part21 (F := F)) c a0 a1 a2 a3 a4 a5 a6) fun _ => True := fun R => by
  rw [k0_part21_eq_skeleton]
  unfold k0_part21_skel
  refine tri_recv (.x1 0 (slot c 2)) (in_x1 c 2) (sem24 0 (slot c 2) (off1_eq c 2) (ent_x1r _ _)) rfl ?_
  refine tri_PT (hc := by decide) (slot c 2) (yq (qOf c)) 0 (off11_eq c 2) ?_
  refine tri_load_all (hq := squeezes_S1x1x64x256_S64x256) (.x1 0 (slot c 2)) (in_x1 c 2) (by decide) (slot_congr (off12_eq c 2)) ?_
  refine tri_dead (hq := squeezes_S1x64x256_S64x256) (.x2 (slot c 2)) (.inl (st_x2 c 2).1) (slot_congr (off13_eq c 2)) (fun _ h => h) fun _ => ?_
  refine tri_store (hq := squeezes_S1x64x256_S64x256) (.x2 (slot c 2)) rfl (st_x2 c 2) (slot_congr (off13_eq c 2)) rfl ?_
  exact tri_pure trivial

theorem part22 (a0 a1 a2 a3) : Spec X W KI c 34 38 (onArgs (k0_part22 (F := F)) c a0 a1 a2 a3) fun _ => True := fun R => by
  rw [k0_part22_eq_skeleton]
  unfold k0_part22_skel
  refine tri_send (.x2 (slot c 2)) (out_x2 c 2) (dev_eq (devs_2 c).2.2.1) (slot_congr' (off15_eq c 2)) (slot_congr' (off15_eq c 2)) (sem4 (slot c 2) (off14_eq c 2) (ent_x2s _)) (sem4 (slot c 2) (off14_eq c 2) (ent_x2r _)) ?_
  refine tri_recv (.y1 0 (slot c 2)) (in_y1 c 2) (sem24 0 (slot c 2) (off1_eq c 2) (ent_y1r _ _)) rfl ?_
  refine tri_PT (hc := by decide) (slot c 2) (xq (qOf c)) 256 (off16_eq c 2) ?_
  refine tri_load_all (hq := squeezes_S1x1x64x256_S64x256) (.y1 0 (slot c 2)) (in_y1 c 2) (by decide) (slot_congr (off12_eq c 2)) ?_
  refine tri_dead (hq := squeezes_S1x64x256_S64x256) (.y2 (slot c 2)) (.inl (st_y2 c 2).1) (slot_congr (off13_eq c 2)) (fun _ h => h) fun _ => ?_
  refine tri_store (hq := squeezes_S1x64x256_S64x256) (.y2 (slot c 2)) rfl (st_y2 c 2) (slot_congr (off13_eq c 2)) rfl ?_
  refine tri_send (.y2 (slot c 2)) (out_y2 c 2) (dev_eq (devs_2 c).2.2.2.2.2.2.1) (slot_congr' (off15_eq c 2)) (slot_congr' (off15_eq c 2)) (sem4 (slot c 2) (off14_eq c 2) (ent_y2s _)) (sem4 (slot c 2) (off14_eq c 2) (ent_y2r _)) ?_
  exact tri_pure trivial

theorem part23 (a0 a1 a2 a3) : Spec X W KI c 38 40 (onArgs (k0_part23 (F := F)) c a0 a1 a2 a3) fun _ => True := fun R => by
  rw [k0_part23_eq_skeleton]
  unfold k0_part23_skel
  refine tri_recv (.x1 0 (slot c 3)) (in_x1 c 3) (sem24 0 (slot c 3) (off1_eq c 3) (ent_x1r _ _)) rfl ?_
  refine tri_PT (hc := by decide) (slot c 3) (yq (qOf c)) 0 (off11_eq c 3) ?_
  refine tri_load_all (hq := squeezes_S1x1x64x256_S64x256) (.x1 0 (slot c 3)) (in_x1 c 3) (by decide) (slot_congr (off12_eq c 3)) ?_
  refine tri_dead (hq := squeezes_S1x64x256_S64x256) (.x2 (slot c 3)) (.inl (st_x2 c 3).1) (slot_congr (off13_eq c 3)) (fun _ h => h) fun _ => ?_
  refine tri_store (hq := squeezes_S1x64x256_S64x256) (.x2 (slot c 3)) rfl (st_x2 c 3) (slot_congr (off13_eq c 3)) rfl ?_
  exact tri_pure trivial

theorem part24 (a0 a1 a2 a3) : Spec X W KI c 40 43 (onArgs (k0_part24 (F := F)) c a0 a1 a2 a3) fun _ => True := fun R => by
  rw [k0_part24_eq_skeleton]
  unfold k0_part24_skel
  refine tri_send (.x2 (slot c 3)) (out_x2 c 3) (dev_eq (devs_2 c).2.2.2.1) (slot_congr' (off15_eq c 3)) (slot_congr' (off15_eq c 3)) (sem4 (slot c 3) (off14_eq c 3) (ent_x2s _)) (sem4 (slot c 3) (off14_eq c 3) (ent_x2r _)) ?_
  refine tri_recv (.y1 0 (slot c 3)) (in_y1 c 3) (sem24 0 (slot c 3) (off1_eq c 3) (ent_y1r _ _)) rfl ?_
  refine tri_PT (hc := by decide) (slot c 3) (xq (qOf c)) 256 (off16_eq c 3) ?_
  refine tri_load_all (hq := squeezes_S1x1x64x256_S64x256) (.y1 0 (slot c 3)) (in_y1 c 3) (by decide) (slot_congr (off12_eq c 3)) ?_
  refine tri_dead (hq := squeezes_S1x64x256_S64x256) (.y2 (slot c 3)) (.inl (st_y2 c 3).1) (slot_congr (off13_eq c 3)) (fun _ h => h) fun _ => ?_
  refine tri_store (hq := squeezes_S1x64x256_S64x256) (.y2 (slot c 3)) rfl (st_y2 c 3) (slot_congr (off13_eq c 3)) rfl ?_
  exact tri_pure trivial

theorem part25 (a0 a1) : Spec X W KI c 43 44 (onArgs (k0_part25 (F := F)) c a0 a1) fun _ => True := fun R => by
  rw [k0_part25_eq_skeleton]
  unfold k0_part25_skel
  refine tri_send (.y2 (slot c 3)) (out_y2 c 3) (dev_eq (devs_2 c).2.2.2.2.2.2.2) (slot_congr' (off15_eq c 3)) (slot_congr' (off15_eq c 3)) (sem4 (slot c 3) (off14_eq c 3) (ent_y2s _)) (sem4 (slot c 3) (off14_eq c 3) (ent_y2r _)) ?_
  exact tri_pure trivial

end

end Cert.Mesh

end
-- ==== Proof.PartsB.lean ====
/-
What each stretch of the program does: the column rings and the first sums dealt out.
-/
module

public import proofs.«01_k».proof.Proof.Slots

@[expose] public section

set_option maxRecDepth 16384

noncomputable section

namespace Cert.Mesh

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

section

variable {X : Dev nD → Vec F S1024x64 .f32} {W : Dev nD → Vec F S64x1024 .f32} {KI : Dev nD × CI → ℕ} {c : Dev nD}

theorem part26 (a0 a1 a2 a3 a4 a5 a6) : Spec X W KI c 44 45 (onArgs (k0_part26 (F := F)) a0 a1 a2 a3 a4 a5 a6) fun _ => True := fun R => by
  rw [k0_part26_eq_skeleton]
  unfold k0_part26_skel
  refine tri_recv (.bu 0 0) (in_bu c 0 0) (sem32 0 0 rfl (ent_bur _ _)) rfl ?_
  exact tri_pure trivial

theorem part27 (a0 a1 a2) : Spec X W KI c 45 48 (onArgs (k0_part27 (F := F)) c a0 a1 a2) fun _ => True := fun R => by
  rw [k0_part27_eq_skeleton]
  unfold k0_part27_skel
  refine tri_recv (.bd 0 0) (in_bd c 0 0) (sem32 0 0 rfl (ent_bdr _ _)) rfl ?_
  refine tri_PH (hc := by decide) (upz 0 (zOf c)) 0 512 (off17_eq c 0 0) ?_
  refine tri_load_all (hq := squeezes_S1x1x128x256_S128x256) (.bu 0 0) (in_bu c 0 0) (by decide) rfl ?_
  refine tri_dead (hq := squeezes_S1x1x128x256_S128x256) (.bu 1 0) (.inl (st_bu c 0 0).1) rfl (fun _ h => h) fun _ => ?_
  refine tri_store (hq := squeezes_S1x1x128x256_S128x256) (.bu 1 0) rfl (st_bu c 0 0) rfl rfl ?_
  refine tri_PH (hc := by decide) (dnz 0 (zOf c)) 0 768 (off18_eq c 0 0) ?_
  refine tri_load_all (hq := squeezes_S1x1x128x256_S128x256) (.bd 0 0) (in_bd c 0 0) (by decide) rfl ?_
  refine tri_dead (hq := squeezes_S1x1x128x256_S128x256) (.bd 1 0) (.inl (st_bd c 0 0).1) rfl (fun _ h => h) fun _ => ?_
  refine tri_store (hq := squeezes_S1x1x128x256_S128x256) (.bd 1 0) rfl (st_bd c 0 0) rfl rfl ?_
  exact tri_pure trivial

theorem part28 (a0 a1 a2 a3) : Spec X W KI c 48 50 (onArgs (k0_part28 (F := F)) c a0 a1 a2 a3) fun _ => True := fun R => by
  rw [k0_part28_eq_skeleton]
  unfold k0_part28_skel
  refine tri_send (.bu 1 0) (out_bu c 0 0) (dev_eq (devs_u c).2.2.1) rfl rfl (sem32 1 0 rfl (ent_bus _ _)) (sem32 1 0 rfl (ent_bur _ _)) ?_
  refine tri_send (.bd 1 0) (out_bd c 0 0) (dev_eq (devs_d c).2.2.1) rfl rfl (sem32 1 0 rfl (ent_bds _ _)) (sem32 1 0 rfl (ent_bdr _ _)) ?_
  exact tri_pure trivial

theorem part29 (a0 a1 a2) : Spec X W KI c 50 53 (onArgs (k0_part29 (F := F)) c a0 a1 a2) fun a => a = Sbd1 X W 1 c := fun R => by
  rw [k0_part29_eq_skeleton]
  unfold k0_part29_skel
  refine tri_recv (.bu 0 1) (in_bu c 0 1) (sem32 0 1 rfl (ent_bur _ _)) rfl ?_
  refine tri_recv (.bd 0 1) (in_bd c 0 1) (sem32 0 1 rfl (ent_bdr _ _)) rfl ?_
  refine tri_PH (hc := by decide) (upz 0 (zOf c)) 1 512 (off17_eq c 0 1) ?_
  refine tri_load_all (hq := squeezes_S1x1x128x256_S128x256) (.bu 0 1) (in_bu c 0 1) (by decide) rfl ?_
  refine tri_dead (hq := squeezes_S1x1x128x256_S128x256) (.bu 1 1) (.inl (st_bu c 0 1).1) rfl (fun _ h => h) fun _ => ?_
  refine tri_store (hq := squeezes_S1x1x128x256_S128x256) (.bu 1 1) rfl (st_bu c 0 1) rfl rfl ?_
  refine tri_PH (hc := by decide) (dnz 0 (zOf c)) 1 768 (off18_eq c 0 1) ?_
  refine tri_load_all (hq := squeezes_S1x1x128x256_S128x256) (.bd 0 1) (in_bd c 0 1) (by decide) rfl ?_
  refine tri_dead (hq := squeezes_S1x1x128x256_S128x256) (.bd 1 1) (.inl (st_bd c 0 1).1) rfl (fun _ h => h) fun _ => ?_
  exact tri_pure rfl

theorem part30 (a0 a1 a2) : Spec X W KI c 53 56 (onArgs (k0_part30 (F := F)) c a0 a1 a2 (Sbd1 X W 1 c)) fun _ => True := fun R => by
  rw [k0_part30_eq_skeleton]
  unfold k0_part30_skel
  refine tri_store (hq := squeezes_S1x1x128x256_S128x256) (.bd 1 1) rfl (st_bd c 0 1) rfl rfl ?_
  refine tri_send (.bu 1 1) (out_bu c 0 1) (dev_eq (devs_u c).2.2.2.1) rfl rfl (sem32 1 1 rfl (ent_bus _ _)) (sem32 1 1 rfl (ent_bur _ _)) ?_
  refine tri_send (.bd 1 1) (out_bd c 0 1) (dev_eq (devs_d c).2.2.2.1) rfl rfl (sem32 1 1 rfl (ent_bds _ _)) (sem32 1 1 rfl (ent_bdr _ _)) ?_
  exact tri_pure trivial

theorem part31 (a0 a1 a2) : Spec X W KI c 56 56 (onArgs (k0_part31 (F := F)) a0 a1 a2) fun _ => True := fun R => by
  rw [k0_part31_eq_skeleton]
  unfold k0_part31_skel

  exact tri_pure trivial

theorem part32 (a0 a1 a2 a3) : Spec X W KI c 56 59 (onArgs (k0_part32 (F := F)) c a0 a1 a2 a3) fun _ => True := fun R => by
  rw [k0_part32_eq_skeleton]
  unfold k0_part32_skel
  refine tri_recv (.bu 1 0) (in_bu c 1 0) (sem32 1 0 rfl (ent_bur _ _)) rfl ?_
  refine tri_recv (.bd 1 0) (in_bd c 1 0) (sem32 1 0 rfl (ent_bdr _ _)) rfl ?_
  refine tri_PH (hc := by decide) (upz 1 (zOf c)) 0 512 (off17_eq c 1 0) ?_
  refine tri_load_all (hq := squeezes_S1x1x128x256_S128x256) (.bu 1 0) (in_bu c 1 0) (by decide) rfl ?_
  refine tri_dead (hq := squeezes_S1x1x128x256_S128x256) (.bu 2 0) (.inl (st_bu c 1 0).1) rfl (fun _ h => h) fun _ => ?_
  refine tri_store (hq := squeezes_S1x1x128x256_S128x256) (.bu 2 0) rfl (st_bu c 1 0) rfl rfl ?_
  exact tri_pure trivial

theorem part33 (a0 a1) : Spec X W KI c 59 61 (onArgs (k0_part33 (F := F)) c a0 a1) fun _ => True := fun R => by
  rw [k0_part33_eq_skeleton]
  unfold k0_part33_skel
  refine tri_PH (hc := by decide) (dnz 1 (zOf c)) 0 768 (off18_eq c 1 0) ?_
  refine tri_load_all (hq := squeezes_S1x1x128x256_S128x256) (.bd 1 0) (in_bd c 1 0) (by decide) rfl ?_
  refine tri_dead (hq := squeezes_S1x1x128x256_S128x256) (.bd 2 0) (.inl (st_bd c 1 0).1) rfl (fun _ h => h) fun _ => ?_
  refine tri_store (hq := squeezes_S1x1x128x256_S128x256) (.bd 2 0) rfl (st_bd c 1 0) rfl rfl ?_
  refine tri_send (.bu 2 0) (out_bu c 1 0) (dev_eq (devs_u c).2.2.2.2.1) rfl rfl (sem32 2 0 rfl (ent_bus _ _)) (sem32 2 0 rfl (ent_bur _ _)) ?_
  exact tri_pure trivial

theorem part34 (a0 a1 a2 a3) : Spec X W KI c 61 63 (onArgs (k0_part34 (F := F)) c a0 a1 a2 a3) fun _ => True := fun R => by
  rw [k0_part34_eq_skeleton]
  unfold k0_part34_skel
  refine tri_send (.bd 2 0) (out_bd c 1 0) (dev_eq (devs_d c).2.2.2.2.1) rfl rfl (sem32 2 0 rfl (ent_bds _ _)) (sem32 2 0 rfl (ent_bdr _ _)) ?_
  refine tri_recv (.bu 1 1) (in_bu c 1 1) (sem32 1 1 rfl (ent_bur _ _)) rfl ?_
  exact tri_pure trivial

theorem part35 (a0 a1 a2) : Spec X W KI c 63 66 (onArgs (k0_part35 (F := F)) c a0 a1 a2) fun _ => True := fun R => by
  rw [k0_part35_eq_skeleton]
  unfold k0_part35_skel
  refine tri_recv (.bd 1 1) (in_bd c 1 1) (sem32 1 1 rfl (ent_bdr _ _)) rfl ?_
  refine tri_PH (hc := by decide) (upz 1 (zOf c)) 1 512 (off17_eq c 1 1) ?_
  refine tri_load_all (hq := squeezes_S1x1x128x256_S128x256) (.bu 1 1) (in_bu c 1 1) (by decide) rfl ?_
  refine tri_dead (hq := squeezes_S1x1x128x256_S128x256) (.bu 2 1) (.inl (st_bu c 1 1).1) rfl (fun _ h => h) fun _ => ?_
  refine tri_store (hq := squeezes_S1x1x128x256_S128x256) (.bu 2 1) rfl (st_bu c 1 1) rfl rfl ?_
  refine tri_PH (hc := by decide) (dnz 1 (zOf c)) 1 768 (off18_eq c 1 1) ?_
  refine tri_load_all (hq := squeezes_S1x1x128x256_S128x256) (.bd 1 1) (in_bd c 1 1) (by decide) rfl ?_
  refine tri_dead (hq := squeezes_S1x1x128x256_S128x256) (.bd 2 1) (.inl (st_bd c 1 1).1) rfl (fun _ h => h) fun _ => ?_
  refine tri_store (hq := squeezes_S1x1x128x256_S128x256) (.bd 2 1) rfl (st_bd c 1 1) rfl rfl ?_
  exact tri_pure trivial

theorem part36 (a0 a1 a2) : Spec X W KI c 66 68 (onArgs (k0_part36 (F := F)) c a0 a1 a2) fun _ => True := fun R => by
  rw [k0_part36_eq_skeleton]
  unfold k0_part36_skel
  refine tri_send (.bu 2 1) (out_bu c 1 1) (dev_eq (devs_u c).2.2.2.2.2) rfl rfl (sem32 2 1 rfl (ent_bus _ _)) (sem32 2 1 rfl (ent_bur _ _)) ?_
  refine tri_send (.bd 2 1) (out_bd c 1 1) (dev_eq (devs_d c).2.2.2.2.2) rfl rfl (sem32 2 1 rfl (ent_bds _ _)) (sem32 2 1 rfl (ent_bdr _ _)) ?_
  exact tri_pure trivial

theorem part37 (a0 a1 a2 a3) : Spec X W KI c 68 72 (onArgs (k0_part37 (F := F)) c a0 a1 a2 a3) fun _ => True := fun R => by
  rw [k0_part37_eq_skeleton]
  unfold k0_part37_skel
  refine tri_recv (.x1 1 (slot c 0)) (in_a c 0).1 (sem24 1 (slot c 0) (off19_eq c 0) (ent_x1r _ _)) rfl ?_
  refine tri_recv (.y1 1 (slot c 0)) (in_a c 0).2.1 (sem24 1 (slot c 0) (off19_eq c 0) (ent_y1r _ _)) rfl ?_
  refine tri_recv (.x2 (slot c 0)) (in_a c 0).2.2.1 (sem4 (slot c 0) (off21_eq c 0) (ent_x2r _)) rfl ?_
  refine tri_recv (.y2 (slot c 0)) (in_a c 0).2.2.2 (sem4 (slot c 0) (off21_eq c 0) (ent_y2r _)) rfl ?_
  exact tri_pure trivial

theorem part38 (a0 a1 a2 a3) : Spec X W KI c 72 74 (onArgs (k0_part38 (F := F)) c a0 a1 a2 a3) fun _ => True := fun R => by
  rw [k0_part38_eq_skeleton]
  unfold k0_part38_skel
  refine tri_PT (hc := by decide) (slot c 0) (qOf c) 0 (off23_eq c 0) ?_
  refine tri_load_all (hq := squeezes_S1x1x64x256_S64x256) (.x1 1 (slot c 0)) (in_a c 0).1 (by decide) (slot_congr (off24_eq c 0)) ?_
  refine tri_load_all (hq := squeezes_S1x64x256_S64x256) (.x2 (slot c 0)) (in_a c 0).2.2.1 (by decide) (slot_congr (off25_eq c 0)) ?_
  refine tri_dead (.a2 0) (.inl (st_a2 c 0).1.1) (r0 := R3 0) (hq := squeezes_S1x64x512_S64x512) rfl (sub_l 0) fun _ => ?_
  refine tri_a2_l 0 rfl rfl rfl ?_
  refine tri_PT (hc := by decide) (slot c 0) (qOf c) 256 (off26_eq c 0) ?_
  refine tri_load_all (hq := squeezes_S1x1x64x256_S64x256) (.y1 1 (slot c 0)) (in_a c 0).2.1 (by decide) (slot_congr (off24_eq c 0)) ?_
  refine tri_load_all (hq := squeezes_S1x64x256_S64x256) (.y2 (slot c 0)) (in_a c 0).2.2.2 (by decide) (slot_congr (off25_eq c 0)) ?_
  refine tri_dead (.a2 0) (.inr (st_a2 c 0).2.1.1) (r0 := R3 0) (hq := squeezes_S1x64x512_S64x512) rfl (sub_r 0) fun _ => ?_
  refine tri_a2_r 0 rfl rfl rfl ?_
  exact tri_pure trivial

theorem part39 (a0 a1 a2) : Spec X W KI c 74 76 (onArgs (k0_part39 (F := F)) c a0 a1 a2) fun _ => True := fun R => by
  rw [k0_part39_eq_skeleton]
  unfold k0_part39_skel
  refine tri_send (.a2 0) (st_a2 c 0).2.2 (dev_eq (devs_ab c).1) rfl rfl (sem3 0 rfl (ent_a2s _)) (sem3 0 rfl (ent_a2r _)) ?_
  refine tri_recv (.x1 1 (slot c 1)) (in_a c 1).1 (sem24 1 (slot c 1) (off19_eq c 1) (ent_x1r _ _)) rfl ?_
  exact tri_pure trivial

theorem part40 (a0 a1 a2 a3) : Spec X W KI c 76 79 (onArgs (k0_part40 (F := F)) c a0 a1 a2 a3) fun a => a.2.2 = (k0_pay21 (PT X W c (slot c 1) (qOf c) 0) (u24 (rV X W (.x1 1 (slot c 1)) c)) (u4 (rV X W (.x2 (slot c 1)) c))) := fun R => by
  rw [k0_part40_eq_skeleton]
  unfold k0_part40_skel
  refine tri_recv (.y1 1 (slot c 1)) (in_a c 1).2.1 (sem24 1 (slot c 1) (off19_eq c 1) (ent_y1r _ _)) rfl ?_
  refine tri_recv (.x2 (slot c 1)) (in_a c 1).2.2.1 (sem4 (slot c 1) (off21_eq c 1) (ent_x2r _)) rfl ?_
  refine tri_recv (.y2 (slot c 1)) (in_a c 1).2.2.2 (sem4 (slot c 1) (off21_eq c 1) (ent_y2r _)) rfl ?_
  refine tri_PT (hc := by decide) (slot c 1) (qOf c) 0 (off23_eq c 1) ?_
  refine tri_load_all (hq := squeezes_S1x1x64x256_S64x256) (.x1 1 (slot c 1)) (in_a c 1).1 (by decide) (slot_congr (off24_eq c 1)) ?_
  refine tri_load_all (hq := squeezes_S1x64x256_S64x256) (.x2 (slot c 1)) (in_a c 1).2.2.1 (by decide) (slot_congr (off25_eq c 1)) ?_
  exact tri_pure rfl

theorem part41 (a0 a1 a2 a3) : Spec X W KI c 79 82 (onArgs (k0_part41 (F := F)) c a0 a1 a2 a3 (k0_pay21 (PT X W c (slot c 1) (qOf c) 0) (u24 (rV X W (.x1 1 (slot c 1)) c)) (u4 (rV X W (.x2 (slot c 1)) c)))) fun _ => True := fun R => by
  rw [k0_part41_eq_skeleton]
  unfold k0_part41_skel
  refine tri_dead (.a2 1) (.inl (st_a2 c 1).1.1) (r0 := R3 1) (hq := squeezes_S1x64x512_S64x512) rfl (sub_l 1) fun _ => ?_
  refine tri_a2_l 1 rfl rfl rfl ?_
  refine tri_PT (hc := by decide) (slot c 1) (qOf c) 256 (off26_eq c 1) ?_
  refine tri_load_all (hq := squeezes_S1x1x64x256_S64x256) (.y1 1 (slot c 1)) (in_a c 1).2.1 (by decide) (slot_congr (off24_eq c 1)) ?_
  refine tri_load_all (hq := squeezes_S1x64x256_S64x256) (.y2 (slot c 1)) (in_a c 1).2.2.2 (by decide) (slot_congr (off25_eq c 1)) ?_
  refine tri_dead (.a2 1) (.inr (st_a2 c 1).2.1.1) (r0 := R3 1) (hq := squeezes_S1x64x512_S64x512) rfl (sub_r 1) fun _ => ?_
  refine tri_a2_r 1 rfl rfl rfl ?_
  refine tri_send (.a2 1) (st_a2 c 1).2.2 (dev_eq (devs_ab c).2.1) rfl rfl (sem3 1 rfl (ent_a2s _)) (sem3 1 rfl (ent_a2r _)) ?_
  exact tri_pure trivial

theorem part42 (a0 a1 a2 a3 a4 a5) : Spec X W KI c 82 85 (onArgs (k0_part42 (F := F)) c a0 a1 a2 a3 a4 a5) fun _ => True := fun R => by
  rw [k0_part42_eq_skeleton]
  unfold k0_part42_skel
  refine tri_recv (.x1 1 (slot c 2)) (in_a c 2).1 (sem24 1 (slot c 2) (off19_eq c 2) (ent_x1r _ _)) rfl ?_
  refine tri_recv (.y1 1 (slot c 2)) (in_a c 2).2.1 (sem24 1 (slot c 2) (off19_eq c 2) (ent_y1r _ _)) rfl ?_
  refine tri_recv (.x2 (slot c 2)) (in_a c 2).2.2.1 (sem4 (slot c 2) (off21_eq c 2) (ent_x2r _)) rfl ?_
  exact tri_pure trivial

theorem part43 (a0 a1 a2) : Spec X W KI c 85 87 (onArgs (k0_part43 (F := F)) c a0 a1 a2) fun a => a.2.1 = (k0_pay25 (PT X W c (slot c 2) (qOf c) 256) (u24 (rV X W (.y1 1 (slot c 2)) c))) ∧ a.2.2 = (u4 (rV X W (.y2 (slot c 2)) c)) := fun R => by
  rw [k0_part43_eq_skeleton]
  unfold k0_part43_skel
  refine tri_recv (.y2 (slot c 2)) (in_a c 2).2.2.2 (sem4 (slot c 2) (off21_eq c 2) (ent_y2r _)) rfl ?_
  refine tri_PT (hc := by decide) (slot c 2) (qOf c) 0 (off23_eq c 2) ?_
  refine tri_load_all (hq := squeezes_S1x1x64x256_S64x256) (.x1 1 (slot c 2)) (in_a c 2).1 (by decide) (slot_congr (off24_eq c 2)) ?_
  refine tri_load_all (hq := squeezes_S1x64x256_S64x256) (.x2 (slot c 2)) (in_a c 2).2.2.1 (by decide) (slot_congr (off25_eq c 2)) ?_
  refine tri_dead (.a2 2) (.inl (st_a2 c 2).1.1) (r0 := R3 2) (hq := squeezes_S1x64x512_S64x512) rfl (sub_l 2) fun _ => ?_
  refine tri_a2_l 2 rfl rfl rfl ?_
  refine tri_PT (hc := by decide) (slot c 2) (qOf c) 256 (off26_eq c 2) ?_
  refine tri_load_all (hq := squeezes_S1x1x64x256_S64x256) (.y1 1 (slot c 2)) (in_a c 2).2.1 (by decide) (slot_congr (off24_eq c 2)) ?_
  refine tri_load_all (hq := squeezes_S1x64x256_S64x256) (.y2 (slot c 2)) (in_a c 2).2.2.2 (by decide) (slot_congr (off25_eq c 2)) ?_
  exact tri_pure ⟨rfl, rfl⟩

theorem part44 (a0 a1) : Spec X W KI c 87 90 (onArgs (k0_part44 (F := F)) c a0 a1 (k0_pay25 (PT X W c (slot c 2) (qOf c) 256) (u24 (rV X W (.y1 1 (slot c 2)) c))) (u4 (rV X W (.y2 (slot c 2)) c))) fun _ => True := fun R => by
  rw [k0_part44_eq_skeleton]
  unfold k0_part44_skel
  refine tri_dead (.a2 2) (.inr (st_a2 c 2).2.1.1) (r0 := R3 2) (hq := squeezes_S1x64x512_S64x512) rfl (sub_r 2) fun _ => ?_
  refine tri_a2_r 2 rfl rfl rfl ?_
  refine tri_send (.a2 2) (st_a2 c 2).2.2 (dev_eq (devs_ab c).2.2.1) rfl rfl (sem3 2 rfl (ent_a2s _)) (sem3 2 rfl (ent_a2r _)) ?_
  refine tri_recv (.bu 2 0) (in_b2 c 0).1 (sem32 2 0 rfl (ent_bur _ _)) rfl ?_
  exact tri_pure trivial

theorem part45 (a0 a1) : Spec X W KI c 90 92 (onArgs (k0_part45 (F := F)) a0 a1) fun _ => True := fun R => by
  rw [k0_part45_eq_skeleton]
  unfold k0_part45_skel
  refine tri_recv (.bd 2 0) (in_b2 c 0).2 (sem32 2 0 rfl (ent_bdr _ _)) rfl ?_
  refine tri_recv (.bu 2 1) (in_b2 c 1).1 (sem32 2 1 rfl (ent_bur _ _)) rfl ?_
  exact tri_pure trivial

theorem part46 (a0 a1) : Spec X W KI c 92 93 (onArgs (k0_part46 (F := F)) a0 a1) fun _ => True := fun R => by
  rw [k0_part46_eq_skeleton]
  unfold k0_part46_skel
  refine tri_recv (.bd 2 1) (in_b2 c 1).2 (sem32 2 1 rfl (ent_bdr _ _)) rfl ?_
  exact tri_pure trivial

end

end Cert.Mesh

end
-- ==== Proof.PartsC.lean ====
/-
What each stretch of the program does: the remaining sums dealt out and the results put together.
-/
module

public import proofs.«01_k».proof.Proof.Slots

@[expose] public section

set_option maxRecDepth 16384

noncomputable section

namespace Cert.Mesh

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

section

variable {X : Dev nD → Vec F S1024x64 .f32} {W : Dev nD → Vec F S64x1024 .f32} {KI : Dev nD × CI → ℕ} {c : Dev nD}

theorem part47 (a0 a1 a2 a3 a4 a5) : Spec X W KI c 93 95 (onArgs (k0_part47 (F := F)) c a0 a1 a2 a3 a4 a5) fun _ => True := fun R => by
  rw [k0_part47_eq_skeleton]
  unfold k0_part47_skel
  refine tri_PT (hc := by decide) (zOf c) (bq c 0) 512 (off27_eq c 0) ?_
  refine tri_rows (hf (bq c 0)) (sub (bq c 0)) (sub_le _) (.bu 2 (hf (bq c 0))) _ (in_b2 c (hf (bq c 0))).1 (by have := (hf (bq c 0)).isLt; omega) rfl (off28_eq c 0) ?_
  refine tri_dead (.b2 0) (.inl (st_b2 c 0).1.1) (r0 := R3 0) (hq := squeezes_S1x64x512_S64x512) rfl (sub_l 0) fun _ => ?_
  refine tri_b2_l 0 rfl rfl rfl ?_
  refine tri_PT (hc := by decide) (zOf c) (bq c 0) 768 (off29_eq c 0) ?_
  refine tri_rows (hf (bq c 0)) (sub (bq c 0)) (sub_le _) (.bd 2 (hf (bq c 0))) _ (in_b2 c (hf (bq c 0))).2 (by have := (hf (bq c 0)).isLt; omega) rfl (off28_eq c 0) ?_
  refine tri_dead (.b2 0) (.inr (st_b2 c 0).2.1.1) (r0 := R3 0) (hq := squeezes_S1x64x512_S64x512) rfl (sub_r 0) fun _ => ?_
  refine tri_b2_r 0 rfl rfl rfl ?_
  exact tri_pure trivial

theorem part48 (a0 a1) : Spec X W KI c 95 96 (onArgs (k0_part48 (F := F)) c a0 a1) fun _ => True := fun R => by
  rw [k0_part48_eq_skeleton]
  unfold k0_part48_skel
  refine tri_send (.b2 0) (st_b2 c 0).2.2 (dev_eq (devs_ab c).2.2.2.1) rfl rfl (sem3 0 rfl (ent_b2s _)) (sem3 0 rfl (ent_b2r _)) ?_
  exact tri_pure trivial

theorem part49 (a0 a1 a2 a3 a4) : Spec X W KI c 96 98 (onArgs (k0_part49 (F := F)) c a0 a1 a2 a3 a4) fun _ => True := fun R => by
  rw [k0_part49_eq_skeleton]
  unfold k0_part49_skel
  refine tri_PT (hc := by decide) (zOf c) (bq c 1) 512 (off27_eq c 1) ?_
  refine tri_rows (hf (bq c 1)) (sub (bq c 1)) (sub_le _) (.bu 2 (hf (bq c 1))) _ (in_b2 c (hf (bq c 1))).1 (by have := (hf (bq c 1)).isLt; omega) rfl (off28_eq c 1) ?_
  refine tri_dead (.b2 1) (.inl (st_b2 c 1).1.1) (r0 := R3 1) (hq := squeezes_S1x64x512_S64x512) rfl (sub_l 1) fun _ => ?_
  refine tri_b2_l 1 rfl rfl rfl ?_
  refine tri_PT (hc := by decide) (zOf c) (bq c 1) 768 (off29_eq c 1) ?_
  refine tri_rows (hf (bq c 1)) (sub (bq c 1)) (sub_le _) (.bd 2 (hf (bq c 1))) _ (in_b2 c (hf (bq c 1))).2 (by have := (hf (bq c 1)).isLt; omega) rfl (off28_eq c 1) ?_
  refine tri_dead (.b2 1) (.inr (st_b2 c 1).2.1.1) (r0 := R3 1) (hq := squeezes_S1x64x512_S64x512) rfl (sub_r 1) fun _ => ?_
  refine tri_b2_r 1 rfl rfl rfl ?_
  exact tri_pure trivial

theorem part50 (a0 a1) : Spec X W KI c 98 99 (onArgs (k0_part50 (F := F)) c a0 a1) fun _ => True := fun R => by
  rw [k0_part50_eq_skeleton]
  unfold k0_part50_skel
  refine tri_send (.b2 1) (st_b2 c 1).2.2 (dev_eq (devs_ab c).2.2.2.2.1) rfl rfl (sem3 1 rfl (ent_b2s _)) (sem3 1 rfl (ent_b2r _)) ?_
  exact tri_pure trivial

theorem part51 (a0 a1 a2 a3 a4 a5) : Spec X W KI c 99 101 (onArgs (k0_part51 (F := F)) c a0 a1 a2 a3 a4 a5) fun _ => True := fun R => by
  rw [k0_part51_eq_skeleton]
  unfold k0_part51_skel
  refine tri_PT (hc := by decide) (zOf c) (bq c 2) 512 (off27_eq c 2) ?_
  refine tri_rows (hf (bq c 2)) (sub (bq c 2)) (sub_le _) (.bu 2 (hf (bq c 2))) _ (in_b2 c (hf (bq c 2))).1 (by have := (hf (bq c 2)).isLt; omega) rfl (off28_eq c 2) ?_
  refine tri_dead (.b2 2) (.inl (st_b2 c 2).1.1) (r0 := R3 2) (hq := squeezes_S1x64x512_S64x512) rfl (sub_l 2) fun _ => ?_
  refine tri_b2_l 2 rfl rfl rfl ?_
  refine tri_PT (hc := by decide) (zOf c) (bq c 2) 768 (off29_eq c 2) ?_
  refine tri_rows (hf (bq c 2)) (sub (bq c 2)) (sub_le _) (.bd 2 (hf (bq c 2))) _ (in_b2 c (hf (bq c 2))).2 (by have := (hf (bq c 2)).isLt; omega) rfl (off28_eq c 2) ?_
  refine tri_dead (.b2 2) (.inr (st_b2 c 2).2.1.1) (r0 := R3 2) (hq := squeezes_S1x64x512_S64x512) rfl (sub_r 2) fun _ => ?_
  refine tri_b2_r 2 rfl rfl rfl ?_
  exact tri_pure trivial

theorem part52 (a0 a1) : Spec X W KI c 101 104 (onArgs (k0_part52 (F := F)) c a0 a1) fun _ => True := fun R => by
  rw [k0_part52_eq_skeleton]
  unfold k0_part52_skel
  refine tri_send (.b2 2) (st_b2 c 2).2.2 (dev_eq (devs_ab c).2.2.2.2.2) rfl rfl (sem3 2 rfl (ent_b2s _)) (sem3 2 rfl (ent_b2r _)) ?_
  refine tri_recv (.x1 1 (slot c 3)) (in_last c).1 (sem24 1 (slot c 3) (off30_eq c) (ent_x1r _ _)) rfl ?_
  refine tri_recv (.y1 1 (slot c 3)) (in_last c).2.1 (sem24 1 (slot c 3) (off30_eq c) (ent_y1r _ _)) rfl ?_
  exact tri_pure trivial

theorem part53 (a0 a1) : Spec X W KI c 104 108 (onArgs (k0_part53 (F := F)) c a0 a1) fun _ => True := fun R => by
  rw [k0_part53_eq_skeleton]
  unfold k0_part53_skel
  refine tri_recv (.x2 (slot c 3)) (in_last c).2.2.1 (sem4 (slot c 3) (off32_eq c) (ent_x2r _)) rfl ?_
  refine tri_recv (.y2 (slot c 3)) (in_last c).2.2.2 (sem4 (slot c 3) (off32_eq c) (ent_y2r _)) rfl ?_
  refine tri_recv (.a2 0) (in_ab c 0).1 (sem3 0 rfl (ent_a2r _)) rfl ?_
  refine tri_recv (.b2 0) (in_ab c 0).2 (sem3 0 rfl (ent_b2r _)) rfl ?_
  exact tri_pure trivial

theorem part54 (a0) : Spec X W KI c 108 111 (onArgs (k0_part54 (F := F)) a0) fun _ => True := fun R => by
  rw [k0_part54_eq_skeleton]
  unfold k0_part54_skel
  refine tri_recv (.a2 1) (in_ab c 1).1 (sem3 1 rfl (ent_a2r _)) rfl ?_
  refine tri_recv (.b2 1) (in_ab c 1).2 (sem3 1 rfl (ent_b2r _)) rfl ?_
  refine tri_recv (.a2 2) (in_ab c 2).1 (sem3 2 rfl (ent_a2r _)) rfl ?_
  exact tri_pure trivial

theorem part55 (a0 a1 a2) : Spec X W KI c 111 112 (onArgs (k0_part55 (F := F)) c a0 a1 a2) fun a => a.2.2.2 = (PT X W c (slot c 3) (qOf c) 0) := fun R => by
  rw [k0_part55_eq_skeleton]
  unfold k0_part55_skel
  refine tri_recv (.b2 2) (in_ab c 2).2 (sem3 2 rfl (ent_b2r _)) rfl ?_
  refine tri_PT (hc := by decide) (slot c 3) (qOf c) 0 (off34_eq c) ?_
  exact tri_pure rfl

theorem part56 (a0 a1) : Spec X W KI c 112 112 (onArgs (k0_part56 (F := F)) c a0 a1 (PT X W c (slot c 3) (qOf c) 0)) fun a => a.1 = Fo0 X W c ∧ a.2 = Fo1' X W c := fun R => by
  rw [k0_part56_eq_skeleton]
  unfold k0_part56_skel
  refine tri_load_all (hq := squeezes_S1x1x64x256_S64x256) (.x1 1 (slot c 3)) (in_last c).1 (by decide) (slot_congr (off35_eq c)) ?_
  refine tri_load_all (hq := squeezes_S1x64x256_S64x256) (.x2 (slot c 3)) (in_last c).2.2.1 (by decide) (slot_congr (off36_eq c)) ?_
  refine tri_lft 0 (.a2 0) _ (in_ab c 0).1 (by decide) rfl rfl ?_
  refine tri_lft 1 (.a2 1) _ (in_ab c 1).1 (by decide) rfl rfl ?_
  refine tri_lft 2 (.a2 2) _ (in_ab c 2).1 (by decide) rfl rfl ?_
  refine tri_PT (hc := by decide) (slot c 3) (qOf c) 256 (off37_eq c) ?_
  refine tri_load_all (hq := squeezes_S1x1x64x256_S64x256) (.y1 1 (slot c 3)) (in_last c).2.1 (by decide) (slot_congr (off35_eq c)) ?_
  refine tri_load_all (hq := squeezes_S1x64x256_S64x256) (.y2 (slot c 3)) (in_last c).2.2.2 (by decide) (slot_congr (off36_eq c)) ?_
  refine tri_rgt 0 (.a2 0) _ (in_ab c 0).1 (by decide) rfl rfl ?_
  refine tri_rgt 1 (.a2 1) _ (in_ab c 1).1 (by decide) rfl rfl ?_
  exact tri_pure ⟨rfl, rfl⟩

theorem part57 (a0 a1 a2) : Spec X W KI c 112 112 (onArgs (k0_part57 (F := F)) c a0 a1 a2 (Fo1' X W c)) fun a => a.1 = Fo1 X W c ∧ a.2.1 = Fo2 X W c ∧ a.2.2.1 = Fo3' X W c ∧ a.2.2.2 = k0_pay38 (rgt (u3 (rV X W (.b2 2) c))) := fun R => by
  rw [k0_part57_eq_skeleton]
  unfold k0_part57_skel
  refine tri_rgt 2 (.a2 2) _ (in_ab c 2).1 (by decide) rfl rfl ?_
  refine tri_PT (hc := by decide) (slot c 3) (qOf c) 512 (off38_eq c) ?_
  refine tri_rows (hf (qOf c)) (sub (qOf c)) (sub_le _) (.bu 2 (hf (qOf c))) _ (in_b2 c (hf (qOf c))).1 (by have := (hf (qOf c)).isLt; omega) rfl (off39_eq c) ?_
  refine tri_lft 0 (.b2 0) _ (in_ab c 0).2 (by decide) rfl rfl ?_
  refine tri_lft 1 (.b2 1) _ (in_ab c 1).2 (by decide) rfl rfl ?_
  refine tri_lft 2 (.b2 2) _ (in_ab c 2).2 (by decide) rfl rfl ?_
  refine tri_PT (hc := by decide) (slot c 3) (qOf c) 768 (off40_eq c) ?_
  refine tri_rows (hf (qOf c)) (sub (qOf c)) (sub_le _) (.bd 2 (hf (qOf c))) _ (in_b2 c (hf (qOf c))).2 (by have := (hf (qOf c)).isLt; omega) rfl (off39_eq c) ?_
  refine tri_rgt 0 (.b2 0) _ (in_ab c 0).2 (by decide) rfl rfl ?_
  refine tri_rgt 1 (.b2 1) _ (in_ab c 1).2 (by decide) rfl rfl ?_
  refine tri_rgt 2 (.b2 2) _ (in_ab c 2).2 (by decide) rfl rfl ?_
  exact tri_pure ⟨rfl, rfl, rfl, rfl⟩

end

end Cert.Mesh

end
-- ==== Proof.PartsD.lean ====
/-
What each stretch of the program does: the result stored, and the waits for the device's own copies.
-/
module

public import proofs.«01_k».proof.Proof.Slots

@[expose] public section

set_option maxRecDepth 16384

noncomputable section

namespace Cert.Mesh

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

section

variable {X : Dev nD → Vec F S1024x64 .f32} {W : Dev nD → Vec F S64x1024 .f32} {KI : Dev nD × CI → ℕ} {c : Dev nD}

/-! ### The result buffer -/

abbrev oM : Memref sig .tc .vmem S64x1024 .f32 := Memref.whole cc0_stg2_0
/-- The result buffer holding `f`. -/
def oAt (c : Dev nD) (f : Buf (Elt F) ((c : Thread nD τ).loc cc0_stg2_0)) : sProp 𝕄 := ((c : Thread nD τ).loc cc0_stg2_0) ↦{fullShare} f

theorem inb_o (i : Fin 4) : ∀ a, (![0, 256 * i.val] : Fin 2 → ℕ) a + S64x256.size a ≤ S64x1024.size a := by revert i; decide
abbrev RO (i : Fin 4) : Rect S64x1024 := Rect.unit (s := S64x1024) ![0, 256 * i.val] S64x256.size (inb_o i)
/-- The result buffer after one tile has been put in. -/
def wr (i : Fin 4) (f : Vec F S64x1024 .f32) (v : Vec F S64x256 .f32) : Vec F S64x1024 .f32 :=
  (oM.access (RO i) : View sig .tc _ _ _).write (Elt F) f v Finset.univ

theorem St_R (n : ℕ) (R : sProp 𝕄) : ∃ M : sProp 𝕄, (St X W KI c n R ⊢ iprop(R ∗ M)) ∧ ∀ R' : sProp 𝕄, iprop(R' ∗ M) ⊢ St X W KI c n R' := by
  refine ⟨iprop(records X W KI ∗ (∃ w, owes (c : Thread nD τ) (Ow c n) w)
    ∗ (bigSep Finset.univ fun k => OutSt X W k c (ost c n k)) ∗ (bigSep Finset.univ fun k => InSt X W k c (ist c n k))
    ∗ (((c : Thread nD τ).loc cc0_scratch0) ↦{qL} Pm X W c)), ?_, fun R' => ?_⟩ <;> unfold St
  · iintro ⟨H1, H2, H3, H4, H5, H6⟩
    isplitl [H6]; · iexact H6
    isplitl [H1]; · iexact H1
    isplitl [H2]; · iexact H2
    isplitl [H3]; · iexact H3
    isplitl [H4]; · iexact H4
    iexact H5
  · iintro ⟨H6, H1, H2, H3, H4, H5⟩
    isplitl [H1]; · iexact H1
    isplitl [H2]; · iexact H2
    isplitl [H3]; · iexact H3
    isplitl [H4]; · iexact H4
    isplitl [H5]; · iexact H5
    iexact H6

theorem tri_out_load {α : Type} {n : ℕ} {R : sProp 𝕄} {Q : α → sProp 𝕄} {f : Vec F S64x1024 .f32} {r : LoadRect S64x1024} {hl : oM.view.LoadsAt r}
    {kk : (r.shape.Idx → Elt F .f32) → Prog (TpuEff nD τ sig (Elt F) Λ₀ .tc) α}
    (h : ∀ v, Tri X W KI c n iprop(oAt c f ∗ R) (kk v) Q) : Tri X W KI c n iprop(oAt c f ∗ R) (Prog.lift (.load oM r hl) >>= kk) Q := by
  obtain ⟨M, g1, g2⟩ := St_R (X := X) (W := W) (KI := KI) (c := c) n iprop(oAt c f ∗ R)
  show St X W KI c n iprop(oAt c f ∗ R) ⊢ wp frame (wpE (defs₀ (F := F)) 𝒱₀ (c : Thread nD τ) none) Set.univ (.op _ kk) Q
  refine g1.trans ?_
  unfold oAt
  iintro ⟨⟨Ho, HR⟩, HM⟩
  iapply (wp_load 𝒱₀ (c : Thread nD τ) none Set.univ (m := oM) (S := Finset.univ) (Finset.subset_univ _)) $$ [Ho]
  · iexact Ho
  iintro Ho
  iapply (h _).run
  iapply (g2 iprop(oAt c f ∗ R))
  unfold oAt
  isplitl [Ho HR]
  · isplitl [Ho]; · iexact Ho
    iexact HR
  iexact HM

theorem tri_out_store {α : Type} {n : ℕ} {R : sProp 𝕄} {Q : α → sProp 𝕄} {f : Vec F S64x1024 .f32} (i : Fin 4) {o : Fin 2 → ℕ} (ho : o = ![0, 256 * i.val])
    {h1 : ∀ a, o a + S64x256.size a ≤ S64x1024.size a} {pay : Vec F S64x256 .f32}
    {hx : (oM.access (Rect.unit (s := S64x1024) o S64x256.size h1)).Stores Finset.univ}
    {hm : (Finset.univ : Finset (Rect.unit (s := S64x1024) o S64x256.size h1).shape.Idx) = Finset.univ ∨ ∀ a, (Rect.unit (s := S64x1024) o S64x256.size h1).stride a = 1}
    {kk : PUnit → Prog (TpuEff nD τ sig (Elt F) Λ₀ .tc) α}
    (h : Tri X W KI c n iprop(oAt c (wr i f pay) ∗ R) (kk ⟨⟩) Q) :
    Tri X W KI c n iprop(oAt c f ∗ R) (Prog.lift (.store oM (Rect.unit (s := S64x1024) o S64x256.size h1) pay Finset.univ hx hm) >>= kk) Q := by
  subst ho
  obtain ⟨M, g1, g2⟩ := St_R (X := X) (W := W) (KI := KI) (c := c) n iprop(oAt c f ∗ R)
  show St X W KI c n iprop(oAt c f ∗ R) ⊢ wp frame (wpE (defs₀ (F := F)) 𝒱₀ (c : Thread nD τ) none) Set.univ (.op _ kk) Q
  refine g1.trans ?_
  unfold oAt
  iintro ⟨⟨Ho, HR⟩, HM⟩
  iapply (wp_store 𝒱₀ (c : Thread nD τ) none Set.univ (m := oM) (r := RO i) (w := pay) (Mk := Finset.univ) (S := Finset.univ) (f := f) (Finset.subset_univ _)) $$ [Ho]
  · iexact Ho
  iintro Ho
  iapply h.run
  iapply (g2 iprop(oAt c (wr i f pay) ∗ R))
  unfold oAt wr
  isplitl [Ho HR]
  · isplitl [Ho]; · iexact Ho
    iexact HR
  iexact HM

/-- The first three tiles. -/
def wr3 (f : Vec F S64x1024 .f32) (v0 v1 v2 : Vec F S64x256 .f32) : Vec F S64x1024 .f32 := wr 2 (wr 1 (wr 0 f (k0_pay39 v0)) (k0_pay40 v1)) (k0_pay41 v2)

theorem part58 (f : Vec F S64x1024 .f32) (R : sProp 𝕄) (v0 v1 v2 v3 v4 : FVec F S64x256 .f32) :
    Tri X W KI c 112 iprop(oAt c f ∗ R) (onArgs (k0_part58 (F := F)) v0 v1 v2 v3 v4)
      fun a => iprop(⌜a = k0_pay42 v3 v4⌝ ∗ St X W KI c 112 iprop(oAt c (wr3 f v0 v1 v2) ∗ R)) := by
  rw [k0_part58_eq_skeleton]
  unfold k0_part58_skel
  refine tri_out_load fun _ => ?_
  refine tri_out_store 0 rfl ?_
  refine tri_out_load fun _ => ?_
  refine tri_out_store 1 rfl ?_
  refine tri_out_load fun _ => ?_
  refine tri_out_store 2 rfl ?_
  refine tri_out_load fun _ => ?_
  exact tri_pure rfl

theorem part59 (f : Vec F S64x1024 .f32) (R : sProp 𝕄) (v : FVec F S64x256 .f32) :
    Tri X W KI c 112 iprop(oAt c f ∗ R) (onArgs (k0_part59 (F := F)) v)
      fun _ => iprop(⌜True⌝ ∗ St X W KI c 114 iprop(oAt c (wr 3 f v) ∗ R)) := by
  rw [k0_part59_eq_skeleton]
  unfold k0_part59_skel
  refine tri_out_store 3 rfl ?_
  refine tri_fin (.x1 0 0) rfl (sem24 0 0 rfl (ent_x1s _ _)) rfl ?_
  refine tri_fin (.y1 0 0) rfl (sem24 0 0 rfl (ent_y1s _ _)) rfl ?_
  exact tri_pure trivial

theorem part60 : Spec X W KI c 114 117 (onArgs (k0_part60 (F := F)) ) fun _ => True := fun R => by
  rw [k0_part60_eq_skeleton]
  unfold k0_part60_skel
  refine tri_fin (.x1 0 1) rfl (sem24 0 1 rfl (ent_x1s _ _)) rfl ?_
  refine tri_fin (.y1 0 1) rfl (sem24 0 1 rfl (ent_y1s _ _)) rfl ?_
  refine tri_fin (.x1 0 2) rfl (sem24 0 2 rfl (ent_x1s _ _)) rfl ?_
  exact tri_pure trivial

theorem part61 : Spec X W KI c 117 120 (onArgs (k0_part61 (F := F)) ) fun _ => True := fun R => by
  rw [k0_part61_eq_skeleton]
  unfold k0_part61_skel
  refine tri_fin (.y1 0 2) rfl (sem24 0 2 rfl (ent_y1s _ _)) rfl ?_
  refine tri_fin (.x1 0 3) rfl (sem24 0 3 rfl (ent_x1s _ _)) rfl ?_
  refine tri_fin (.y1 0 3) rfl (sem24 0 3 rfl (ent_y1s _ _)) rfl ?_
  exact tri_pure trivial

theorem part62 : Spec X W KI c 120 123 (onArgs (k0_part62 (F := F)) ) fun _ => True := fun R => by
  rw [k0_part62_eq_skeleton]
  unfold k0_part62_skel
  refine tri_fin (.x1 1 0) rfl (sem24 1 0 rfl (ent_x1s _ _)) rfl ?_
  refine tri_fin (.y1 1 0) rfl (sem24 1 0 rfl (ent_y1s _ _)) rfl ?_
  refine tri_fin (.x1 1 1) rfl (sem24 1 1 rfl (ent_x1s _ _)) rfl ?_
  exact tri_pure trivial

theorem part63 : Spec X W KI c 123 126 (onArgs (k0_part63 (F := F)) ) fun _ => True := fun R => by
  rw [k0_part63_eq_skeleton]
  unfold k0_part63_skel
  refine tri_fin (.y1 1 1) rfl (sem24 1 1 rfl (ent_y1s _ _)) rfl ?_
  refine tri_fin (.x1 1 2) rfl (sem24 1 2 rfl (ent_x1s _ _)) rfl ?_
  refine tri_fin (.y1 1 2) rfl (sem24 1 2 rfl (ent_y1s _ _)) rfl ?_
  exact tri_pure trivial

theorem part64 : Spec X W KI c 126 130 (onArgs (k0_part64 (F := F)) ) fun _ => True := fun R => by
  rw [k0_part64_eq_skeleton]
  unfold k0_part64_skel
  refine tri_fin (.x1 1 3) rfl (sem24 1 3 rfl (ent_x1s _ _)) rfl ?_
  refine tri_fin (.y1 1 3) rfl (sem24 1 3 rfl (ent_y1s _ _)) rfl ?_
  refine tri_fin (.x2 0) rfl (sem4 0 rfl (ent_x2s _)) rfl ?_
  refine tri_fin (.y2 0) rfl (sem4 0 rfl (ent_y2s _)) rfl ?_
  exact tri_pure trivial

theorem part65 : Spec X W KI c 130 134 (onArgs (k0_part65 (F := F)) ) fun _ => True := fun R => by
  rw [k0_part65_eq_skeleton]
  unfold k0_part65_skel
  refine tri_fin (.x2 1) rfl (sem4 1 rfl (ent_x2s _)) rfl ?_
  refine tri_fin (.y2 1) rfl (sem4 1 rfl (ent_y2s _)) rfl ?_
  refine tri_fin (.x2 2) rfl (sem4 2 rfl (ent_x2s _)) rfl ?_
  refine tri_fin (.y2 2) rfl (sem4 2 rfl (ent_y2s _)) rfl ?_
  exact tri_pure trivial

theorem part66 : Spec X W KI c 134 137 (onArgs (k0_part66 (F := F)) ) fun _ => True := fun R => by
  rw [k0_part66_eq_skeleton]
  unfold k0_part66_skel
  refine tri_fin (.x2 3) rfl (sem4 3 rfl (ent_x2s _)) rfl ?_
  refine tri_fin (.y2 3) rfl (sem4 3 rfl (ent_y2s _)) rfl ?_
  refine tri_fin (.bu 0 0) rfl (sem32 0 0 rfl (ent_bus _ _)) rfl ?_
  exact tri_pure trivial

theorem part67 : Spec X W KI c 137 140 (onArgs (k0_part67 (F := F)) ) fun _ => True := fun R => by
  rw [k0_part67_eq_skeleton]
  unfold k0_part67_skel
  refine tri_fin (.bd 0 0) rfl (sem32 0 0 rfl (ent_bds _ _)) rfl ?_
  refine tri_fin (.bu 0 1) rfl (sem32 0 1 rfl (ent_bus _ _)) rfl ?_
  refine tri_fin (.bd 0 1) rfl (sem32 0 1 rfl (ent_bds _ _)) rfl ?_
  exact tri_pure trivial

theorem part68 : Spec X W KI c 140 143 (onArgs (k0_part68 (F := F)) ) fun _ => True := fun R => by
  rw [k0_part68_eq_skeleton]
  unfold k0_part68_skel
  refine tri_fin (.a2 0) rfl (sem3 0 rfl (ent_a2s _)) rfl ?_
  refine tri_fin (.b2 0) rfl (sem3 0 rfl (ent_b2s _)) rfl ?_
  refine tri_fin (.bu 1 0) rfl (sem32 1 0 rfl (ent_bus _ _)) rfl ?_
  exact tri_pure trivial

theorem part69 : Spec X W KI c 143 147 (onArgs (k0_part69 (F := F)) ) fun _ => True := fun R => by
  rw [k0_part69_eq_skeleton]
  unfold k0_part69_skel
  refine tri_fin (.bd 1 0) rfl (sem32 1 0 rfl (ent_bds _ _)) rfl ?_
  refine tri_fin (.bu 1 1) rfl (sem32 1 1 rfl (ent_bus _ _)) rfl ?_
  refine tri_fin (.bd 1 1) rfl (sem32 1 1 rfl (ent_bds _ _)) rfl ?_
  refine tri_fin (.a2 1) rfl (sem3 1 rfl (ent_a2s _)) rfl ?_
  exact tri_pure trivial

theorem part70 : Spec X W KI c 147 150 (onArgs (k0_part70 (F := F)) ) fun _ => True := fun R => by
  rw [k0_part70_eq_skeleton]
  unfold k0_part70_skel
  refine tri_fin (.b2 1) rfl (sem3 1 rfl (ent_b2s _)) rfl ?_
  refine tri_fin (.bu 2 0) rfl (sem32 2 0 rfl (ent_bus _ _)) rfl ?_
  refine tri_fin (.bd 2 0) rfl (sem32 2 0 rfl (ent_bds _ _)) rfl ?_
  exact tri_pure trivial

theorem part71 : Spec X W KI c 150 153 (onArgs (k0_part71 (F := F)) ) fun _ => True := fun R => by
  rw [k0_part71_eq_skeleton]
  unfold k0_part71_skel
  refine tri_fin (.bu 2 1) rfl (sem32 2 1 rfl (ent_bus _ _)) rfl ?_
  refine tri_fin (.bd 2 1) rfl (sem32 2 1 rfl (ent_bds _ _)) rfl ?_
  refine tri_fin (.a2 2) rfl (sem3 2 rfl (ent_a2s _)) rfl ?_
  exact tri_pure trivial

end

end Cert.Mesh

end
-- ==== Proof.Chain.lean ====
/-
The stretches put together: the whole program of one device, from the greeting to the last wait.
-/
module

public import proofs.«01_k».proof.Proof.PartsA
public import proofs.«01_k».proof.Proof.PartsB
public import proofs.«01_k».proof.Proof.PartsC
public import proofs.«01_k».proof.Proof.PartsD

@[expose] public section

set_option maxRecDepth 16384

noncomputable section

namespace Cert.Mesh

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- From `P` the program runs to `Q`. -/
def Go (c : Dev nD) (P : sProp 𝕄) {α : Type} (p : Prog (TpuEff nD τ sig (Elt F) Λ₀ .tc) α) (Q : α → sProp 𝕄) : Prop :=
  P ⊢ wp frame (wpE (defs₀ (F := F)) 𝒱₀ (c : Thread nD τ) none) Set.univ p Q

section

variable {X : Dev nD → Vec F S1024x64 .f32} {W : Dev nD → Vec F S64x1024 .f32} {KI : Dev nD × CI → ℕ} {c : Dev nD} {α β : Type}

theorem Go.run {P : sProp 𝕄} {p : Prog (TpuEff nD τ sig (Elt F) Λ₀ .tc) α} {Q : α → sProp 𝕄} (h : Go c P p Q) :
    P ⊢ wp frame (wpE (defs₀ (F := F)) 𝒱₀ (c : Thread nD τ) none) Set.univ p Q := h

theorem Tri.go {n : ℕ} {R : sProp 𝕄} {p : Prog (TpuEff nD τ sig (Elt F) Λ₀ .tc) α} {Q : α → sProp 𝕄} (h : Tri X W KI c n R p Q) :
    Go c (St X W KI c n R) p Q := h

theorem Go.tri {n : ℕ} {R : sProp 𝕄} {p : Prog (TpuEff nD τ sig (Elt F) Λ₀ .tc) α} {Q : α → sProp 𝕄} (h : Go c (St X W KI c n R) p Q) :
    Tri X W KI c n R p Q := h

theorem go_step {P P' : sProp 𝕄} {Q : α → sProp 𝕄} {p : Prog (TpuEff nD τ sig (Elt F) Λ₀ .tc) β} {pin : β → Prop}
    {kk : β → Prog (TpuEff nD τ sig (Elt F) Λ₀ .tc) α} (hp : Go c P p fun a => iprop(⌜pin a⌝ ∗ P')) (hk : ∀ a, pin a → Go c P' (kk a) Q) :
    Go c P (p >>= kk) Q := by
  unfold Go
  rw [wp_bind]
  refine hp.run.trans (wp_mono _ _ _ fun a => ?_)
  iintro ⟨%h, H⟩
  iapply (hk a h).run; iexact H

theorem tri_step {n n' : ℕ} {R R' : sProp 𝕄} {Q : α → sProp 𝕄} {p : Prog (TpuEff nD τ sig (Elt F) Λ₀ .tc) β} {pin : β → Prop}
    {kk : β → Prog (TpuEff nD τ sig (Elt F) Λ₀ .tc) α} (hp : Tri X W KI c n R p fun a => iprop(⌜pin a⌝ ∗ St X W KI c n' R'))
    (hk : ∀ a, pin a → Tri X W KI c n' R' (kk a) Q) : Tri X W KI c n R (p >>= kk) Q :=
  Go.tri (go_step hp.go fun a h => (hk a h).go)

/-- The result buffer at the end. -/
def wrAll (X : Dev nD → Vec F S1024x64 .f32) (W : Dev nD → Vec F S64x1024 .f32) (c : Dev nD) (f : Vec F S64x1024 .f32) : Vec F S64x1024 .f32 :=
  wr 3 (wr3 f (Fo0 X W c) (Fo1 X W c) (Fo2 X W c)) (Fo3 X W c)

set_option maxHeartbeats 1600000 in
theorem part72 {P0 P1 R : sProp 𝕄} (f : Vec F S64x1024 .f32)
    (h1 : Go c P0 (onArgs (k0_part1 (F := F))) fun a => iprop(⌜a.1 = c⌝ ∗ P0))
    (h2 : ∀ a1 a2 a3 a4 a5 a6 a7, Go c P0 (onArgs (k0_part2 (F := F)) a1 a2 a3 a4 a5 a6 a7) fun _ => iprop(⌜True⌝ ∗ P0))
    (h3 : ∀ a1 a2 a3 a4, Go c P0 (onArgs (k0_part3 (F := F)) a1 a2 a3 a4) fun a => iprop(⌜a.2.2 = k0_pay1 (X c)⌝ ∗ P1))
    (h4 : ∀ a1 a2 a3 a4 a5 a6 a7, Go c P1 (onArgs (k0_part4 (F := F)) c a1 a2 a3 a4 a5 a6 a7 (k0_pay1 (X c))) fun _ => iprop(⌜True⌝ ∗ St X W KI c 0 iprop(oAt c f ∗ R))) :
    Go c P0 (onArgs (k0_part72 (F := F))) fun _ => iprop(⌜True⌝ ∗ St X W KI c 117 iprop(oAt c (wrAll X W c f) ∗ R)) := by
  rw [k0_part72_eq_skeleton]
  unfold k0_part72_skel
  refine go_step h1 fun ⟨d, _, _, _, _, _, _, _, _⟩ h => ?_
  obtain rfl : d = _ := h
  refine go_step (h2 _ _ _ _ _ _ _) fun ⟨_, _, _, _, _, _, _, _, _⟩ _ => ?_
  refine go_step (h3 _ _ _ _) fun ⟨_, _, v⟩ h => ?_
  obtain rfl : v = _ := h
  refine go_step (h4 _ _ _ _ _ _ _) fun ⟨_, _⟩ _ => ?_
  refine Tri.go ?_
  refine tri_part (part5 _ _ _ _ _ _) fun ⟨_, _⟩ h => ?_
  refine tri_part (part6 _ _ _ _ _) fun _ h => ?_
  refine tri_part (part7 _ _ _ _) fun _ h => ?_
  refine tri_part (part8 _ _ _) fun _ h => ?_
  refine tri_part (part9 _ _ _ _ _) fun _ h => ?_
  refine tri_part (part10 _ _ _ _ _) fun _ h => ?_
  refine tri_part (part11 _ _ _ _) fun _ h => ?_
  refine tri_part (part12 _ _ _ _) fun _ h => ?_
  refine tri_part (part13 _ _ _ _ _) fun ⟨_, _, _⟩ h => ?_
  refine tri_part (part14 _ _ _ _ _) fun ⟨_, _⟩ h => ?_
  refine tri_part (part15 _ _ _ _) fun _ h => ?_
  refine tri_part (part16 _ _ _) fun ⟨_, v⟩ h => ?_
  obtain rfl : v = _ := h
  refine tri_part (part17 _ _ _) fun v h => ?_
  obtain rfl : v = _ := h
  refine tri_part (part18 _ _ _) fun _ h => ?_
  refine tri_part (part19 _ _ _) fun _ h => ?_
  refine tri_part (part20 _ _ _ _) fun ⟨_, _, _, _⟩ h => ?_
  refine tri_part (part21 _ _ _ _ _ _ _) fun _ h => ?_
  refine tri_part (part22 _ _ _ _) fun _ h => ?_
  refine tri_part (part23 _ _ _ _) fun _ h => ?_
  refine tri_part (part24 _ _ _ _) fun _ h => ?_
  refine tri_part (part25 _ _) fun ⟨_, _, _, _, _⟩ h => ?_
  refine tri_part (part26 _ _ _ _ _ _ _) fun ⟨_, _, _⟩ h => ?_
  refine tri_part (part27 _ _ _) fun _ h => ?_
  refine tri_part (part28 _ _ _ _) fun ⟨_, _⟩ h => ?_
  refine tri_part (part29 _ _ _) fun v h => ?_
  obtain rfl : v = _ := h
  refine tri_part (part30 _ _ _) fun ⟨_, _⟩ h => ?_
  refine tri_part (part31 _ _ _) fun ⟨_, _, _, _⟩ h => ?_
  refine tri_part (part32 _ _ _ _) fun _ h => ?_
  refine tri_part (part33 _ _) fun _ h => ?_
  refine tri_part (part34 _ _ _ _) fun ⟨_, _⟩ h => ?_
  refine tri_part (part35 _ _ _) fun _ h => ?_
  refine tri_part (part36 _ _ _) fun _ h => ?_
  refine tri_part (part37 _ _ _ _) fun ⟨_, _, _⟩ h => ?_
  refine tri_part (part38 _ _ _ _) fun _ h => ?_
  refine tri_part (part39 _ _ _) fun _ h => ?_
  refine tri_part (part40 _ _ _ _) fun ⟨_, _, v⟩ h => ?_
  obtain rfl : v = _ := h
  refine tri_part (part41 _ _ _ _) fun ⟨_, _, _, _⟩ h => ?_
  refine tri_part (part42 _ _ _ _ _ _) fun _ h => ?_
  refine tri_part (part43 _ _ _) fun ⟨_, v, v'⟩ h => ?_
  obtain ⟨rfl, rfl⟩ : v = _ ∧ v' = _ := h
  refine tri_part (part44 _ _) fun _ h => ?_
  refine tri_part (part45 _ _) fun _ h => ?_
  refine tri_part (part46 _ _) fun ⟨_, _, _, _, _, _⟩ h => ?_
  refine tri_part (part47 _ _ _ _ _ _) fun _ h => ?_
  refine tri_part (part48 _ _) fun ⟨_, _, _, _, _⟩ h => ?_
  refine tri_part (part49 _ _ _ _ _) fun _ h => ?_
  refine tri_part (part50 _ _) fun ⟨_, _, _, _, _, _⟩ h => ?_
  refine tri_part (part51 _ _ _ _ _ _) fun _ h => ?_
  refine tri_part (part52 _ _) fun _ h => ?_
  refine tri_part (part53 _ _) fun _ h => ?_
  refine tri_part (part54 _) fun _ h => ?_
  refine tri_part (part55 _ _ _) fun ⟨_, _, _, v⟩ h => ?_
  obtain rfl : v = _ := h
  refine tri_part (part56 _ _) fun ⟨v, v'⟩ h => ?_
  obtain ⟨rfl, rfl⟩ : v = _ ∧ v' = _ := h
  refine tri_part (part57 _ _ _) fun ⟨v1, v2, v3, v4⟩ h => ?_
  obtain ⟨rfl, rfl, rfl, rfl⟩ : v1 = _ ∧ v2 = _ ∧ v3 = _ ∧ v4 = _ := h
  refine tri_step (part58 f R _ _ _ _ _) fun v h => ?_
  obtain rfl : v = _ := h
  refine tri_step (part59 _ R _) fun _ _ => ?_
  refine tri_part part60 fun _ _ => ?_
  exact tri_pure trivial

theorem body {P0 P1 R : sProp 𝕄} (f : Vec F S64x1024 .f32)
    (h1 : Go c P0 (onArgs (k0_part1 (F := F))) fun a => iprop(⌜a.1 = c⌝ ∗ P0))
    (h2 : ∀ a1 a2 a3 a4 a5 a6 a7, Go c P0 (onArgs (k0_part2 (F := F)) a1 a2 a3 a4 a5 a6 a7) fun _ => iprop(⌜True⌝ ∗ P0))
    (h3 : ∀ a1 a2 a3 a4, Go c P0 (onArgs (k0_part3 (F := F)) a1 a2 a3 a4) fun a => iprop(⌜a.2.2 = k0_pay1 (X c)⌝ ∗ P1))
    (h4 : ∀ a1 a2 a3 a4 a5 a6 a7, Go c P1 (onArgs (k0_part4 (F := F)) c a1 a2 a3 a4 a5 a6 a7 (k0_pay1 (X c))) fun _ => iprop(⌜True⌝ ∗ St X W KI c 0 iprop(oAt c f ∗ R))) :
    Go c P0 (onArgs (cc0_body (F := F))) fun _ => iprop(⌜True⌝ ∗ St X W KI c 154 iprop(oAt c (wrAll X W c f) ∗ R)) := by
  rw [cc0_body_eq_skeleton]
  unfold cc0_body_skel
  refine go_step (part72 f h1 h2 h3 h4) fun _ _ => ?_
  refine go_step (part61 _).go fun _ _ => ?_
  refine go_step (part62 _).go fun _ _ => ?_
  refine go_step (part63 _).go fun _ _ => ?_
  refine go_step (part64 _).go fun _ _ => ?_
  refine go_step (part65 _).go fun _ _ => ?_
  refine go_step (part66 _).go fun _ _ => ?_
  refine go_step (part67 _).go fun _ _ => ?_
  refine go_step (part68 _).go fun _ _ => ?_
  refine go_step (part69 _).go fun _ _ => ?_
  refine go_step (part70 _).go fun _ _ => ?_
  refine go_step (part71 _).go fun _ _ => ?_
  refine Tri.go ?_
  refine tri_fin (.b2 2) rfl (sem3 2 rfl (ent_b2s _)) rfl ?_
  exact tri_pure trivial

end

end Cert.Mesh

end
-- ==== Proof.Bufs.lean ====
/-
The buffers of a device held slot by slot, and the partial product shared out among the transfers that read it.
-/
module

public import proofs.«01_k».proof.Proof.Chain

@[expose] public section

set_option maxRecDepth 16384

noncomputable section

namespace Cert.Mesh

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## A buffer in pieces -/

theorem split_any {ℓ : Loc nD τ sig} {B : Type} [DecidableEq B] (S : Finset B) (I : B → Finset (Idx ℓ))
    (hd : ∀ b ∈ S, ∀ b' ∈ S, b ≠ b' → Disjoint (I b) (I b')) :
    (iprop(∃ f : Buf (Elt F) ℓ, ℓ ↦{fullShare} f) : sProp 𝕄)
      ⊢ iprop((bigSep S fun b => iprop(∃ f : Buf (Elt F) ℓ, ℓ ↦[I b]{fullShare} f)) ∗ ∃ f : Buf (Elt F) ℓ, ℓ ↦[Finset.univ \ S.biUnion I]{fullShare} f) := by
  iintro ⟨%f, H⟩
  ihave H := ((pointsTo_split_subset (ℓ := ℓ) (q := fullShare) (f := f) (Finset.subset_univ (S.biUnion I))).1) $$ H
  icases H with ⟨H1, H2⟩
  isplitl [H1]
  · ihave H1 := (Entails.of_eq (pointsTo_biUnion S I hd)) $$ H1
    iapply (show (bigSep S (fun b => (ℓ ↦[I b]{fullShare} f : sProp 𝕄)) : sProp 𝕄) ⊢ _ from
      bigSep_mono fun b _ => (show (ℓ ↦[I b]{fullShare} f : sProp 𝕄) ⊢ iprop(∃ f : Buf (Elt F) ℓ, ℓ ↦[I b]{fullShare} f) from by
        iintro H; iexists f; iexact H))
    iexact H1
  · iexists f; iexact H2

theorem join_any {ℓ : Loc nD τ sig} {B : Type} [DecidableEq B] (S : Finset B) (I : B → Finset (Idx ℓ))
    (hd : ∀ b ∈ S, ∀ b' ∈ S, b ≠ b' → Disjoint (I b) (I b')) :
    iprop((bigSep S fun b => iprop(∃ f : Buf (Elt F) ℓ, ℓ ↦[I b]{fullShare} f)) ∗ ∃ f : Buf (Elt F) ℓ, ℓ ↦[Finset.univ \ S.biUnion I]{fullShare} f)
      ⊢ (iprop(∃ f : Buf (Elt F) ℓ, ℓ ↦{fullShare} f) : sProp 𝕄) := by
  iintro ⟨H1, ⟨%f, H2⟩⟩
  haveI : Nonempty (Buf (Elt F) ℓ) := ⟨f⟩
  ihave H1 := (BI.bigSep_exists_pi S (fun b (f : Buf (Elt F) ℓ) => (ℓ ↦[I b]{fullShare} f : sProp 𝕄))) $$ H1
  icases H1 with ⟨%fs, H1⟩
  ihave H1 := (pointsTo_biUnion_join S I fs f hd) $$ H1
  icases H1 with ⟨%g, -, H1⟩
  ihave H := (pointsTo_join_subset (ℓ := ℓ) (q := fullShare) (g := g) (f := f) (Finset.subset_univ (S.biUnion I))) $$ [H1 H2]
  · isplitl [H1]; · iexact H1
    iexact H2
  iexists _; iexact H

/-- A memory space's slots, taken out of it and put back. -/
theorem buf_slots {s s' : Shape} (m : Memref sig .tc .vmem s .f32) {B : Type} [DecidableEq B] (S : Finset B) (r : B → Rect s)
    (h1 : ∀ b a, (r b).stride a = 1) (hq : ∀ b, (r b).shape.Squeezes s') (hd : ∀ b ∈ S, ∀ b' ∈ S, b ≠ b' → Disjoint (r b).set (r b').set) (c : Dev nD) :
    ∃ M : sProp 𝕄,
      ((iprop(∃ f : Buf (Elt F) (m.view.loc (c : Thread nD τ)), m.view.loc (c : Thread nD τ) ↦{fullShare} f) : sProp 𝕄)
        ⊢ iprop((bigSep S fun b => iprop(∃ f : Buf (Elt F) (m.view.loc (c : Thread nD τ)), m.view.loc (c : Thread nD τ) ↦[((m.slice (r b) (h1 b)).squeeze s' (hq b)).view.set]{fullShare} f)) ∗ M))
      ∧ (iprop((bigSep S fun b => iprop(∃ f : Buf (Elt F) (m.view.loc (c : Thread nD τ)), m.view.loc (c : Thread nD τ) ↦[((m.slice (r b) (h1 b)).squeeze s' (hq b)).view.set]{fullShare} f)) ∗ M)
        ⊢ (iprop(∃ f : Buf (Elt F) (m.view.loc (c : Thread nD τ)), m.view.loc (c : Thread nD τ) ↦{fullShare} f) : sProp 𝕄)) := by
  have hd' : ∀ b ∈ S, ∀ b' ∈ S, b ≠ b' → Disjoint ((m.slice (r b) (h1 b)).squeeze s' (hq b)).view.set ((m.slice (r b') (h1 b')).squeeze s' (hq b')).view.set := by
    intro b hb b' hb' hne
    rw [slot_set, slot_set]
    exact (Finset.disjoint_map _).mpr (hd b hb b' hb' hne)
  exact ⟨_, split_any S _ hd', join_any S _ hd'⟩

theorem d24 (p p' : Fin 2 × Fin 4) (h : p ≠ p') : Disjoint (R24 p.1 p.2).set (R24 p'.1 p'.2).set := by
  obtain ⟨a, b⟩ := p; obtain ⟨a', b'⟩ := p'
  by_cases ha : a = a'
  · have hb : b ≠ b' := fun hb => h (by rw [ha, hb])
    refine Rect.disjoint_of_axis _ _ 1 fun j hj j' hj' => ?_
    have e : j = 0 := Nat.lt_one_iff.mp hj
    have e' : j' = 0 := Nat.lt_one_iff.mp hj'
    subst e e'
    exact fun hh => hb (Fin.ext hh)
  · refine Rect.disjoint_of_axis _ _ 0 fun j hj j' hj' => ?_
    have e : j = 0 := Nat.lt_one_iff.mp hj
    have e' : j' = 0 := Nat.lt_one_iff.mp hj'
    subst e e'
    exact fun hh => ha (Fin.ext hh)
theorem d32 (p p' : Fin 3 × Fin 2) (h : p ≠ p') : Disjoint (R32 p.1 p.2).set (R32 p'.1 p'.2).set := by
  obtain ⟨a, b⟩ := p; obtain ⟨a', b'⟩ := p'
  by_cases ha : a = a'
  · have hb : b ≠ b' := fun hb => h (by rw [ha, hb])
    refine Rect.disjoint_of_axis _ _ 1 fun j hj j' hj' => ?_
    have e : j = 0 := Nat.lt_one_iff.mp hj
    have e' : j' = 0 := Nat.lt_one_iff.mp hj'
    subst e e'
    exact fun hh => hb (Fin.ext hh)
  · refine Rect.disjoint_of_axis _ _ 0 fun j hj j' hj' => ?_
    have e : j = 0 := Nat.lt_one_iff.mp hj
    have e' : j' = 0 := Nat.lt_one_iff.mp hj'
    subst e e'
    exact fun hh => ha (Fin.ext hh)
theorem d4 (b b' : Fin 4) (h : b ≠ b') : Disjoint (R4 b).set (R4 b').set := by
  refine Rect.disjoint_of_axis _ _ 0 fun j hj j' hj' => ?_
  have e : j = 0 := Nat.lt_one_iff.mp hj
  have e' : j' = 0 := Nat.lt_one_iff.mp hj'
  subst e e'
  exact fun hh => h (Fin.ext hh)
theorem d3 (b b' : Fin 3) (h : b ≠ b') : Disjoint (R3 b).set (R3 b').set := by
  refine Rect.disjoint_of_axis _ _ 0 fun j hj j' hj' => ?_
  have e : j = 0 := Nat.lt_one_iff.mp hj
  have e' : j' = 0 := Nat.lt_one_iff.mp hj'
  subst e e'
  exact fun hh => h (Fin.ext hh)

/-- The transfers, family by family. -/
theorem bigSep_K (Φ : K → sProp 𝕄) : bigSep Finset.univ Φ = iprop(
    (bigSep Finset.univ fun p : Fin 2 × Fin 4 => Φ (.x1 p.1 p.2)) ∗ (bigSep Finset.univ fun p : Fin 2 × Fin 4 => Φ (.y1 p.1 p.2))
    ∗ (bigSep Finset.univ fun j => Φ (.x2 j)) ∗ (bigSep Finset.univ fun j => Φ (.y2 j))
    ∗ (bigSep Finset.univ fun p : Fin 3 × Fin 2 => Φ (.bu p.1 p.2)) ∗ (bigSep Finset.univ fun p : Fin 3 × Fin 2 => Φ (.bd p.1 p.2))
    ∗ (bigSep Finset.univ fun e => Φ (.a2 e)) ∗ (bigSep Finset.univ fun e => Φ (.b2 e))) := by
  rw [bigSep_univ_equiv K.fam Φ]
  rw [bigSep_univ_sum, bigSep_univ_sum, bigSep_univ_sum, bigSep_univ_sum, bigSep_univ_sum, bigSep_univ_sum, bigSep_univ_sum]
  rfl

/-- A whole buffer with any contents. -/
abbrev anyB (c : Dev nD) (b : Ref sig .tc) : sProp 𝕄 := iprop(∃ f : Buf (Elt F) ((c : Thread nD τ).loc b), ((c : Thread nD τ).loc b) ↦{fullShare} f)

/-- The staged sources, with any contents. -/
def gAny (k : K) (c : Dev nD) : sProp 𝕄 := if isP k then iprop(emp) else sAny k c

theorem emp_of {I : Type} (S : Finset I) (Φ : I → sProp 𝕄) (h : ∀ i ∈ S, Φ i = iprop(emp)) : bigSep S Φ = iprop(emp) := by
  rw [bigSep_congr (s := S) (Φ := Φ) (Ψ := fun _ => iprop(emp)) h]; exact bigSep_emp_const S

theorem emp1_in {A B : sProp 𝕄} : iprop(A ∗ B) ⊢ iprop((A ∗ emp) ∗ B) := by
  iintro ⟨H1, H2⟩
  isplitl [H1]
  · isplitl [H1]; · iexact H1
    iempintro
  iexact H2
theorem emp1_out {A B : sProp 𝕄} : iprop((A ∗ emp) ∗ B) ⊢ iprop(A ∗ B) := by
  iintro ⟨⟨H1, -⟩, H2⟩
  isplitl [H1]; · iexact H1
  iexact H2
theorem emp2_in {A B : sProp 𝕄} : iprop(A ∗ B) ⊢ iprop((emp ∗ emp ∗ A) ∗ B) := by
  iintro ⟨H1, H2⟩
  isplitl [H1]
  · isplitr; · iempintro
    isplitr; · iempintro
    iexact H1
  iexact H2
theorem emp2_out {A B : sProp 𝕄} : iprop((emp ∗ emp ∗ A) ∗ B) ⊢ iprop(A ∗ B) := by
  iintro ⟨⟨-, -, H1⟩, H2⟩
  isplitl [H1]; · iexact H1
  iexact H2
theorem filter_split {I : Type} [DecidableEq I] (s : Finset I) (p : I → Prop) [DecidablePred p] (Φ : I → sProp 𝕄) :
    bigSep s Φ = iprop(bigSep (s.filter p) Φ ∗ bigSep (s.filter fun i => ¬p i) Φ) := BI.bigSep_filter_split s p

theorem sdiff_split {I : Type} [DecidableEq I] {s t : Finset I} (h : t ⊆ s) (Φ : I → sProp 𝕄) :
    bigSep s Φ = iprop(bigSep t Φ ∗ bigSep (s \ t) Φ) := BI.bigSep_sdiff_split h

section Scratch

variable (c : Dev nD)

theorem b24 (b : Ref sig .tc) (m : Memref sig .tc .vmem S2x4x64x256 .f32) (D : Fin 2 × Fin 4 → sProp 𝕄)
    (e : anyB (F := F) c b = iprop(∃ f : Buf (Elt F) (m.view.loc (c : Thread nD τ)), m.view.loc (c : Thread nD τ) ↦{fullShare} f))
    (hD : ∀ p, D p = iprop(∃ f : Buf (Elt F) (m.view.loc (c : Thread nD τ)), m.view.loc (c : Thread nD τ) ↦[(M24 m p.1 p.2).view.set]{fullShare} f)) :
    ∃ M : sProp 𝕄, (anyB (F := F) c b ⊢ iprop(bigSep Finset.univ D ∗ M)) ∧ (iprop(bigSep Finset.univ D ∗ M) ⊢ anyB (F := F) c b) := by
  rw [e, bigSep_congr fun p _ => hD p]
  exact buf_slots m Finset.univ (fun p : Fin 2 × Fin 4 => R24 p.1 p.2) (fun _ _ => rfl) (fun _ => squeezes_S1x1x64x256_S64x256) (fun p _ p' _ h => d24 p p' h) c
theorem b4 (b : Ref sig .tc) (m : Memref sig .tc .vmem S4x64x256 .f32) (D : Fin 4 → sProp 𝕄)
    (e : anyB (F := F) c b = iprop(∃ f : Buf (Elt F) (m.view.loc (c : Thread nD τ)), m.view.loc (c : Thread nD τ) ↦{fullShare} f))
    (hD : ∀ p, D p = iprop(∃ f : Buf (Elt F) (m.view.loc (c : Thread nD τ)), m.view.loc (c : Thread nD τ) ↦[(M4 m p).view.set]{fullShare} f)) :
    ∃ M : sProp 𝕄, (anyB (F := F) c b ⊢ iprop(bigSep Finset.univ D ∗ M)) ∧ (iprop(bigSep Finset.univ D ∗ M) ⊢ anyB (F := F) c b) := by
  rw [e, bigSep_congr fun p _ => hD p]
  exact buf_slots m Finset.univ (fun p : Fin 4 => R4 p) (fun _ _ => rfl) (fun _ => squeezes_S1x64x256_S64x256) (fun p _ p' _ h => d4 p p' h) c
theorem b3 (b : Ref sig .tc) (m : Memref sig .tc .vmem S3x64x512 .f32) (D : Fin 3 → sProp 𝕄)
    (e : anyB (F := F) c b = iprop(∃ f : Buf (Elt F) (m.view.loc (c : Thread nD τ)), m.view.loc (c : Thread nD τ) ↦{fullShare} f))
    (hD : ∀ p, D p = iprop(∃ f : Buf (Elt F) (m.view.loc (c : Thread nD τ)), m.view.loc (c : Thread nD τ) ↦[(M3 m p).view.set]{fullShare} f)) :
    ∃ M : sProp 𝕄, (anyB (F := F) c b ⊢ iprop(bigSep Finset.univ D ∗ M)) ∧ (iprop(bigSep Finset.univ D ∗ M) ⊢ anyB (F := F) c b) := by
  rw [e, bigSep_congr fun p _ => hD p]
  exact buf_slots m Finset.univ (fun p : Fin 3 => R3 p) (fun _ _ => rfl) (fun _ => squeezes_S1x64x512_S64x512) (fun p _ p' _ h => d3 p p' h) c
theorem b32 (b : Ref sig .tc) (m : Memref sig .tc .vmem S3x2x128x256 .f32) (D : Fin 3 × Fin 2 → sProp 𝕄) (T : Fin 3 × Fin 2 → Prop) [DecidablePred T]
    (e : anyB (F := F) c b = iprop(∃ f : Buf (Elt F) (m.view.loc (c : Thread nD τ)), m.view.loc (c : Thread nD τ) ↦{fullShare} f))
    (hD : ∀ p, T p → D p = iprop(∃ f : Buf (Elt F) (m.view.loc (c : Thread nD τ)), m.view.loc (c : Thread nD τ) ↦[(M32 m p.1 p.2).view.set]{fullShare} f))
    (hE : ∀ p, ¬ T p → D p = iprop(emp)) :
    ∃ M : sProp 𝕄, (anyB (F := F) c b ⊢ iprop(bigSep Finset.univ D ∗ M)) ∧ (iprop(bigSep Finset.univ D ∗ M) ⊢ anyB (F := F) c b) := by
  rw [e, filter_split Finset.univ T, emp_of (Finset.univ.filter fun i => ¬ T i) D (fun i hi => hE i (Finset.mem_filter.mp hi).2),
    bigSep_congr (s := Finset.univ.filter T) fun p hp => hD p (Finset.mem_filter.mp hp).2]
  obtain ⟨M, h1, h2⟩ := buf_slots (F := F) m (Finset.univ.filter T) (fun p : Fin 3 × Fin 2 => R32 p.1 p.2) (fun _ _ => rfl) (fun _ => squeezes_S1x1x128x256_S128x256) (fun p _ p' _ h => d32 p p' h) c
  exact ⟨M, h1.trans emp1_in, emp1_out.trans h2⟩

theorem pair2 {A B C D M N : sProp 𝕄} (h : (A ⊢ iprop(C ∗ M)) ∧ (iprop(C ∗ M) ⊢ A)) (h' : (B ⊢ iprop(D ∗ N)) ∧ (iprop(D ∗ N) ⊢ B)) :
    (iprop(A ∗ B) ⊢ iprop((C ∗ D) ∗ (M ∗ N))) ∧ (iprop((C ∗ D) ∗ (M ∗ N)) ⊢ iprop(A ∗ B)) := by
  constructor
  · iintro ⟨HA, HB⟩
    ihave HA := h.1 $$ HA
    ihave HB := h'.1 $$ HB
    icases HA with ⟨H1, H2⟩
    icases HB with ⟨H3, H4⟩
    isplitl [H1 H3]
    · isplitl [H1]; · iexact H1
      iexact H3
    isplitl [H2]; · iexact H2
    iexact H4
  · iintro ⟨⟨H1, H3⟩, H2, H4⟩
    isplitl [H1 H2]
    · iapply h.2
      isplitl [H1]; · iexact H1
      iexact H2
    · iapply h'.2
      isplitl [H3]; · iexact H3
      iexact H4

/-- The buffers of the landing slots. -/
theorem lands : ∃ M : sProp 𝕄,
    (iprop(anyB (F := F) c cc0_scratch2 ∗ anyB c cc0_scratch6 ∗ anyB c cc0_scratch4 ∗ anyB c cc0_scratch8 ∗ anyB c cc0_scratch11 ∗ anyB c cc0_scratch12 ∗ anyB c cc0_scratch14 ∗ anyB c cc0_scratch16)
      ⊢ iprop((bigSep Finset.univ fun k => dAny k c) ∗ M))
    ∧ (iprop((bigSep Finset.univ fun k => dAny k c) ∗ M)
      ⊢ iprop(anyB (F := F) c cc0_scratch2 ∗ anyB c cc0_scratch6 ∗ anyB c cc0_scratch4 ∗ anyB c cc0_scratch8 ∗ anyB c cc0_scratch11 ∗ anyB c cc0_scratch12 ∗ anyB c cc0_scratch14 ∗ anyB c cc0_scratch16)) := by
  rw [bigSep_K]
  obtain ⟨M1, h1⟩ := b24 (F := F) c cc0_scratch2 (Memref.whole cc0_scratch2) (fun p => dAny (.x1 p.1 p.2) c) rfl (fun p => rfl)
  obtain ⟨M2, h2⟩ := b24 (F := F) c cc0_scratch6 (Memref.whole cc0_scratch6) (fun p => dAny (.y1 p.1 p.2) c) rfl (fun p => rfl)
  obtain ⟨M3', h3⟩ := b4 (F := F) c cc0_scratch4 (Memref.whole cc0_scratch4) (fun p => dAny (.x2 p) c) rfl (fun p => rfl)
  obtain ⟨M4', h4⟩ := b4 (F := F) c cc0_scratch8 (Memref.whole cc0_scratch8) (fun p => dAny (.y2 p) c) rfl (fun p => rfl)
  obtain ⟨M5, h5⟩ := b32 (F := F) c cc0_scratch11 (Memref.whole cc0_scratch11) (fun p => dAny (.bu p.1 p.2) c) (fun _ => True) rfl (fun p _ => rfl) (fun _ h => absurd trivial h)
  obtain ⟨M6, h6⟩ := b32 (F := F) c cc0_scratch12 (Memref.whole cc0_scratch12) (fun p => dAny (.bd p.1 p.2) c) (fun _ => True) rfl (fun p _ => rfl) (fun _ h => absurd trivial h)
  obtain ⟨M7, h7⟩ := b3 (F := F) c cc0_scratch14 (Memref.whole cc0_scratch14) (fun p => dAny (.a2 p) c) rfl (fun p => rfl)
  obtain ⟨M8, h8⟩ := b3 (F := F) c cc0_scratch16 (Memref.whole cc0_scratch16) (fun p => dAny (.b2 p) c) rfl (fun p => rfl)
  exact ⟨_, pair2 h1 (pair2 h2 (pair2 h3 (pair2 h4 (pair2 h5 (pair2 h6 (pair2 h7 h8))))))⟩

theorem gAny_bu (p : Fin 3 × Fin 2) (h : p.1 ≠ 0) : gAny (F := F) (.bu p.1 p.2) c = iprop(∃ f : Buf (Elt F) ((Memref.whole cc0_scratch9 : Memref sig .tc .vmem S3x2x128x256 .f32).view.loc (c : Thread nD τ)),
    (Memref.whole cc0_scratch9 : Memref sig .tc .vmem S3x2x128x256 .f32).view.loc (c : Thread nD τ) ↦[(M32 (Memref.whole cc0_scratch9) p.1 p.2).view.set]{fullShare} f) := by
  have e : sM (.bu p.1 p.2) c = M32 (Memref.whole cc0_scratch9) p.1 p.2 := by unfold sM; exact if_neg h
  have e' : isP (.bu p.1 p.2) = false := decide_eq_false h
  unfold gAny sAny
  rw [e', e]; rfl
theorem gAny_bd (p : Fin 3 × Fin 2) (h : p.1 ≠ 0) : gAny (F := F) (.bd p.1 p.2) c = iprop(∃ f : Buf (Elt F) ((Memref.whole cc0_scratch10 : Memref sig .tc .vmem S3x2x128x256 .f32).view.loc (c : Thread nD τ)),
    (Memref.whole cc0_scratch10 : Memref sig .tc .vmem S3x2x128x256 .f32).view.loc (c : Thread nD τ) ↦[(M32 (Memref.whole cc0_scratch10) p.1 p.2).view.set]{fullShare} f) := by
  have e : sM (.bd p.1 p.2) c = M32 (Memref.whole cc0_scratch10) p.1 p.2 := by unfold sM; exact if_neg h
  have e' : isP (.bd p.1 p.2) = false := decide_eq_false h
  unfold gAny sAny
  rw [e', e]; rfl
theorem gAny_emp (k : K) (h : isP k = true) : gAny (F := F) k c = iprop(emp) := by unfold gAny; rw [if_pos h]

/-- The buffers of the staged sources. -/
theorem stages : ∃ M : sProp 𝕄,
    (iprop(anyB (F := F) c cc0_scratch3 ∗ anyB c cc0_scratch7 ∗ anyB c cc0_scratch9 ∗ anyB c cc0_scratch10 ∗ anyB c cc0_scratch13 ∗ anyB c cc0_scratch15)
      ⊢ iprop((bigSep Finset.univ fun k => gAny k c) ∗ M))
    ∧ (iprop((bigSep Finset.univ fun k => gAny k c) ∗ M)
      ⊢ iprop(anyB (F := F) c cc0_scratch3 ∗ anyB c cc0_scratch7 ∗ anyB c cc0_scratch9 ∗ anyB c cc0_scratch10 ∗ anyB c cc0_scratch13 ∗ anyB c cc0_scratch15)) := by
  rw [bigSep_K, emp_of (Finset.univ : Finset (Fin 2 × Fin 4)) (fun p => gAny (F := F) (.x1 p.1 p.2) c) (fun p _ => rfl),
    emp_of (Finset.univ : Finset (Fin 2 × Fin 4)) (fun p => gAny (F := F) (.y1 p.1 p.2) c) (fun p _ => rfl)]
  obtain ⟨M3', h3⟩ := b4 (F := F) c cc0_scratch3 (Memref.whole cc0_scratch3) (fun p => gAny (.x2 p) c) rfl (fun p => rfl)
  obtain ⟨M4', h4⟩ := b4 (F := F) c cc0_scratch7 (Memref.whole cc0_scratch7) (fun p => gAny (.y2 p) c) rfl (fun p => rfl)
  obtain ⟨M5, h5⟩ := b32 (F := F) c cc0_scratch9 (Memref.whole cc0_scratch9) (fun p => gAny (.bu p.1 p.2) c) (fun p => p.1 ≠ 0) rfl (fun p h => gAny_bu c p h)
    (fun p h => gAny_emp c _ (decide_eq_true (not_not.mp h)))
  obtain ⟨M6, h6⟩ := b32 (F := F) c cc0_scratch10 (Memref.whole cc0_scratch10) (fun p => gAny (.bd p.1 p.2) c) (fun p => p.1 ≠ 0) rfl (fun p h => gAny_bd c p h)
    (fun p h => gAny_emp c _ (decide_eq_true (not_not.mp h)))
  obtain ⟨M7, h7⟩ := b3 (F := F) c cc0_scratch13 (Memref.whole cc0_scratch13) (fun p => gAny (.a2 p) c) rfl (fun p => rfl)
  obtain ⟨M8, h8⟩ := b3 (F := F) c cc0_scratch15 (Memref.whole cc0_scratch15) (fun p => gAny (.b2 p) c) rfl (fun p => rfl)
  obtain ⟨hf, hb⟩ := pair2 h3 (pair2 h4 (pair2 h5 (pair2 h6 (pair2 h7 h8))))
  exact ⟨iprop(M3' ∗ M4' ∗ M5 ∗ M6 ∗ M7 ∗ M8), hf.trans emp2_in, emp2_out.trans hb⟩

end Scratch

/-! ## The partial product shared out -/

section Share

variable (X : Dev nD → Vec F S1024x64 .f32) (W : Dev nD → Vec F S64x1024 .f32) (c : Dev nD)

theorem p_rect (r : Rect S1024x1024) (h : ∀ a, r.stride a = 1) (q : PosShare TreeShare) :
    ∃ M : sProp 𝕄, ((((c : Thread nD τ).loc cc0_scratch0) ↦{q} Pm X W c : sProp 𝕄)
        ⊢ iprop(owns (c : Thread nD τ) (pM.slice r h) q (pM.view.readAt (Elt F) r.toLoadRect (Pm X W c)) ∗ M))
      ∧ (iprop(owns (c : Thread nD τ) (pM.slice r h) q (pM.view.readAt (Elt F) r.toLoadRect (Pm X W c)) ∗ M)
        ⊢ (((c : Thread nD τ).loc cc0_scratch0) ↦{q} Pm X W c : sProp 𝕄)) := by
  refine ⟨iprop(((c : Thread nD τ).loc cc0_scratch0) ↦[Finset.univ \ (pM.slice r h).view.set]{q} Pm X W c), ?_, ?_⟩
  · unfold owns
    refine (pointsTo_split_subset (Finset.subset_univ (pM.slice r h).view.set)).1.trans ?_
    iintro ⟨H1, H2⟩
    isplitl [H1]
    · iexists (Pm X W c)
      isplitr; · (ipureintro; rfl)
      iexact H1
    iexact H2
  · unfold owns
    iintro ⟨⟨%f, %hf, H1⟩, H2⟩
    have e : ∀ i ∈ (pM.slice r h).view.set, f i = Pm X W c i := by
      intro i hi
      obtain ⟨j, -, rfl⟩ := Finset.mem_map.mp hi
      exact congrFun hf j
    iapply (pointsTo_split_subset (Finset.subset_univ (pM.slice r h).view.set)).2
    isplitl [H1]
    · iapply (Entails.of_eq (pointsTo_congr e)); iexact H1
    iexact H2

theorem p_piece (k : K) (hk : isP k = true) (q : PosShare TreeShare) :
    ∃ M : sProp 𝕄, ((((c : Thread nD τ).loc cc0_scratch0) ↦{q} Pm X W c : sProp 𝕄) ⊢ iprop(owns (c : Thread nD τ) (sM k c) q (V X W k c) ∗ M))
      ∧ (iprop(owns (c : Thread nD τ) (sM k c) q (V X W k c) ∗ M) ⊢ (((c : Thread nD τ).loc cc0_scratch0) ↦{q} Pm X W c : sProp 𝕄)) := by
  match k, hk with
  | .x1 s j, _ => exact p_rect X W c (RT j (xpl s c) 0 (by decide)) (fun _ => rfl) q
  | .y1 s j, _ => exact p_rect X W c (RT j (ypl s c) 256 (by decide)) (fun _ => rfl) q
  | .bu s h, hk =>
    have hs : s = 0 := of_decide_eq_true hk
    subst hs
    exact p_rect X W c (RH (dz (zOf c)) h 512 (by decide)) (fun _ => rfl) q
  | .bd s h, hk =>
    have hs : s = 0 := of_decide_eq_true hk
    subst hs
    exact p_rect X W c (RH (uz (zOf c)) h 768 (by decide)) (fun _ => rfl) q

/-- The leaf of a transfer's share. -/
def lf (k : K) : Fin (2 ^ 7) := ⟨(sSem k).val, by have := (sSem k).isLt; have h : sig.nDmaSem = 87 := rfl; show _ < 128; omega⟩
theorem lf_inj : Function.Injective lf := fun k k' h => by
  have h' : (lf k).val = (lf k').val := congrArg Fin.val h
  exact sSem_inj k k' (Fin.ext h')
theorem lf_ne (k : K) : lf k ≠ 0 := fun h => by
  have h1 := (sems_le k).1
  have h2 : (sSem k).val = 0 := congrArg Fin.val h
  omega

/-- The transfers' readings of the partial product. -/
def pHas (k : K) : sProp 𝕄 := if isP k then sHas X W k c else iprop(emp)

theorem pshare : ∃ M : sProp 𝕄,
    ((((c : Thread nD τ).loc cc0_scratch0) ↦{fullShare} Pm X W c : sProp 𝕄)
      ⊢ iprop((((c : Thread nD τ).loc cc0_scratch0) ↦{qL} Pm X W c) ∗ (bigSep Finset.univ fun k => pHas X W c k) ∗ M))
    ∧ (iprop((((c : Thread nD τ).loc cc0_scratch0) ↦{qL} Pm X W c) ∗ (bigSep Finset.univ fun k => pHas X W c k) ∗ M)
      ⊢ (((c : Thread nD τ).loc cc0_scratch0) ↦{fullShare} Pm X W c : sProp 𝕄)) := by
  have hp : ∀ k : K, ∃ M : sProp 𝕄, ((((c : Thread nD τ).loc cc0_scratch0) ↦{ShareLeaves.leaf 7 fullShare (lf k)} Pm X W c : sProp 𝕄) ⊢ iprop(pHas X W c k ∗ M))
      ∧ (iprop(pHas X W c k ∗ M) ⊢ (((c : Thread nD τ).loc cc0_scratch0) ↦{ShareLeaves.leaf 7 fullShare (lf k)} Pm X W c : sProp 𝕄)) := by
    intro k
    unfold pHas
    by_cases hk : isP k = true
    · rw [if_pos hk]
      have e : shq k = ShareLeaves.leaf 7 fullShare (lf k) := by unfold shq; rw [if_pos hk]; rfl
      unfold sHas
      rw [e]
      exact p_piece X W c k hk _
    · rw [if_neg hk]
      refine ⟨(((c : Thread nD τ).loc cc0_scratch0) ↦{ShareLeaves.leaf 7 fullShare (lf k)} Pm X W c : sProp 𝕄), ?_, ?_⟩
      · iintro H; isplitr; · iempintro
        iexact H
      · iintro ⟨-, H⟩; iexact H
  choose M hM using hp
  have hsub : (Finset.univ.image lf) ⊆ (Finset.univ.erase 0 : Finset (Fin (2 ^ 7))) := fun i hi => by
    obtain ⟨k, -, rfl⟩ := Finset.mem_image.mp hi
    exact Finset.mem_erase.mpr ⟨lf_ne k, Finset.mem_univ _⟩
  have e : (((c : Thread nD τ).loc cc0_scratch0) ↦{fullShare} Pm X W c : sProp 𝕄)
      = bigSep Finset.univ fun i : Fin (2 ^ 7) => (((c : Thread nD τ).loc cc0_scratch0) ↦{ShareLeaves.leaf 7 fullShare i} Pm X W c : sProp 𝕄) :=
    ShareLeaves.pointsTo_leaves _ _ 7 fullShare
  rw [e, bigSep_univ_at _ 0, sdiff_split hsub,
    BI.bigSep_image_of_injOn lf_inj.injOn]
  refine ⟨iprop(bigSep Finset.univ M ∗ bigSep (Finset.univ.erase 0 \ Finset.univ.image lf) fun i => (((c : Thread nD τ).loc cc0_scratch0) ↦{ShareLeaves.leaf 7 fullShare i} Pm X W c : sProp 𝕄)), ?_, ?_⟩
  · iintro ⟨H1, H2, H3⟩
    isplitl [H1]; · iexact H1
    ihave H2 := (show (bigSep Finset.univ (fun k : K => (((c : Thread nD τ).loc cc0_scratch0) ↦{ShareLeaves.leaf 7 fullShare (lf k)} Pm X W c : sProp 𝕄)) : sProp 𝕄)
        ⊢ iprop((bigSep Finset.univ fun k => pHas X W c k) ∗ bigSep Finset.univ M) from
      (bigSep_mono fun k _ => (hM k).1).trans (Entails.of_eq (bigSep_sep' Finset.univ (fun k => pHas X W c k) M))) $$ H2
    icases H2 with ⟨H2, H4⟩
    isplitl [H2]; · iexact H2
    isplitl [H4]; · iexact H4
    iexact H3
  · iintro ⟨H1, H2, H4, H3⟩
    isplitl [H1]; · iexact H1
    isplitl [H2 H4]
    · iapply (show iprop((bigSep Finset.univ fun k => pHas X W c k) ∗ bigSep Finset.univ M)
          ⊢ (bigSep Finset.univ (fun k : K => (((c : Thread nD τ).loc cc0_scratch0) ↦{ShareLeaves.leaf 7 fullShare (lf k)} Pm X W c : sProp 𝕄)) : sProp 𝕄) from
        (Entails.of_eq (bigSep_sep' Finset.univ (fun k => pHas X W c k) M).symm).trans (bigSep_mono fun k _ => (hM k).2))
      isplitl [H2]; · iexact H2
      iexact H4
    iexact H3

end Share

end Cert.Mesh

end
-- ==== Proof.Begin.lean ====
/-
The start of a device's program: its loads, the partial product, the greetings and the wait for them.
-/
module

public import proofs.«01_k».proof.Proof.Bufs

@[expose] public section

set_option maxRecDepth 16384

noncomputable section

namespace Cert.Mesh

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

theorem bigSep_fin6 (Φ : Fin 6 → sProp 𝕄) : bigSep Finset.univ Φ = iprop(Φ 0 ∗ Φ 1 ∗ Φ 2 ∗ Φ 3 ∗ Φ 4 ∗ Φ 5) :=
  bigSep_univ_eq_bigSepL [0, 1, 2, 3, 4, 5] (by decide) (by decide) Φ

/-- A family dealt out along a map is the family. -/
theorem fibre (g : K → Fin 6) (Φ : K → sProp 𝕄) :
    (bigSep Finset.univ fun i => bigSep (Finset.univ.filter fun k => g k = i) Φ) = bigSep Finset.univ Φ := by
  have h1 : ∀ i : Fin 6, bigSep (Finset.univ.filter fun k => g k = i) Φ = bigSep Finset.univ fun k => if g k = i then Φ k else iprop(emp) :=
    fun i => BI.bigSep_filter Finset.univ (fun k => g k = i) Φ
  have h2 : ∀ k : K, (bigSep Finset.univ fun i : Fin 6 => if g k = i then Φ k else iprop(emp)) = Φ k := fun k => by
    have h3 : (bigSep (Finset.univ.filter fun i : Fin 6 => g k = i) fun _ => Φ k) = bigSep Finset.univ fun i : Fin 6 => if g k = i then Φ k else iprop(emp) :=
      BI.bigSep_filter Finset.univ (fun i : Fin 6 => g k = i) fun _ => Φ k
    rw [← h3, Finset.filter_eq, if_pos (Finset.mem_univ _), bigSep_singleton]
  rw [bigSep_congr (s := Finset.univ) fun i _ => h1 i, bigSep_univ_comm]
  exact bigSep_congr fun k _ => h2 k

theorem pay_out (c : Dev nD) : (bigSep Finset.univ fun i => barPay (F := F) (nb i c) i) = bigSep Finset.univ fun k => dAny k c := by
  rw [← fibre (fun k => whom k c) fun k => dAny k c]
  refine bigSep_congr fun i _ => ?_
  unfold barPay
  have hs : (Finset.univ.filter fun k => who k (nb i c) = i) = Finset.univ.filter fun k => whom k c = i := by
    ext k
    rw [Finset.mem_filter, Finset.mem_filter, whom_iff]
    refine ⟨fun h => ⟨h.1, h.2, ?_⟩, fun h => ⟨h.1, h.2.1⟩⟩
    have h1 := nb'_who k (nb i c)
    rw [h.2, nb'_nb] at h1
    exact h1.symm
  rw [hs]
  refine bigSep_congr fun k hk => ?_
  rw [((whom_iff k c i).mp (Finset.mem_filter.mp hk).2).2]

theorem pay_in (c : Dev nD) : (bigSep Finset.univ fun i => barPay (F := F) c i) = bigSep Finset.univ fun k => dAny k (dst k c) :=
  fibre (fun k => who k c) fun k => dAny k (dst k c)

theorem ost0 : ∀ (k : K) (c : Dev nD), ost c 0 k = if isP k then .loaded else .ready := by decide +kernel
theorem ist0 : ∀ (k : K) (c : Dev nD), ist c 0 k = .waiting := by decide +kernel

/-- What a device owes at the start: its six greetings besides its transfers. -/
def O0 (c : Dev nD) : CellTallies nD τ sig Unit :=
  Ow c 0 + tallyAt (barCell (nb 5 c)) () 1 + tallyAt (barCell (nb 4 c)) () 1 + tallyAt (barCell (nb 3 c)) () 1 + tallyAt (barCell (nb 2 c)) () 1
    + tallyAt (barCell (nb 1 c)) () 1 + tallyAt (barCell (nb 0 c)) () 1

/-- A device's positions and the tokens it pays with. -/
def Gh (c : Dev nD) : sProp 𝕄 :=
  iprop(atPos ER (barCell c) 0 ∅ 0 ∗ (bigSep Finset.univ fun k => atPos ER (sCell k c) 0 ∅ 0) ∗ (bigSep Finset.univ fun k => atPos ER (rCell k c) 0 ∅ 0)
    ∗ (bigSep Finset.univ fun i : Fin 6 => dutyTok ER (barCell (nb i c)) 0 i) ∗ (bigSep Finset.univ fun k => dutyTok ER (sCell k c) 0 0)
    ∗ (bigSep Finset.univ fun k => dutyTok ER (rCell k (dst k c)) 0 0))
def Cr (c : Dev nD) : sProp 𝕄 := iprop(cred (tallyAt (barCell c) () 6) ∗ bigSep Finset.univ fun k => cred (tallyAt (rCell k c) () (NK k)))

section

variable (X : Dev nD → Vec F S1024x64 .f32) (W : Dev nD → Vec F S64x1024 .f32) (KI : Dev nD × CI → ℕ) (c : Dev nD)

def xAt : sProp 𝕄 := ((c : Thread nD τ).loc cc0_stg0_0) ↦{fullShare} X c
def wAt : sProp 𝕄 := ((c : Thread nD τ).loc cc0_stg1_0) ↦{fullShare} W c

/-- The rest of the partial product's share. -/
def pRest : sProp 𝕄 := (pshare X W c).choose

/-- A device before it starts. -/
def Pre (f : Vec F S64x1024 .f32) (L : sProp 𝕄) : sProp 𝕄 :=
  iprop(xAt X c ∗ wAt W c ∗ anyB c cc0_scratch0 ∗ records X W KI ∗ (∃ w, owes (c : Thread nD τ) (O0 c) w) ∗ Gh c ∗ Cr c
    ∗ (bigSep Finset.univ fun k => dAny k c) ∗ (bigSep Finset.univ fun k => gAny k c) ∗ oAt c f ∗ L)
/-- What is kept aside meanwhile. -/
def Kept (L : sProp 𝕄) : sProp 𝕄 := iprop(atPos ER (barCell c) 1 ∅ 0 ∗ xAt X c ∗ wAt W c ∗ pRest X W c ∗ L)

variable {X W KI c} {f : Vec F S64x1024 .f32}

theorem begin1 {L : sProp 𝕄} : Go c (Pre X W KI c f L) (onArgs (k0_part1 (F := F))) fun a => iprop(⌜a.1 = c⌝ ∗ Pre X W KI c f L) := by
  rw [k0_part1_eq_skeleton]
  unfold k0_part1_skel Go
  simp only [Prog.lift, Prog.bind_op, Prog.bind_ret, Prog.pure_eq_ret, wp_deviceId]
  rw [wp_ret]
  iintro H
  imodintro
  isplitr; · (ipureintro; rfl)
  iexact H

theorem begin2 {L : sProp 𝕄} (a1 a2 a3 a4 a5 a6 a7) : Go c (Pre X W KI c f L) (onArgs (k0_part2 (F := F)) a1 a2 a3 a4 a5 a6 a7) fun _ => iprop(⌜True⌝ ∗ Pre X W KI c f L) := by
  rw [k0_part2_eq_skeleton]
  unfold k0_part2_skel Go
  simp only [Prog.pure_eq_ret]
  rw [wp_ret]
  iintro H
  imodintro
  isplitr; · (ipureintro; trivial)
  iexact H

theorem hz2 : (![0, 0] : Fin 2 → Nat) = fun _ => 0 := funext fun a => by fin_cases a <;> rfl

theorem begin3 {L : sProp 𝕄} (a1 a2 a3 a4) : Go c (Pre X W KI c f L) (onArgs (k0_part3 (F := F)) a1 a2 a3 a4) fun a => iprop(⌜a.2.2 = k0_pay1 (X c)⌝ ∗ Pre X W KI c f L) := by
  rw [k0_part3_eq_skeleton]
  unfold k0_part3_skel Go
  simp only [Prog.lift, Prog.bind_op, Prog.bind_ret, Prog.pure_eq_ret]
  unfold Pre xAt
  iintro ⟨Hx, H⟩
  iapply (wp_load 𝒱₀ (c : Thread nD τ) none Set.univ (m := (Memref.whole cc0_stg0_0 : Memref sig .tc .vmem S1024x64 .f32)) (S := Finset.univ) (Finset.subset_univ _)) $$ [Hx]
  · iexact Hx
  iintro Hx
  rw [wp_ret]
  imodintro
  isplitr
  · ipureintro
    exact congrArg k0_pay1 (Memref.readAt_unit_zero (Elt F) cc0_stg0_0 hz2 _ (X c))
  isplitl [Hx]; · iexact Hx
  iexact H

/-- A greeting. -/
theorem go_sig {α : Type} {Q : α → sProp 𝕄} (i : Fin 6) {d : Dev nD} (hd : d = nb i c) {O : CellTallies nD τ sig Unit} {w : Waits sig Unit} {P : sProp 𝕄}
    {kk : PUnit → Prog (TpuEff nD τ sig (Elt F) Λ₀ .tc) α} (h : Go c iprop(records X W KI ∗ owes (c : Thread nD τ) O w ∗ P) (kk ⟨⟩) Q) :
    Go c iprop(records X W KI ∗ owes (c : Thread nD τ) (O + tallyAt (barCell (nb i c)) () 1) w ∗ (dutyTok ER (barCell (nb i c)) 0 i ∗ barPay (nb i c) i) ∗ P)
      (semSignalWord d barS 1#32 >>= kk) Q := by
  subst hd
  unfold Go
  simp only [semSignalWord, Prog.lift, Prog.bind_op, Prog.bind_ret]
  iintro ⟨#HR, HO, ⟨Ht, Hp⟩, HP⟩
  iapply (Rounds.wp_signal 𝒱₀ ER (Rd X W) (c : Thread nD τ) none (dst := (nb i c : Thread nD τ)) (κ := KI (nb i c, none)) (r := 0)
      (d := i) (by rw [duties_bar]; exact Finset.mem_univ _) ((amount_bar X W (nb i c) i).trans (by decide)) () O rfl) $$ [HO Ht Hp]
  · isplitr; · iapply (rec_inv X W KI (nb i c) none); iexact HR
    isplitl [HO]; · iexact HO
    isplitl [Ht]; · iexact Ht
    isplitl [Hp]; · rw [payload_bar]; iexact Hp
    iapply (rec_reached X W KI (nb i c) none); iexact HR
  iintro HO
  iapply h.run
  isplitr; · iexact HR
  isplitl [HO]; · iexact HO
  iexact HP

/-- The wait for the six greetings. -/
theorem go_met {α : Type} {Q : α → sProp 𝕄} {w : Waits sig Unit} {P : sProp 𝕄}
    {kk : PUnit → Prog (TpuEff nD τ sig (Elt F) Λ₀ .tc) α}
    (h : Go c iprop(records X W KI ∗ (∃ w, owes (c : Thread nD τ) (Ow c 0) w) ∗ atPos ER (barCell c) 1 ∅ 0 ∗ (bigSep Finset.univ fun k => dAny k (dst k c)) ∗ P) (kk ⟨⟩) Q) :
    Go c iprop(records X W KI ∗ owes (c : Thread nD τ) (Ow c 0) w ∗ cred (tallyAt (barCell c) () 6) ∗ atPos ER (barCell c) 0 ∅ 0 ∗ P)
      (semWaitWord barS 6#32 >>= kk) Q := by
  unfold Go
  simp only [semWaitWord, Prog.lift, Prog.bind_op, Prog.bind_ret]
  iintro ⟨#HR, HO, Hc, Ha, HP⟩
  iapply (Rounds.wp_wait_rest_token 𝒱₀ ER (Rd X W) (c : Thread nD τ) none (κ := KI (c, none))
      (wpE_semWait_eq 𝒱₀ (c : Thread nD τ) none Set.univ) (Set.mem_univ _) () (O := Ow c 0) (W := w) (R := 0) (m := 0) (T := ∅)
      (by rw [expect_bar]; decide)) $$ [Hc HO Ha]
  · isplitr; · iapply (rec_inv X W KI c none); iexact HR
    isplitl [Hc]; · iexact Hc
    isplitl [HO]; · iexact HO
    isplitr
    · iapply (mayWait_of c (.reg barS) 0 1 (le_of_eq (lv_bar c ())) (fun k _ => by omega))
      iapply (rec_lev X W KI); iexact HR
    iexact Ha
  iintro ⟨HO, Ha, -, Hp⟩
  iapply h.run
  isplitr; · iexact HR
  isplitl [HO]; · iexists _; iexact HO
  isplitl [Ha]; · iexact Ha
  isplitl [Hp]
  · iapply (Entails.of_eq ((rest_bar X W c).trans (pay_in c))); iexact Hp
  iexact HP

theorem out0 (k : K) : iprop(pay2 k c ∗ pHas X W c k ∗ gAny k c) ⊢ OutSt X W k c (ost c 0 k) := by
  rw [ost0 k c]
  unfold pHas gAny
  by_cases hk : isP k = true
  · rw [if_pos hk, if_pos hk, if_pos hk]
    unfold OutSt
    iintro ⟨H1, H2, -⟩
    isplitl [H1]; · iexact H1
    iexact H2
  · rw [if_neg hk, if_neg hk, if_neg hk]
    unfold OutSt
    iintro ⟨H1, -, H2⟩
    isplitl [H1]; · iexact H1
    iexact H2

theorem out0' (k : K) : iprop(atPos ER (sCell k c) 0 ∅ 0 ∗ dutyTok ER (sCell k c) 0 0 ∗ dutyTok ER (rCell k (dst k c)) 0 0 ∗ dAny k (dst k c) ∗ pHas X W c k ∗ gAny k c)
    ⊢ OutSt X W k c (ost c 0 k) := by
  iintro ⟨H1, H2, H3, H4, H5, H6⟩
  iapply (out0 k)
  unfold pay2
  isplitl [H1 H2 H3 H4]
  · isplitl [H1]; · iexact H1
    isplitl [H2]; · iexact H2
    isplitl [H3]; · iexact H3
    iexact H4
  isplitl [H5]; · iexact H5
  iexact H6

theorem outs0 : iprop((bigSep Finset.univ fun k => atPos ER (sCell k c) 0 ∅ 0) ∗ (bigSep Finset.univ fun k => dutyTok ER (sCell k c) 0 0)
      ∗ (bigSep Finset.univ fun k => dutyTok ER (rCell k (dst k c)) 0 0) ∗ (bigSep Finset.univ fun k => dAny (F := F) k (dst k c))
      ∗ (bigSep Finset.univ fun k => pHas X W c k) ∗ (bigSep Finset.univ fun k => gAny k c))
    ⊢ bigSep Finset.univ fun k => OutSt X W k c (ost c 0 k) := by
  rw [← bigSep_sep', ← bigSep_sep', ← bigSep_sep', ← bigSep_sep', ← bigSep_sep']
  exact bigSep_mono fun k _ => out0' k

theorem ins0 : iprop((bigSep Finset.univ fun k => atPos ER (rCell k c) 0 ∅ 0) ∗ (bigSep Finset.univ fun k => cred (tallyAt (rCell k c) () (NK k))))
    ⊢ bigSep Finset.univ fun k => InSt X W k c (ist c 0 k) := by
  rw [← bigSep_sep']
  exact bigSep_mono fun k _ => by rw [ist0 k c]; exact BI.Entails.refl _

/-- What a device holds besides its greetings. -/
def Mid (X : Dev nD → Vec F S1024x64 .f32) (W : Dev nD → Vec F S64x1024 .f32) (c : Dev nD) (f : Vec F S64x1024 .f32) (L : sProp 𝕄) : sProp 𝕄 :=
  iprop((((c : Thread nD τ).loc cc0_scratch0) ↦{fullShare} Pm X W c) ∗ xAt X c ∗ wAt W c
      ∗ (bigSep Finset.univ fun k => atPos ER (sCell k c) 0 ∅ 0) ∗ (bigSep Finset.univ fun k => atPos ER (rCell k c) 0 ∅ 0)
      ∗ (bigSep Finset.univ fun k => dutyTok ER (sCell k c) 0 0) ∗ (bigSep Finset.univ fun k => dutyTok ER (rCell k (dst k c)) 0 0)
      ∗ (bigSep Finset.univ fun k => cred (tallyAt (rCell k c) () (NK k))) ∗ (bigSep Finset.univ fun k => gAny k c) ∗ oAt c f ∗ L)

theorem after_met {L : sProp 𝕄} {α : Type} (r : α) :
    Go c iprop(records X W KI ∗ (∃ w, owes (c : Thread nD τ) (Ow c 0) w) ∗ atPos ER (barCell c) 1 ∅ 0 ∗ (bigSep Finset.univ fun k => dAny k (dst k c)) ∗ Mid X W c f L)
      (.ret r) (fun _ => iprop(⌜True⌝ ∗ St X W KI c 0 iprop(oAt c f ∗ Kept X W c L))) := by
  obtain ⟨hp, -⟩ := (pshare X W c).choose_spec
  unfold Go Mid
  rw [wp_ret]
  iintro ⟨Hr, HO, Hab, Hd, Hp, Hx, Hw, Has, Har, Hts, Htr, Hcr, Hs, Ho, HL⟩
  imodintro
  isplitr; · (ipureintro; trivial)
  ihave Hp := hp $$ Hp
  icases Hp with ⟨Hq, Hph, Hpr⟩
  unfold St Kept pRest
  isplitl [Hr]; · iexact Hr
  isplitl [HO]; · iexact HO
  isplitl [Has Hts Htr Hd Hph Hs]
  · iapply (outs0 (X := X) (W := W) (c := c))
    isplitl [Has]; · iexact Has
    isplitl [Hts]; · iexact Hts
    isplitl [Htr]; · iexact Htr
    isplitl [Hd]; · iexact Hd
    isplitl [Hph]; · iexact Hph
    iexact Hs
  isplitl [Har Hcr]
  · iapply (ins0 (X := X) (W := W) (c := c))
    isplitl [Har]; · iexact Har
    iexact Hcr
  isplitl [Hq]; · iexact Hq
  isplitl [Ho]; · iexact Ho
  isplitl [Hab]; · iexact Hab
  isplitl [Hx]; · iexact Hx
  isplitl [Hw]; · iexact Hw
  isplitl [Hpr]; · iexact Hpr
  iexact HL

theorem stored (p0 : Vec F S1024x1024 .f32) :
    ((Memref.whole cc0_scratch0 : Memref sig .tc .vmem S1024x1024 .f32).access (Rect.unit (s := S1024x1024) ![0, 0] ![1024, 1024] inb_S1024x1024_S1024x1024_0_0)).write (Elt F) p0
      (k0_pay2 (k0_pay1 (X c)) ((Memref.whole cc0_stg1_0 : Memref sig .tc .vmem S64x1024 .f32).view.readAt (Elt F) (Rect.unit (s := S64x1024) ![0, 0] ![64, 1024] inb_S64x1024_S64x1024_0_0).toLoadRect (W c)))
      Finset.univ = Pm X W c :=
  (Memref.write_access_unit_zero_univ (Elt F) cc0_scratch0 hz2 _ p0 _).trans
    (congrArg (k0_pay2 (k0_pay1 (X c))) (Memref.readAt_unit_zero (Elt F) cc0_stg1_0 hz2 _ (W c)))

theorem begin4 {L : sProp 𝕄} (a1 a2 a3 a4 a5 a6 a7) : Go c (Pre X W KI c f L) (onArgs (k0_part4 (F := F)) c a1 a2 a3 a4 a5 a6 a7 (k0_pay1 (X c)))
    fun _ => iprop(⌜True⌝ ∗ St X W KI c 0 iprop(oAt c f ∗ Kept X W c L)) := by
  rw [k0_part4_eq_skeleton]
  unfold k0_part4_skel Go
  obtain ⟨e1, e2, e3, e4, e5, e6⟩ := devs_greet c
  unfold Pre wAt
  simp only [Prog.lift, Prog.bind_op, Prog.bind_ret, Prog.pure_eq_ret]
  iintro ⟨Hx, Hw, ⟨%p0, Hp⟩, Hr, ⟨%w, HO⟩, Hg, Hcr, Hd, Hs, Ho, HL⟩
  iapply (wp_load 𝒱₀ (c : Thread nD τ) none Set.univ (m := (Memref.whole cc0_stg1_0 : Memref sig .tc .vmem S64x1024 .f32)) (S := Finset.univ) (Finset.subset_univ _)) $$ [Hw]
  · iexact Hw
  iintro Hw
  iapply (wp_load 𝒱₀ (c : Thread nD τ) none Set.univ (m := (Memref.whole cc0_scratch0 : Memref sig .tc .vmem S1024x1024 .f32)) (S := Finset.univ) (Finset.subset_univ _)) $$ [Hp]
  · iexact Hp
  iintro Hp
  iapply (wp_store 𝒱₀ (c : Thread nD τ) none Set.univ (m := (Memref.whole cc0_scratch0 : Memref sig .tc .vmem S1024x1024 .f32)) (S := Finset.univ) (Mk := Finset.univ) (Finset.subset_univ _)) $$ [Hp]
  · iexact Hp
  iintro Hp
  ihave Hp := (Entails.of_eq (congrArg (fun g => (((c : Thread nD τ).loc cc0_scratch0) ↦{fullShare} g : sProp 𝕄)) (stored p0))) $$ Hp
  unfold Gh Cr O0
  icases Hg with ⟨Hab, Has, Har, Htb, Hts, Htr⟩
  icases Hcr with ⟨Hcb, Hcr⟩
  ihave Hd := (Entails.of_eq (pay_out c).symm) $$ Hd
  ihave Hsig := (Entails.of_eq ((bigSep_sep' Finset.univ (fun i : Fin 6 => (dutyTok ER (barCell (nb i c)) 0 i : sProp 𝕄)) (fun i => barPay (nb i c) i)).symm.trans (bigSep_fin6 _))) $$ [Htb Hd]
  · isplitl [Htb]; · iexact Htb
    iexact Hd
  icases Hsig with ⟨H0, H1, H2, H3, H4, H5⟩
  iapply (go_sig (X := X) (W := W) (KI := KI) 0 (dev_eq e1) (go_sig 1 (dev_eq e2) (go_sig 2 (dev_eq e3) (go_sig 3 (dev_eq e4) (go_sig 4 (dev_eq e5) (go_sig 5 (dev_eq e6)
    (go_met (w := w) (P := Mid X W c f L) (after_met _)))))))).run
  isplitl [Hr]; · iexact Hr
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [Hcb]; · iexact Hcb
  isplitl [Hab]; · iexact Hab
  unfold Mid
  isplitl [Hp]; · iexact Hp
  isplitl [Hx]; · iexact Hx
  isplitl [Hw]; · (unfold wAt; iexact Hw)
  isplitl [Has]; · iexact Has
  isplitl [Har]; · iexact Har
  isplitl [Hts]; · iexact Hts
  isplitl [Htr]; · iexact Htr
  isplitl [Hcr]; · iexact Hcr
  isplitl [Hs]; · iexact Hs
  isplitl [Ho]; · iexact Ho
  iexact HL

end

end Cert.Mesh

end
-- ==== Proof.End.lean ====
/-

How a device ends: its cells closed, every buffer whole again, the result in place.

-/
module

public import proofs.«01_k».proof.Proof.Begin

@[expose] public section

set_option maxRecDepth 16384

noncomputable section

namespace Cert.Mesh

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

theorem with_all {I : Type} [DecidableEq I] {S : Finset I} {R : sProp 𝕄} [BI.Persistent R] {Φ Ψ : I → sProp 𝕄}
    (h : ∀ i, iprop(R ∗ Φ i) ⊢ Ψ i) : iprop(R ∗ bigSep S Φ) ⊢ bigSep S Ψ :=
  (sep_mono_left (BI.bigSep_of_persistent S R)).trans (by rw [← bigSep_sep']; exact bigSep_mono fun i _ => h i)

section

variable {X : Dev nD → Vec F S1024x64 .f32} {W : Dev nD → Vec F S64x1024 .f32} {KI : Dev nD × CI → ℕ} {c : Dev nD}

theorem in_any (k : K) : dHas X W k c ⊢ dAny (F := F) k c := by
  unfold dHas dAny owns
  iintro ⟨%f, -, H⟩
  iexists f; iexact H

theorem out_any (k : K) : sHas X W k c ⊢ iprop(pHas X W c k ∗ gAny k c) := by
  unfold pHas gAny
  by_cases hk : isP k = true
  · rw [if_pos hk, if_pos hk]
    iintro H
    isplitl; · iexact H
    iempintro
  · rw [if_neg hk, if_neg hk]
    unfold sHas sAny owns
    rw [shq_full (by simpa using hk)]
    iintro ⟨%f, -, H⟩
    isplitr; · iempintro
    iexists f; iexact H

theorem out_end (k : K) : OutSt X W k c (ost c 154 k) ⊢ iprop(atPos ER (sCell k c) 1 ∅ 0 ∗ pHas X W c k ∗ gAny k c) := by
  rw [(ended k c).1]
  unfold OutSt
  exact sep_mono_right (out_any k)

theorem in_end (k : K) : InSt X W k c (ist c 154 k) ⊢ iprop(atPos ER (rCell k c) 1 ∅ 0 ∗ dAny (F := F) k c) := by
  rw [(ended k c).2]
  unfold InSt
  exact sep_mono_right (in_any k)

theorem close (i : CI) : iprop(records X W KI ∗ atPos ER (cell c i) 1 ∅ 0) ⊢ (|={Set.univ}=> semVal (cell c i) 0 : sProp 𝕄) :=
  (sep_mono_left (rec_inv X W KI c i)).trans (Rounds.cell_close ER (Rd X W) (Set.mem_univ (KI (c, i))) (fun h => h) (R := 1) (duties_later X W (cell c i)))

/-- Every counter of a device's cells at zero. -/
def Zero (c : Dev nD) : sProp 𝕄 :=
  iprop(semVal (barCell c) 0 ∗ (bigSep Finset.univ fun k => semVal (sCell k c) 0) ∗ (bigSep Finset.univ fun k => semVal (rCell k c) 0))

theorem close_all : iprop(records X W KI ∗ atPos ER (barCell c) 1 ∅ 0 ∗ (bigSep Finset.univ fun k => atPos ER (sCell k c) 1 ∅ 0) ∗ (bigSep Finset.univ fun k => atPos ER (rCell k c) 1 ∅ 0))
    ⊢ (|={Set.univ}=> Zero c : sProp 𝕄) := by
  have hs : iprop(records X W KI ∗ bigSep Finset.univ fun k => atPos ER (sCell k c) 1 ∅ 0) ⊢ (|={Set.univ}=> bigSep Finset.univ fun k => semVal (sCell k c) 0 : sProp 𝕄) :=
    (with_all fun k => close (some (k, false))).trans (bigSep_fupd _ _)
  have hr : iprop(records X W KI ∗ bigSep Finset.univ fun k => atPos ER (rCell k c) 1 ∅ 0) ⊢ (|={Set.univ}=> bigSep Finset.univ fun k => semVal (rCell k c) 0 : sProp 𝕄) :=
    (with_all fun k => close (some (k, true))).trans (bigSep_fupd _ _)
  have hb : iprop(records X W KI ∗ atPos ER (barCell c) 1 ∅ 0) ⊢ (|={Set.univ}=> semVal (barCell c) 0 : sProp 𝕄) := close none
  iintro ⟨#HR, Hb, Hs, Hr⟩
  imod hb $$ [Hb] with Hb
  · isplitr; · iexact HR
    iexact Hb
  imod hs $$ [Hs] with Hs
  · isplitr; · iexact HR
    iexact Hs
  imod hr $$ [Hr] with Hr
  · isplitr; · iexact HR
    iexact Hr
  imodintro
  unfold Zero
  isplitl [Hb]; · iexact Hb
  isplitl [Hs]; · iexact Hs
  iexact Hr

/-- What a device holds at the end. -/
def Post (X : Dev nD → Vec F S1024x64 .f32) (W : Dev nD → Vec F S64x1024 .f32) (c : Dev nD) (f : Vec F S64x1024 .f32) (L : sProp 𝕄) : sProp 𝕄 :=
  iprop(Zero c ∗ (∃ w, owes (c : Thread nD τ) 0 w) ∗ xAt X c ∗ wAt W c ∗ oAt c f ∗ anyB c cc0_scratch0
    ∗ (bigSep Finset.univ fun k => dAny k c) ∗ (bigSep Finset.univ fun k => gAny k c) ∗ L)

theorem finish {f : Vec F S64x1024 .f32} {L : sProp 𝕄} :
    St X W KI c 154 iprop(oAt c f ∗ Kept X W c L) ⊢ (|={Set.univ}=> Post X W c f L : sProp 𝕄) := by
  have ho : (bigSep Finset.univ fun k => OutSt X W k c (ost c 154 k))
      ⊢ iprop((bigSep Finset.univ fun k => atPos ER (sCell k c) 1 ∅ 0) ∗ (bigSep Finset.univ fun k => pHas X W c k) ∗ (bigSep Finset.univ fun k => gAny k c)) := by
    rw [← bigSep_sep', ← bigSep_sep']; exact bigSep_mono fun k _ => out_end k
  have hi : (bigSep Finset.univ fun k => InSt X W k c (ist c 154 k))
      ⊢ iprop((bigSep Finset.univ fun k => atPos ER (rCell k c) 1 ∅ 0) ∗ (bigSep Finset.univ fun k => dAny (F := F) k c)) := by
    rw [← bigSep_sep']; exact bigSep_mono fun k _ => in_end k
  obtain ⟨-, hp⟩ := (pshare X W c).choose_spec
  unfold St Kept pRest
  rw [Ow_zero c 154 (by decide)]
  iintro ⟨#HR, HO, Ho, Hi, Hq, Hout, Hb, Hx, Hw, Hpr, HL⟩
  ihave Ho := ho $$ Ho
  icases Ho with ⟨Has, Hph, Hg⟩
  ihave Hi := hi $$ Hi
  icases Hi with ⟨Har, Hd⟩
  imod (close_all (X := X) (W := W) (KI := KI) (c := c)) $$ [Hb Has Har] with HZ
  · isplitr; · iexact HR
    isplitl [Hb]; · iexact Hb
    isplitl [Has]; · iexact Has
    iexact Har
  imodintro
  unfold Post
  isplitl [HZ]; · iexact HZ
  isplitl [HO]; · iexact HO
  isplitl [Hx]; · iexact Hx
  isplitl [Hw]; · iexact Hw
  isplitl [Hout]; · iexact Hout
  isplitl [Hq Hph Hpr]
  · iexists (Pm X W c)
    iapply hp
    isplitl [Hq]; · iexact Hq
    isplitl [Hph]; · iexact Hph
    iexact Hpr
  isplitl [Hd]; · iexact Hd
  isplitl [Hg]; · iexact Hg
  iexact HL

/-! ## The result buffer -/

theorem RO_emb (i : Fin 4) (j : S64x256.Idx) (a : Fin 2) : ((RO i).emb j a).val = (![0, 256 * i.val] : Fin 2 → ℕ) a + 1 * (j a).val := rfl

theorem wr_in (i : Fin 4) (f : Vec F S64x1024 .f32) (v : Vec F S64x256 .f32) (j : S64x256.Idx) : wr i f v ((RO i).emb j) = v j := by
  have h := View.read_slice_write_emb (Val := Elt F) (v := (oM : Memref sig .tc .vmem S64x1024 .f32).view) (RO i) f v (M := Finset.univ) (x := j) (Finset.mem_univ j)
  rw [View.read_whole] at h
  exact h

theorem wr_out (i : Fin 4) (f : Vec F S64x1024 .f32) (v : Vec F S64x256 .f32) (y : S64x1024.Idx) (h : (y 1).val / 256 ≠ i.val) : wr i f v y = f y := by
  have h := View.read_slice_write_of_not_mem (Val := Elt F) (v := (oM : Memref sig .tc .vmem S64x1024 .f32).view) (RO i) f v (M := Finset.univ) (y := y) (fun hm => by
    obtain ⟨j, -, hj⟩ := Finset.mem_map.mp hm
    have h1 : (y 1).val = 256 * i.val + 1 * (j 1).val := by rw [← hj]; rfl
    have h2 : (j 1).val < 256 := (j 1).isLt
    omega)
  rw [View.read_whole, View.read_whole] at h
  exact h

theorem wrAll_eq (f : Vec F S64x1024 .f32) : wrAll X W c f = outV X W c := by
  funext y
  have hy : (y 1).val < 1024 := (y 1).isLt
  have key : ∀ (i : Fin 4), (y 1).val / 256 = i.val → ∀ v : Vec F S64x256 .f32, ∀ g, wr i g v y
      = v (fun a => match a with | 0 => y 0 | 1 => ⟨(y 1).val % 256, Nat.mod_lt _ (by decide)⟩) := fun i hi v g => by
    rw [← wr_in i g v]
    congr 1
    funext a
    match a with
    | 0 => exact Fin.ext (by rw [RO_emb]; show (y 0).val = 0 + 1 * (y 0).val; omega)
    | 1 => exact Fin.ext (by rw [RO_emb]; show (y 1).val = 256 * i.val + 1 * ((y 1).val % 256); omega)
  unfold wrAll wr3 outV
  generalize hq : (⟨(y 1).val / 256, _⟩ : Fin 4) = q
  have hq' : (y 1).val / 256 = q.val := congrArg Fin.val hq
  match q, hq' with
  | 0, h => rw [wr_out 3 _ _ y (by rw [h]; decide), wr_out 2 _ _ y (by rw [h]; decide), wr_out 1 _ _ y (by rw [h]; decide), key 0 h]; rfl
  | 1, h => rw [wr_out 3 _ _ y (by rw [h]; decide), wr_out 2 _ _ y (by rw [h]; decide), key 1 h]; rfl
  | 2, h => rw [wr_out 3 _ _ y (by rw [h]; decide), key 2 h]; rfl
  | 3, h => rw [key 3 h]; rfl

/-- A device from its start to its end. -/
theorem whole {f : Vec F S64x1024 .f32} {L : sProp 𝕄} : Go c (Pre X W KI c f L) (onArgs (cc0_body (F := F))) fun _ => Post X W c (outV X W c) L := by
  have h := body (X := X) (W := W) (KI := KI) (c := c) f (begin1 (L := L)) begin2 begin3 begin4
  unfold Go
  refine h.run.trans (BI.Entails.trans (wp_mono _ _ _ fun _ => ?_) (wp_fupd _ _ _ _ _))
  rw [wrAll_eq]
  iintro ⟨-, H⟩
  iapply finish; iexact H

end

end Cert.Mesh

end
-- ==== Proof.Ghost.lean ====
/-

What the launch deals the devices: the cells of all of them, the tokens handed to whoever pays with them, the credits.

-/
module

public import proofs.«01_k».proof.Proof.End

@[expose] public section

set_option maxRecDepth 16384

noncomputable section

namespace Cert.Mesh

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Families over the cells -/

theorem bigSep_CI (Φ : CI → sProp 𝕄) : bigSep Finset.univ Φ
    = iprop(Φ none ∗ (bigSep Finset.univ fun k => Φ (some (k, false))) ∗ (bigSep Finset.univ fun k => Φ (some (k, true)))) := by
  have he : (Finset.univ.erase none : Finset CI) = (Finset.univ : Finset (K × Bool)).map Function.Embedding.some := by
    ext i
    rcases i with _ | i <;> simp
  rw [bigSep_univ_at Φ none, he, bigSep_map, bigSep_univ_prod, ← bigSep_sep']
  refine congrArg (fun R => iprop(Φ none ∗ R)) (bigSep_congr fun k _ => ?_)
  rw [bigSep_univ_eq_bigSepL [false, true] (by decide) (by decide), bigSepL_cons_cons, bigSepL_singleton]
  rfl

/-- The kernel's own semaphores. -/
abbrev osem : K × Bool → SemLoc sig := fun i => csem (some i)

theorem stage_lt : ∀ (w : Fin 3) (s : Fin (spec0 w).nbuf), ((spec0 w).sem s).val < 3 := by decide

theorem own_scoped : ∀ k : K, (SemLoc.dma (sSem k) : SemLoc sig).isScoped .tc = true ∧ (SemLoc.dma (rSem k) : SemLoc sig).isScoped .tc = true := by decide +kernel

theorem own_facts : Pipeline.OwnSemFacts spec0 osem where
  isScoped i := by
    rcases i with ⟨k, _ | _⟩
    · exact (own_scoped k).1
    · exact (own_scoped k).2
  inj i j h := Option.some.inj (csem_inj h)
  disj i w s h := by
    have h3 := stage_lt w s
    rcases i with ⟨k, _ | _⟩
    · have := (sems_le k).1; rw [SemLoc.dma.inj h] at this; omega
    · have := (sems_le k).2; rw [SemLoc.dma.inj h] at this; omega

theorem own_zero (c : Dev nD) : (Pipeline.ownSems0 (Ix := Unit) (Name := ℕ) (U := UU) (Lvl := ℕ) (Val := Elt F) (τ := τ) osem c : sProp 𝕄)
    = iprop((bigSep Finset.univ fun k => semVal (sCell k c) 0) ∗ (bigSep Finset.univ fun k => semVal (rCell k c) 0)) := by
  unfold Pipeline.ownSems0
  rw [bigSep_univ_prod, ← bigSep_sep']
  refine bigSep_congr fun k _ => ?_
  rw [bigSep_univ_eq_bigSepL [false, true] (by decide) (by decide), bigSepL_cons_cons, bigSepL_singleton]
  rfl

theorem rest_zero (c : Dev nD) : (unscopedSems0 c : sProp 𝕄) = semVal (barCell c) 0 := by
  unfold unscopedSems0; rw [bigSep_eq_bigSepL_of_eq [SemLoc.reg barS] (by decide) (by decide)]; rfl

/-! ## Cells and tokens -/

def allCells : Finset (GSem nD τ sig) := Finset.univ.map ⟨fun ci : Dev nD × CI => cell ci.1 ci.2, cell_inj⟩

/-- The tokens: a greeting's by its number, a transfer's by its cell. -/
abbrev TI : Type := Fin 6 ⊕ K × Bool
def tok (x : Dev nD × TI) : GSem nD τ sig × ℕ × Fin 6 := match x.2 with
  | .inl i => (cell x.1 none, 0, i)
  | .inr kb => (cell x.1 (some kb), 0, 0)

theorem tok_inj : Function.Injective tok := by
  rintro ⟨c, i⟩ ⟨c', i'⟩ h
  rcases i with i | i <;> rcases i' with i' | i' <;> simp only [tok, Prod.mk.injEq] at h
  · obtain ⟨⟨h1, -⟩, h2⟩ := h
    rw [show c = c' from h1.1, h2.2]
  · have := csem_inj h.1.2; cases this
  · have := csem_inj h.1.2; cases this
  · obtain ⟨⟨h1, h2⟩, -⟩ := h
    rw [show c = c' from h1.1, Option.some.inj (csem_inj h2)]

def allToks : Finset (GSem nD τ sig × ℕ × Fin 6) := Finset.univ.map ⟨tok, tok_inj⟩

def u₀ : UU := (initOf (Pipeline.cells cfgs cellOf_inj) (Pipeline.launchToks cfgs cellOf_inj), initOf allCells allToks)

/-- The tokens of a device's own cells. -/
def toks (c : Dev nD) : sProp 𝕄 :=
  iprop((bigSep Finset.univ fun i : Fin 6 => dutyTok ER (barCell c) 0 i) ∗ (bigSep Finset.univ fun k => dutyTok ER (sCell k c) 0 0)
    ∗ (bigSep Finset.univ fun k => dutyTok ER (rCell k c) 0 0))
/-- The tokens a device pays with. -/
def pays (c : Dev nD) : sProp 𝕄 :=
  iprop((bigSep Finset.univ fun i : Fin 6 => dutyTok ER (barCell (nb i c)) 0 i) ∗ (bigSep Finset.univ fun k => dutyTok ER (sCell k c) 0 0)
    ∗ (bigSep Finset.univ fun k => dutyTok ER (rCell k (dst k c)) 0 0))

theorem toks_pays : (bigSep Finset.univ fun c => toks (F := F) c) = bigSep Finset.univ fun c => pays c := by
  have h1 : (bigSep Finset.univ fun c : Dev nD => bigSep Finset.univ fun i : Fin 6 => (dutyTok ER (barCell c) 0 i : sProp 𝕄))
      = bigSep Finset.univ fun c : Dev nD => bigSep Finset.univ fun i : Fin 6 => dutyTok ER (barCell (nb i c)) 0 i := by
    rw [bigSep_univ_comm, bigSep_univ_comm (fun (c : Dev nD) (i : Fin 6) => (dutyTok ER (barCell (nb i c)) 0 i : sProp 𝕄))]
    exact bigSep_congr fun i _ => bigSep_univ_equiv (nbPerm i) fun c : Dev nD => (dutyTok ER (barCell c) 0 i : sProp 𝕄)
  have h2 : (bigSep Finset.univ fun c : Dev nD => bigSep Finset.univ fun k : K => (dutyTok ER (rCell k c) 0 0 : sProp 𝕄))
      = bigSep Finset.univ fun c : Dev nD => bigSep Finset.univ fun k : K => dutyTok ER (rCell k (dst k c)) 0 0 := by
    rw [bigSep_univ_comm, bigSep_univ_comm (fun (c : Dev nD) (k : K) => (dutyTok ER (rCell k (dst k c)) 0 0 : sProp 𝕄))]
    exact bigSep_congr fun k _ => bigSep_univ_equiv (perm k) fun c : Dev nD => (dutyTok ER (rCell k c) 0 0 : sProp 𝕄)
  unfold toks pays
  rw [bigSep_sep', bigSep_sep', bigSep_sep', bigSep_sep', h1, h2]

section

variable (X : Dev nD → Vec F S1024x64 .f32) (W : Dev nD → Vec F S64x1024 .f32)

/-- What the launch element deals a device. -/
def Dealt (c : Dev nD) : sProp 𝕄 :=
  iprop((bigSep Finset.univ fun i => roundState ER (Rd X W) (cell c i) 0)
    ∗ (bigSep Finset.univ fun i => atPos ER (cell c i) 0 ∅ 0) ∗ (bigSep Finset.univ fun i => reached ER (cell c i) 0) ∗ toks c)

theorem fund_all : BI.own (ER (initOf allCells allToks)) ⊢ (|==> bigSep Finset.univ (Dealt X W) : sProp 𝕄) := by
  have hX (Φ : GSem nD τ sig → sProp 𝕄) : bigSep allCells Φ = bigSep Finset.univ fun c : Dev nD => bigSep Finset.univ fun i : CI => Φ (cell c i) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    refine bigSep_congr fun c _ => ?_
    unfold toks
    rw [bigSep_univ_sum, bigSep_univ_prod]
    refine congrArg (fun R => iprop((bigSep Finset.univ fun i : Fin 6 => (dutyTok ER (barCell c) 0 i : sProp 𝕄)) ∗ R)) ?_
    rw [← bigSep_sep']
    refine bigSep_congr fun k _ => ?_
    rw [bigSep_univ_eq_bigSepL [false, true] (by decide) (by decide), bigSepL_cons_cons, bigSepL_singleton]
    rfl
  iintro HX
  imod (Rounds.fund ER (Rd X W) allCells allToks) $$ HX with ⟨Hst, Hr, Hat, Htok⟩
  imodintro
  ihave Hst := (Entails.of_eq (hX fun g => roundState ER (Rd X W) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold Dealt
  simp only [bigSep_sep']
  isplitl [Hst]; · iexact Hst
  isplitl [Hat]; · iexact Hat
  isplitl [Hr]; · iexact Hr
  iexact Htok

theorem alloc_one (c : Dev nD) :
    iprop(Pipeline.ownSems0 (Ix := Unit) (Name := ℕ) (U := UU) (Lvl := ℕ) (Val := Elt F) (τ := τ) osem c ∗ unscopedSems0 c ∗ Dealt X W c)
      ⊢ |={Set.univ}=> iprop((bigSep Finset.univ fun i => iprop(∃ κ : ℕ, cellInv ER (Rd X W) κ (cell c i)))
          ∗ (bigSep Finset.univ fun i => atPos ER (cell c i) 0 ∅ 0) ∗ (bigSep Finset.univ fun i => reached ER (cell c i) 0) ∗ toks c) := by
  have hv : iprop((bigSep Finset.univ fun i : CI => semVal (cell c i) 0) ∗ bigSep Finset.univ fun i : CI => roundState ER (Rd X W) (cell c i) 0)
      ⊢ (|={Set.univ}=> bigSep Finset.univ fun i => iprop(∃ κ : ℕ, cellInv ER (Rd X W) κ (cell c i)) : sProp 𝕄) := by
    rw [← bigSep_sep']
    exact (bigSep_mono fun i _ => (Rounds.body_intro ER (Rd X W) (cell c i)).trans inv_alloc).trans (bigSep_fupd _ _)
  rw [own_zero, rest_zero]
  unfold Dealt
  iintro ⟨⟨Hs, Hr⟩, Hb, Hst, Hat, Hre, Htok⟩
  imod hv $$ [Hs Hr Hb Hst] with Hinv
  · isplitr [Hst]
    · iapply (Entails.of_eq (bigSep_CI fun i : CI => (semVal (cell c i) 0 : sProp 𝕄)).symm)
      isplitl [Hb]; · iexact Hb
      isplitl [Hs]; · iexact Hs
      iexact Hr
    iexact Hst
  imodintro
  isplitl [Hinv]; · iexact Hinv
  isplitl [Hat]; · iexact Hat
  isplitl [Hre]; · iexact Hre
  iexact Htok

/-- The facts about every cell that the devices share. -/
def Facts0 (KI : Dev nD × CI → ℕ) : sProp 𝕄 :=
  iprop((bigSep Finset.univ fun ci : Dev nD × CI => cellInv ER (Rd X W) (KI ci) (cell ci.1 ci.2))
    ∗ (bigSep Finset.univ fun ci : Dev nD × CI => reached ER (cell ci.1 ci.2) 0))

instance Facts0_persistent (KI : Dev nD × CI → ℕ) : BI.Persistent (Facts0 X W KI) := by unfold Facts0; infer_instance

/-- What each device gets of the cells. -/
def Mine (c : Dev nD) : sProp 𝕄 := iprop(∃ KI, Facts0 X W KI ∗ Gh c)

theorem mine_intro (KI : Dev nD × CI → ℕ) (c : Dev nD) :
    iprop(Facts0 X W KI ∗ (bigSep Finset.univ fun i => atPos ER (cell c i) 0 ∅ 0) ∗ pays c) ⊢ Mine X W c := by
  rw [bigSep_CI fun i : CI => (atPos ER (cell c i) 0 ∅ 0 : sProp 𝕄)]
  unfold Mine Gh pays
  iintro ⟨HF, ⟨H1, H2, H3⟩, H4, H5, H6⟩
  iexists KI
  isplitl [HF]; · iexact HF
  isplitl [H1]; · iexact H1
  isplitl [H2]; · iexact H2
  isplitl [H3]; · iexact H3
  isplitl [H4]; · iexact H4
  isplitl [H5]; · iexact H5
  iexact H6

theorem share_out :
    (bigSep Finset.univ fun c : Dev nD => iprop((bigSep Finset.univ fun i => iprop(∃ κ : ℕ, cellInv ER (Rd X W) κ (cell c i)))
          ∗ (bigSep Finset.univ fun i => atPos ER (cell c i) 0 ∅ 0) ∗ (bigSep Finset.univ fun i => reached ER (cell c i) 0) ∗ toks c) : sProp 𝕄)
      ⊢ bigSep Finset.univ (Mine X W) := by
  rw [bigSep_sep', bigSep_sep', bigSep_sep', toks_pays,
    ← bigSep_univ_prod (fun ci : Dev nD × CI => iprop(∃ κ : ℕ, cellInv ER (Rd X W) κ (cell ci.1 ci.2))),
    ← bigSep_univ_prod (fun ci : Dev nD × CI => (reached ER (cell ci.1 ci.2) 0 : sProp 𝕄))]
  iintro ⟨HI, Hat, #HR, Htok⟩
  ihave HK := (BI.bigSep_exists_pi Finset.univ (fun (ci : Dev nD × CI) (κ : ℕ) => (cellInv ER (Rd X W) κ (cell ci.1 ci.2) : sProp 𝕄))) $$ HI
  icases HK with ⟨%KI, #HI⟩
  iapply (with_all (R := Facts0 X W KI) fun c => mine_intro X W KI c)
  isplitr
  · unfold Facts0
    isplitl; · iexact HI
    iexact HR
  · iapply (Entails.of_eq (bigSep_sep' Finset.univ (fun c : Dev nD => bigSep Finset.univ fun i : CI => (atPos ER (cell c i) 0 ∅ 0 : sProp 𝕄)) pays).symm)
    isplitl [Hat]; · iexact Hat
    iexact Htok

theorem glob : (bigSep Finset.univ fun c => iprop(Pipeline.ownSems0 (Ix := Unit) (Name := ℕ) (U := UU) (Lvl := ℕ) (Val := Elt F) (τ := τ) osem c ∗ unscopedSems0 c ∗ Dealt X W c) : sProp 𝕄)
    ⊢ |={Set.univ}=> bigSep Finset.univ (Mine X W) :=
  ((bigSep_mono fun c _ => alloc_one X W c).trans (bigSep_fupd _ _)).trans (BI.fupd_mono (share_out X W))

end

/-! ## Credits -/

theorem bar_iff {a b : Dev nD} : barCell a = barCell b ↔ a = b := ⟨fun h => congrArg (fun g : GSem nD τ sig => g.1.1) h, fun h => h ▸ rfl⟩
theorem r_iff {k k' : K} {a b : Dev nD} : rCell k a = rCell k' b ↔ k = k' ∧ a = b :=
  ⟨fun h => ⟨rSem_inj k k' (SemLoc.dma.inj (congrArg Prod.snd h)), congrArg (fun g : GSem nD τ sig => g.1.1) h⟩, fun h => by rw [h.1, h.2]⟩
theorem r_ne_bar (k : K) (a b : Dev nD) : rCell k a ≠ barCell b := fun h => by cases congrArg Prod.snd h

theorem Ow_bar (d c : Dev nD) : Ow d 0 (barCell c) () = 0 := by
  by_contra h
  obtain ⟨k, -, hk⟩ := Ow_pos (Nat.pos_of_ne_zero h)
  exact r_ne_bar k _ c hk.symm

theorem Ow_r (d c : Dev nD) (k : K) : Ow d 0 (rCell k c) () = if d = src k c then NK k else 0 := by
  unfold Ow
  rw [Finset.sum_apply, Finsupp.finset_sum_apply, Finset.sum_eq_single k]
  · rw [if_pos (Nat.zero_le _), tallyAt_apply]
    refine if_congr ⟨fun h => ?_, fun h => ?_⟩ rfl rfl
    · rw [(r_iff.mp h.1).2, src_dst]
    · rw [h, dst_src]; exact ⟨rfl, rfl⟩
  · intro k' _ hk'
    rw [if_pos (Nat.zero_le _), tallyAt_apply, if_neg fun h => hk' (r_iff.mp h.1).1.symm]
  · intro h; exact absurd (Finset.mem_univ k) h

theorem greet_bar (i : Fin 6) (d c : Dev nD) : (tallyAt (barCell (nb i d)) () 1 : CellTallies nD τ sig Unit) (barCell c) () = if d = nb' i c then 1 else 0 := by
  rw [tallyAt_apply]
  refine if_congr ⟨fun h => ?_, fun h => ?_⟩ rfl rfl
  · rw [bar_iff.mp h.1, nb'_nb]
  · rw [h, nb_nb']; exact ⟨rfl, rfl⟩
theorem greet_r (i : Fin 6) (d c : Dev nD) (k : K) : (tallyAt (barCell (nb i d)) () 1 : CellTallies nD τ sig Unit) (rCell k c) () = 0 := by
  rw [tallyAt_apply, if_neg fun h => r_ne_bar k _ _ h.1]

theorem owed_bar (d c : Dev nD) : O0 d (barCell c) ()
    = 0 + (if d = nb' 5 c then 1 else 0) + (if d = nb' 4 c then 1 else 0) + (if d = nb' 3 c then 1 else 0) + (if d = nb' 2 c then 1 else 0)
      + (if d = nb' 1 c then 1 else 0) + (if d = nb' 0 c then 1 else 0) := by
  unfold O0
  simp only [Pi.add_apply, Finsupp.add_apply]
  rw [Ow_bar, greet_bar, greet_bar, greet_bar, greet_bar, greet_bar, greet_bar]
theorem owed_r (d c : Dev nD) (k : K) : O0 d (rCell k c) () = if d = src k c then NK k else 0 := by
  unfold O0
  simp only [Pi.add_apply, Finsupp.add_apply]
  rw [Ow_r, greet_r, greet_r, greet_r, greet_r, greet_r, greet_r]
  simp only [Nat.add_zero]

theorem launch_bar (c : Dev nD) :
    tallyOn (barCell c) (launchCredit (Pipeline.owing O0) 0 (barCell c)) = (tallyAt (barCell c) () 6 : CellTallies nD τ sig Unit) := by
  unfold tallyAt
  refine congrArg _ (Finsupp.ext fun u => ?_)
  cases u
  rw [Pipeline.launchCredit_owing, Finsupp.single_eq_same, Finset.sum_congr rfl fun d _ => owed_bar d c]
  simp only [Finset.sum_add_distrib, Finset.sum_ite_eq', Finset.mem_univ, if_true, Finset.sum_const_zero]

theorem launch_r (c : Dev nD) (k : K) :
    tallyOn (rCell k c) (launchCredit (Pipeline.owing O0) 0 (rCell k c)) = (tallyAt (rCell k c) () (NK k) : CellTallies nD τ sig Unit) := by
  unfold tallyAt
  refine congrArg _ (Finsupp.ext fun u => ?_)
  cases u
  rw [Pipeline.launchCredit_owing, Finsupp.single_eq_same, Finset.sum_congr rfl fun d _ => owed_r d c k, Finset.sum_ite_eq' Finset.univ (src k c) fun _ => NK k,
    if_pos (Finset.mem_univ _)]

theorem creds (c : Dev nD) : (Pipeline.launchCred O0 c : sProp 𝕄) ⊢ Cr c := by
  unfold Pipeline.launchCred Cr
  rw [bigSep_univ_at _ (SemLoc.reg barS), launch_bar]
  refine sep_mono_right ?_
  have hs : (Finset.univ : Finset K).map ⟨fun k => (SemLoc.dma (rSem k) : SemLoc sig), fun k k' h => rSem_inj k k' (SemLoc.dma.inj h)⟩ ⊆ Finset.univ.erase (SemLoc.reg barS) := by
    intro s hs
    obtain ⟨k, hk, rfl⟩ := Finset.mem_map.mp hs
    exact Finset.mem_erase.mpr ⟨fun h => (nomatch h), Finset.mem_univ _⟩
  refine (BI.bigSep_subset hs).trans ?_
  rw [bigSep_map]
  exact Entails.of_eq (bigSep_congr fun k _ => congrArg cred (launch_r c k))

/-- What a device owes at the start lies above the staging cells. -/
theorem O0_pos {c : Dev nD} {g : GSem nD τ sig} {u : Unit} (h : 0 < O0 c g u) : (∃ k, g = rCell k (dst k c)) ∨ ∃ i, g = barCell (nb i c) := by
  by_contra hn
  rw [not_or] at hn
  obtain ⟨h1, h2⟩ := hn
  have h3 : Ow c 0 g u = 0 := by
    by_contra h0
    obtain ⟨k, -, hk⟩ := Ow_pos (Nat.pos_of_ne_zero h0)
    exact h1 ⟨k, hk⟩
  have h4 : ∀ i, (tallyAt (barCell (nb i c)) () 1 : CellTallies nD τ sig Unit) g u = 0 := fun i => by
    rw [tallyAt_apply, if_neg fun h => h2 ⟨i, h.1⟩]
  unfold O0 at h
  simp only [Pi.add_apply, Finsupp.add_apply] at h
  rw [h3, h4, h4, h4, h4, h4, h4] at h
  exact Nat.lt_irrefl 0 h

theorem mayWait_stage (c : Dev nD) (q : DmaSem sig) (hq : q.val < 3) (O : CellTallies nD τ sig Unit) (hO : O = O0 c ∨ O = 0) :
    (levAts Lv lv : sProp 𝕄) ⊢ MayWait (c : Thread nD τ) (.dma q) () O := by
  rcases hO with rfl | rfl
  · refine MayOwe.of_cut (L := Lv) (lev := lv) 0 (fun p hp => by rw [Finset.mem_singleton.mp hp, L_tc]; exact Finset.mem_singleton_self _)
      (fun g u hg => by rcases O0_pos hg with ⟨k, rfl⟩ | ⟨i, rfl⟩ <;> (rw [L_tc]; exact Finset.mem_singleton_self _))
      (fun p hp => by rw [Finset.mem_singleton.mp hp]; exact le_of_eq (lv_stage c q hq ()))
      (fun g u hg => by
        rcases O0_pos hg with ⟨k, rfl⟩ | ⟨i, rfl⟩
        · rw [lv_r]; omega
        · rw [lv_bar]; omega)
  · rw [MayWait_zero]; iintro -; iempintro

end Cert.Mesh

end
-- ==== Proof.Run.lean ====
/-

The launch and the run: from any memory with every counter at zero the program ends, each device's result holding what
the last tile left there, its arguments as they were, every counter at zero again.

-/
module

public import proofs.«01_k».proof.Proof.Ghost
public import Idealize.ShloMosaic.Lib.Pipeline.CollectiveSegs
public import proofs.«01_k».proof.Proof.Gen.KernelIdeal.Points

@[expose] public section

set_option maxRecDepth 16384

noncomputable section

namespace Cert.Mesh

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

def start₀ : MemSt nD τ sig (Elt F) := ⟨m, fun _ => 0, ρ⟩

/-- The blocks the pipeline fetches. -/
def Xs (c : Dev nD) : Vec F S1024x64 .f32 := (win0_0.blk t0_0).view.read (Elt F) (m ((c : Thread nD τ).loc main_arg0))
def Ws (c : Dev nD) : Vec F S64x1024 .f32 := (win0_1.blk t0_0).view.read (Elt F) (m ((c : Thread nD τ).loc main_arg1))
def Res (c : Dev nD) : Vec F S64x1024 .f32 := outV (Xs m) (Ws m) c

/-! ## The scratch buffers, cut as the body uses them -/

/-- The scratch the transfers do not touch. -/
def Left (c : Dev nD) : sProp 𝕄 := iprop(anyB c cc0_scratch1 ∗ anyB c cc0_scratch5 ∗ (lands (F := F) c).choose ∗ (stages (F := F) c).choose)

theorem cut (c : Dev nD) : (Pipeline.scopedRest (Ix := Unit) (Name := ℕ) (U := UU) (Lvl := ℕ) (Val := Elt F) spec0 c : sProp 𝕄)
    ⊢ iprop(anyB c cc0_scratch0 ∗ (bigSep Finset.univ fun k => dAny k c) ∗ (bigSep Finset.univ fun k => gAny k c) ∗ Left c) := by
  rw [scopedRest0_eq]
  unfold Left
  iintro ⟨H0, H1, H2, H3, H4, H5, H6, H7, H8, H9, H10, H11, H12, H13, H14, H15, H16⟩
  ihave HL := (lands (F := F) c).choose_spec.1 $$ [H2 H6 H4 H8 H11 H12 H14 H16]
  · unfold anyB
    isplitl [H2]; · iexact H2
    isplitl [H6]; · iexact H6
    isplitl [H4]; · iexact H4
    isplitl [H8]; · iexact H8
    isplitl [H11]; · iexact H11
    isplitl [H12]; · iexact H12
    isplitl [H14]; · iexact H14
    iexact H16
  ihave HS := (stages (F := F) c).choose_spec.1 $$ [H3 H7 H9 H10 H13 H15]
  · unfold anyB
    isplitl [H3]; · iexact H3
    isplitl [H7]; · iexact H7
    isplitl [H9]; · iexact H9
    isplitl [H10]; · iexact H10
    isplitl [H13]; · iexact H13
    iexact H15
  icases HL with ⟨HL, HM⟩
  icases HS with ⟨HS, HN⟩
  isplitl [H0]; · unfold anyB; iexact H0
  isplitl [HL]; · iexact HL
  isplitl [HS]; · iexact HS
  isplitl [H1]; · unfold anyB; iexact H1
  isplitl [H5]; · unfold anyB; iexact H5
  isplitl [HM]; · iexact HM
  iexact HN

theorem paste (c : Dev nD) : iprop(anyB (F := F) c cc0_scratch0 ∗ (bigSep Finset.univ fun k => dAny k c) ∗ (bigSep Finset.univ fun k => gAny k c) ∗ Left c)
    ⊢ (Pipeline.scopedRest (Ix := Unit) (Name := ℕ) (U := UU) (Lvl := ℕ) (Val := Elt F) spec0 c : sProp 𝕄) := by
  rw [scopedRest0_eq]
  unfold Left
  iintro ⟨H0, HL, HS, H1, H5, HM, HN⟩
  ihave HL := (lands (F := F) c).choose_spec.2 $$ [HL HM]
  · isplitl [HL] <;> iassumption
  ihave HS := (stages (F := F) c).choose_spec.2 $$ [HS HN]
  · isplitl [HS] <;> iassumption
  unfold anyB
  icases HL with ⟨H2, H6, H4, H8, H11, H12, H14, H16⟩
  icases HS with ⟨H3, H7, H9, H10, H13, H15⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iexact H16

/-! ## The pipeline's proof data -/

def begun (c : Dev nD) : sProp 𝕄 := iprop(Mine (Xs m) (Ws m) c ∗ Cr c ∗ levAts Lv lv)
def Φ₀ (c : Dev nD) : sProp 𝕄 := iprop(begun m c ∗ Pipeline.scopedRest (Ix := Unit) (Name := ℕ) (U := UU) (Lvl := ℕ) (Val := Elt F) spec0 c)
def Φ₁ (c : Dev nD) : sProp 𝕄 := iprop(Zero c ∗ Pipeline.scopedRest (Ix := Unit) (Name := ℕ) (U := UU) (Lvl := ℕ) (Val := Elt F) spec0 c)

def dats (_ : Fin 1) (c : Dev nD) : Dat τ (Elt F) Unit ℕ UU ℕ cfg0 c where
  A w := (start₀ m ρ).mem ((cfg0.win w).arr.view.loc (c : Thread nD τ))
  after w _ := match w with
    | ⟨0, _⟩ => Xs m c
    | ⟨1, _⟩ => Ws m c
    | ⟨2, _⟩ => Res m c
  Φ t := match t with
    | ⟨0, _⟩ => Φ₀ m c
    | ⟨_ + 1, _⟩ => Φ₁ c
  q _ := fullShare
  owed t := match t with
    | ⟨0, _⟩ => O0 c
    | ⟨_ + 1, _⟩ => 0

theorem fetch_0 (t : Fin cfg0.N) : (cfg0.win (0 : Fin 3)).fetch t = true := by rw [fin_N0 t]; rfl
theorem fetch_1 (t : Fin cfg0.N) : (cfg0.win (1 : Fin 3)).fetch t = true := by rw [fin_N0 t]; rfl

theorem owns_whole_eq (c : Dev nD) (b : Ref sig .tc) (A : b.ty.Contents (Elt F)) :
    (owns (Ix := Unit) (Name := ℕ) (U := UU) (Lvl := ℕ) (c : Thread nD τ) (Memref.whole b) fullShare A : sProp 𝕄)
      = iprop(∃ f : Buf (Elt F) (((c : Dev nD) : Thread nD τ).loc b), ⌜f = A⌝ ∗ (((c : Thread nD τ).loc b) ↦{fullShare} f)) := by
  unfold owns; simp only [Memref.view_whole, View.read_whole, View.set_whole]

abbrev stg (c : Dev nD) (b : Ref sig .tc) (A : b.ty.Contents (Elt F)) : sProp 𝕄 :=
  iprop(∃ f : Buf (Elt F) (((c : Dev nD) : Thread nD τ).loc b), ⌜f = A⌝ ∗ (((c : Thread nD τ).loc b) ↦{fullShare} f))

def bodyPre (c : Dev nD) : sProp 𝕄 :=
  iprop(Φ₀ m c ∗ (dats m ρ 0 c).owesAt () t0_0.castSucc
    ∗ (∃ d, stg c cc0_stg0_0 ((dats m ρ 0 c).before (0 : Fin 3) t0_0 d))
    ∗ (∃ d, stg c cc0_stg1_0 ((dats m ρ 0 c).before (1 : Fin 3) t0_0 d))
    ∗ (∃ d, stg c cc0_stg2_0 ((dats m ρ 0 c).before (2 : Fin 3) t0_0 d)))

def bodyPost (c : Dev nD) : sProp 𝕄 :=
  iprop(Φ₁ c ∗ (dats m ρ 0 c).owesAt () t0_0.succ ∗ stg c cc0_stg0_0 (Xs m c) ∗ stg c cc0_stg1_0 (Ws m c) ∗ stg c cc0_stg2_0 (Res m c))

theorem body_pre (c : Dev nD) : bodyPre m ρ c ⊢ iprop(∃ (KI : Dev nD × CI → ℕ) (f : Vec F S64x1024 .f32), Pre (Xs m) (Ws m) KI c f (Left c)) := by
  unfold bodyPre Φ₀ begun Mine
  iintro ⟨⟨⟨⟨%KI, HF, HG⟩, HC, Hlev⟩, HR⟩, Ho, ⟨%d0, %g0, %hg0, Hx⟩, ⟨%d1, %g1, %hg1, Hw⟩, ⟨%d2, %g2, %hg2, Hout⟩⟩
  have hx : g0 = Xs m c := by rw [hg0]; unfold Dat.before; rw [if_pos (fetch_0 t0_0)]; rfl
  have hw : g1 = Ws m c := by rw [hg1]; unfold Dat.before; rw [if_pos (fetch_1 t0_0)]; rfl
  subst hx hw
  unfold Dat.owesAt Pipeline.owesWithin
  icases Ho with ⟨%A, %hA, HO⟩
  ihave HR := (cut c) $$ HR
  icases HR with ⟨H0, HL, HS, HM⟩
  iexists KI
  iexists g2
  unfold Pre xAt wAt oAt records Facts0
  icases HF with ⟨HF1, HF2⟩
  isplitl [Hx]; · iexact Hx
  isplitl [Hw]; · iexact Hw
  isplitl [H0]; · iexact H0
  isplitl [HF1 HF2 Hlev]
  · isplitl [HF1]; · iexact HF1
    isplitl [HF2]; · iexact HF2
    iexact Hlev
  isplitl [HO]
  · iexists A
    rw [show (dats m ρ 0 c).owed t0_0.castSucc = O0 c from rfl]
    iexact HO
  isplitl [HG]; · iexact HG
  isplitl [HC]; · iexact HC
  isplitl [HL]; · iexact HL
  isplitl [HS]; · iexact HS
  isplitl [Hout]; · iexact Hout
  iexact HM

theorem body_post (c : Dev nD) : Post (Xs m) (Ws m) c (outV (Xs m) (Ws m) c) (Left c) ⊢ bodyPost m ρ c := by
  unfold Post bodyPost Φ₁ xAt wAt oAt Res
  iintro ⟨HZ, ⟨%w, HO⟩, Hx, Hw, Hout, H0, HL, HS, HM⟩
  isplitl [HZ H0 HL HS HM]
  · isplitl [HZ]; · iexact HZ
    iapply (paste c)
    isplitl [H0]; · iexact H0
    isplitl [HL]; · iexact HL
    isplitl [HS]; · iexact HS
    iexact HM
  isplitl [HO]
  · unfold Dat.owesAt Pipeline.owesWithin
    rw [show (dats m ρ 0 c).owed t0_0.succ = 0 from rfl]
    iexists w
    isplitr; · ipureintro; exact fun _ _ => Or.inl trivial
    iexact HO
  isplitl [Hx]
  · iexists _; isplitr; · (ipureintro; rfl)
    iexact Hx
  isplitl [Hw]
  · iexists _; isplitr; · (ipureintro; rfl)
    iexact Hw
  iexists _; isplitr; · (ipureintro; rfl)
  iexact Hout

theorem body_run (c : Dev nD) : Go c (bodyPre m ρ c) (onArgs (cc0_body (F := F))) fun _ => bodyPost m ρ c := by
  unfold Go
  refine (body_pre m ρ c).trans ?_
  iintro ⟨%KI, %f, H⟩
  have h := whole (X := Xs m) (W := Ws m) (KI := KI) (c := c) (f := f) (L := Left c)
  unfold Go at h
  iapply (h.trans (wp_mono _ _ _ fun _ => body_post m ρ c))
  iexact H

theorem body_obligation (c : Dev nD) : BodyObligation (dats (F := F) m ρ 0 c) (defs₀ (F := F)) 𝒱₀ () Set.univ := fun t => by
  rw [fin_N0 t]
  rw [bigSep_W0, bigSep_W0]
  simp only [owns_whole_eq]
  have h := body_run m ρ c
  unfold Go at h
  exact h

/-! ## The launch -/

theorem share_eq (c : Dev nD) (w : Fin cfg0.W) : (dats m ρ 0 c).share w = fullShare := by unfold Dat.share; split <;> rfl

theorem begin_intro (c : Dev nD) :
    iprop(Pipeline.unscopedRestP Pipeline.Prefetch.none cfg0.spec c (fun b => m ((c : Thread nD τ).loc b)) ∗ levAts Lv lv
        ∗ Pipeline.launchCred O0 c ∗ prngReg c (ρ c) ∗ Mine (Xs m) (Ws m) c)
      ⊢ |={Set.univ}=> iprop(begun m c ∗ emp) := by
  iintro ⟨-, Hlev, Hcr, -, HG⟩
  ihave Hc := (creds (F := F) c) $$ Hcr
  imodintro
  unfold begun
  isplitl
  · isplitl [HG]; · iexact HG
    isplitl [Hc]; · iexact Hc
    iexact Hlev
  · iempintro

theorem enter (c : Dev nD) :
    iprop(begun m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl]
  unfold Φ₀
  iintro ⟨Hs, -, Hr⟩
  isplitl [Hs]; · iexact Hs
  iexact Hr

theorem leave (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, own_zero, rest_zero]
  unfold Φ₁ Zero
  iintro ⟨⟨HzB, HzS, HzR⟩, Hr⟩
  isplitl [HzB]; · iexact HzB
  isplitl [HzS HzR]
  · isplitl [HzS] <;> iassumption
  iexact Hr

theorem waits (c : Dev nD) : (levAts Lv lv : sProp 𝕄) ⊢ Pipeline.cellsWaits cfgs (dats m ρ) () 0 c :=
  Pipeline.cellsWaits_intro cfgs (dats m ρ) () 0 c fun w s t =>
    mayWait_stage c _ (stage_lt w s) _ (by
      rcases t with ⟨_ | _, ht⟩
      · exact Or.inl rfl
      · exact Or.inr rfl)

/-- A device's array of a window, after the run. -/
def finalA (c : Dev nD) (w : Fin cfg0.W) : Buf (Elt F) ((cfg0.win w).arr.view.loc (c : Thread nD τ)) := (dats m ρ 0 c).arrAt w cfg0.N

theorem run_main : θ_run defs (onTc (τ := τ) (main (F := F))) (start₀ m ρ) (fun r =>
    (∀ c : Dev nD, ∀ w : Fin cfg0.W, r.2.mem ((cfg0.win w).arr.view.loc (c : Thread nD τ)) = finalA m ρ c w) ∧ r.2.sem = fun _ => 0) :=
  Pipeline.θ_run_region_owing_glob_pf (fun p => (cfgs p).toPCfg) (fun p => (cfgs p).toPCfg_adm) (dats m ρ) () cellOf_inj (0 : Fin 1)
    winFacts0.to₀ own_facts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O0) (howed₀ := fun _ => rfl) (howedN := fun _ => rfl)
    (L := Lv) (lv := lv) (hL := L_of_ne) (hwaits := waits m ρ)
    (G := Dealt (Xs m) (Ws m)) (G' := Mine (Xs m) (Ws m)) (u₀ := u₀)
    (hu₀ := by
      unfold u₀
      iintro Hu
      ihave H := (ownU_pair _ _) $$ Hu
      icases H with ⟨HP, HX⟩
      imod (fund_all (Xs m) (Ws m)) $$ HX with HG
      imodintro
      isplitl [HP] <;> iassumption)
    (hglob := glob (Xs m) (Ws m))
    (hA := fun _ _ => rfl) (hpf := fun _ k => k.elim0)
    (X := begun m) (Y := fun c => unscopedSems0 c) (Z := fun _ => iprop(emp))
    (hX := begin_intro m ρ) (hin := enter m ρ) (hout := leave m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

theorem final_x (c : Dev nD) : finalA m ρ c (0 : Fin 3) = m ((c : Thread nD τ).loc main_arg0) := (dats (F := F) m ρ 0 c).arrAt_in (0 : Fin 3) rfl _
theorem final_w (c : Dev nD) : finalA m ρ c (1 : Fin 3) = m ((c : Thread nD τ).loc main_arg1) := (dats (F := F) m ρ 0 c).arrAt_in (1 : Fin 3) rfl _

/-! ## The blocks are the whole arrays -/

theorem Xs_eq (c : Dev nD) : Xs m c = m ((c : Thread nD τ).loc main_arg0) :=
  Memref.read_access_unit_zero (Elt F) main_arg0 (funext fun a => by fin_cases a <;> decide) (fun a => by fin_cases a <;> decide) _
theorem Ws_eq (c : Dev nD) : Ws m c = m ((c : Thread nD τ).loc main_arg1) :=
  Memref.read_access_unit_zero (Elt F) main_arg1 (funext fun a => by fin_cases a <;> decide) (fun a => by fin_cases a <;> decide) _

theorem final_o (c : Dev nD) : finalA m ρ c (2 : Fin 3) = Res m c := by
  have h : (win0_2.blk t0_0).view.read (Elt F) (finalA m ρ c (2 : Fin 3)) = Res m c := by
    unfold finalA
    rw [show cfg0.N = (t0_0 : Fin cfg0.N).val + 1 from rfl, (dats m ρ 0 c).arrAt_succ (2 : Fin 3) t0_0]
    rw [show (cfg0.win (2 : Fin 3)).flush t0_0 = true from by decide, if_pos rfl]
    exact View.read_write_univ _ _
  exact (Memref.read_access_unit_zero (Elt F) main_v1 (funext fun a => by fin_cases a <;> decide) (fun a => by fin_cases a <;> decide) _).symm.trans h

end Cert.Mesh

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.UnclippedIdeal
public import proofs.«01_k».proof.Proof.Gen.UnclippedIdeal.Run
public import proofs.«01_k».proof.Proof.Gen.On_within
public import proofs.«01_k».proof.Proof.Refs
public import proofs.«01_k».proof.Proof.Run
public import Idealize.ShloMosaic.Adequacy
public import Idealize.ShloMosaic.Init

@[expose] public section

noncomputable section

namespace Cert.Proof

open Idealize.ShloMosaic Idealize.SL.Sem

theorem frame_ideal : Cert.quiescent_KernelIdeal := fun m ρ _ =>
  (θ_run Cert.KernelIdeal.defs _ _).mono (fun _ h => ⟨fun c => ⟨(h.1 c (0 : Fin 3)).trans (Cert.Mesh.final_x m ρ c),
    (h.1 c (1 : Fin 3)).trans (Cert.Mesh.final_w m ρ c)⟩, h.2⟩) (Cert.Mesh.run_main (F := Ideal) m ρ)

/-- The program as printed has the ideal program's text: its kernels' table is the same. -/
theorem defs_eq : Cert.Kernel.defs (F := Bits) = Cert.KernelIdeal.defs (F := Bits) := by
  refine congrArg (Pipeline.defs _) (congrArg Defs.onTc (funext fun l => ?_))
  fin_cases l
  funext a
  obtain ⟨t, s⟩ := a
  rfl

/-- So it runs on bit patterns as the ideal program's text does. -/
theorem frame_kernel : Cert.quiescent_Kernel := fun m ρ _ =>
  (congrArg (fun d => θ_run d (onTc (τ := Cert.Kernel.τ) (Cert.Kernel.main (F := Bits))) ⟨m, fun _ => 0, ρ⟩ _) defs_eq).mpr
    ((θ_run Cert.KernelIdeal.defs (onTc (τ := Cert.KernelIdeal.τ) (Cert.KernelIdeal.main (F := Bits))) _).mono
      (fun _ h => ⟨fun c => ⟨(h.1 c (0 : Fin 3)).trans (Cert.Mesh.final_x m ρ c), (h.1 c (1 : Fin 3)).trans (Cert.Mesh.final_w m ρ c)⟩, h.2⟩)
      (Cert.Mesh.run_main (F := Bits) m ρ))

theorem frame_reference : Cert.quiescent_ReferenceIdeal := fun m ρ _ =>
  (θ_run Cert.ReferenceIdeal.defs _ _).mono (fun r h => ⟨fun c => (h c).2,
    Idealize.ShloMosaic.sem_eq_zero_of_no_sems (by decide) r.2⟩) (Cert.ReferenceIdeal.Value.run (F := Ideal) m ρ)

theorem frame_unclipped : Cert.quiescent_UnclippedIdeal := fun m ρ _ =>
  (θ_run Cert.UnclippedIdeal.defs _ _).mono (fun r h => ⟨fun c => (h c).2, Idealize.ShloMosaic.sem_eq_zero_of_no_sems (by decide) r.2⟩)
    (Cert.UnclippedIdeal.Value.run (F := Ideal) m ρ)

/-- Without a clip the kernel's result is the reference's everywhere. -/
theorem value_unclipped : Cert.algebraic_KernelIdeal_UnclippedIdeal := fun m g m' g' _ hb =>
  ⟨_, (θ_run Cert.KernelIdeal.defs _ _).mono (fun _ h c => ⟨((h.1 c (2 : Fin 3)).trans (Cert.Mesh.final_o m g c)).trans
        (Cert.Mesh.blocks_out (Cert.Mesh.Xs m) (Cert.Mesh.Ws m) _ _ (fun d => (Cert.Mesh.Xs_eq m d).trans (hb d).1) (fun d => (Cert.Mesh.Ws_eq m d).trans (hb d).2) c),
      (h.1 c (0 : Fin 3)).trans (Cert.Mesh.final_x m g c), (h.1 c (1 : Fin 3)).trans (Cert.Mesh.final_w m g c)⟩) (Cert.Mesh.run_main (F := Ideal) m g),
    (θ_run Cert.UnclippedIdeal.defs _ _).mono (fun _ h => ⟨(h 0).1.trans (Cert.Mesh.unclipped_at _ _), (h 0).2⟩)
      (Cert.UnclippedIdeal.Value.run (F := Ideal) m' g')⟩

/-- With it, it is the reference's at the elements the clip leaves as they are. -/
theorem value_within : Cert.algebraic_KernelIdeal_ReferenceIdeal_on_within := fun m g m' g' _ hb =>
  ⟨_, (θ_run Cert.KernelIdeal.defs _ _).mono (fun _ h c => ⟨fun i _ => congrFun (((h.1 c (2 : Fin 3)).trans (Cert.Mesh.final_o m g c)).trans
        (Cert.Mesh.blocks_out (Cert.Mesh.Xs m) (Cert.Mesh.Ws m) _ _ (fun d => (Cert.Mesh.Xs_eq m d).trans (hb d).1) (fun d => (Cert.Mesh.Ws_eq m d).trans (hb d).2) c)) i,
      (h.1 c (0 : Fin 3)).trans (Cert.Mesh.final_x m g c), (h.1 c (1 : Fin 3)).trans (Cert.Mesh.final_w m g c)⟩) (Cert.Mesh.run_main (F := Ideal) m g),
    (θ_run Cert.ReferenceIdeal.defs _ _).mono (fun _ h => ⟨fun i hi => (congrFun (h 0).1 i).trans (Cert.Mesh.reference_at _ _ i hi), (h 0).2⟩)
      (Cert.ReferenceIdeal.Value.run (F := Ideal) m' g')⟩

theorem claim : Cert.Claim :=
  ⟨Cert.Kernel.Gen.facts, Cert.KernelIdeal.Gen.facts, Cert.ReferenceIdeal.Gen.facts, Cert.UnclippedIdeal.Gen.facts, Cert.On_within.Gen.facts,
    frame_kernel, frame_ideal, frame_reference, frame_unclipped, trivial, value_unclipped, value_within⟩

end Cert.Proof

end
